-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite6 [hPre_finite6 : Cert.Pre_finite6.Facts] (m : (ℓ : Loc Cert.MergeIdeal.nD Cert.MergeIdeal.τ Cert.MergeIdeal.sig) → Buf (Elt Ideal) ℓ) : Prop :=
  ∀ c : Dev Cert.MergeIdeal.nD,
    (Cert.Pre_finite6.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19))).1 = (fun _ => 1#1)
    ∧ (Cert.Pre_finite6.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19))).2.1 = (fun _ => 1#1)
    ∧ (Cert.Pre_finite6.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19))).2.2.1 = (fun _ => 1#1)
    ∧ (Cert.Pre_finite6.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19))).2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite6 [hPre_finite6 : Cert.Pre_finite6.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite6.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18)) (m ((c.tc : Thread Cert.MergeRefIdeal.nD Cert.MergeRefIdeal.τ).loc Cert.MergeRefIdeal.main_arg19))).1 = (fun _ => 1#1)
    ∧ (Cert.Pre_finite6.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18)) (m ((c.tc : Thread Cert.MergeRefIdeal.nD Cert.MergeRefIdeal.τ).loc Cert.MergeRefIdeal.main_arg19))).2.1 = (fun _ => 1#1)
    ∧ (Cert.Pre_finite6.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18)) (m ((c.tc : Thread Cert.MergeRefIdeal.nD Cert.MergeRefIdeal.τ).loc Cert.MergeRefIdeal.main_arg19))).2.2.1 = (fun _ => 1#1)
    ∧ (Cert.Pre_finite6.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18)) (m ((c.tc : Thread Cert.MergeRefIdeal.nD Cert.MergeRefIdeal.τ).loc Cert.MergeRefIdeal.main_arg19))).2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergeIdeal_pre_finite6 [hMergeIdeal : Cert.MergeIdeal.Facts] [hPre_finite6 : Cert.Pre_finite6.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite6 m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19))
      ∧ r.2.sem = fun _ => 0)

def quiescent_MergeRefIdeal_pre_finite6 [hMergeRefIdeal : Cert.MergeRefIdeal.Facts] [hPre_finite6 : Cert.Pre_finite6.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite6 m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v28)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v28) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v111) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)) (v2 : (c : Dev Cert.InProjIdeal.nD) → Buf (Elt Ideal) ((c.tc : Thread Cert.InProjIdeal.nD Cert.InProjIdeal.τ).loc Cert.InProjIdeal.main_v1_2)) (v3 : (c : Dev Cert.InProjIdeal.nD) → Buf (Elt Ideal) ((c.tc : Thread Cert.InProjIdeal.nD Cert.InProjIdeal.τ).loc Cert.InProjIdeal.main_v1_3)) (v4 : (c : Dev Cert.InProjIdeal.nD) → Buf (Elt Ideal) ((c.tc : Thread Cert.InProjIdeal.nD Cert.InProjIdeal.τ).loc Cert.InProjIdeal.main_v1_4)) (v5 : (c : Dev Cert.InProjIdeal.nD) → Buf (Elt Ideal) ((c.tc : Thread Cert.InProjIdeal.nD Cert.InProjIdeal.τ).loc Cert.InProjIdeal.main_v1_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_v1_2) = v2 c
          ∧ r.2.mem ((c.tc : Thread Cert.InProjIdeal.nD Cert.InProjIdeal.τ).loc Cert.InProjIdeal.main_v1_3) = v3 c
          ∧ r.2.mem ((c.tc : Thread Cert.InProjIdeal.nD Cert.InProjIdeal.τ).loc Cert.InProjIdeal.main_v1_4) = v4 c
          ∧ r.2.mem ((c.tc : Thread Cert.InProjIdeal.nD Cert.InProjIdeal.τ).loc Cert.InProjIdeal.main_v1_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_v21) = v2 c
          ∧ r.2.mem ((c.tc : Thread Cert.InProjRefIdeal.nD Cert.InProjRefIdeal.τ).loc Cert.InProjRefIdeal.main_v16) = v3 c
          ∧ r.2.mem ((c.tc : Thread Cert.InProjRefIdeal.nD Cert.InProjRefIdeal.τ).loc Cert.InProjRefIdeal.main_v22) = v4 c
          ∧ r.2.mem ((c.tc : Thread Cert.InProjRefIdeal.nD Cert.InProjRefIdeal.τ).loc Cert.InProjRefIdeal.main_v29) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v1_0)) (v1 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1_0) = v0 c
          ∧ r.2.mem ((c.tc : Thread Cert.MemKvIdeal.nD Cert.MemKvIdeal.τ).loc Cert.MemKvIdeal.main_v1_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v17) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  IdealRules.named_const.Statement Cert.MergeIdeal.κ "mask" .f32 0xF149F2CA#32 ⊥

def algebraic_MergeIdeal_MergeRefIdeal_pre_finite6 [hMergeIdeal : Cert.MergeIdeal.Facts] [hMergeRefIdeal : Cert.MergeRefIdeal.Facts] [hPre_finite6 : Cert.Pre_finite6.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite6 m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)
      ∧ m' ((c.tc : Thread Cert.MergeRefIdeal.nD Cert.MergeRefIdeal.τ).loc Cert.MergeRefIdeal.main_arg19) = m ((c.tc : Thread Cert.MergeIdeal.nD Cert.MergeIdeal.τ).loc Cert.MergeIdeal.main_arg19)) →
    ∃ (v0 : (c : Dev Cert.MergeIdeal.nD) → Buf (Elt Ideal) ((c.tc : Thread Cert.MergeIdeal.nD Cert.MergeIdeal.τ).loc Cert.MergeIdeal.main_v25_0)) (v1 : (c : Dev Cert.MergeIdeal.nD) → Buf (Elt Ideal) ((c.tc : Thread Cert.MergeIdeal.nD Cert.MergeIdeal.τ).loc Cert.MergeIdeal.main_v25_1)) (v2 : (c : Dev Cert.MergeIdeal.nD) → Buf (Elt Ideal) ((c.tc : Thread Cert.MergeIdeal.nD Cert.MergeIdeal.τ).loc Cert.MergeIdeal.main_v25_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v25_0) = v0 c
          ∧ r.2.mem ((c.tc : Thread Cert.MergeIdeal.nD Cert.MergeIdeal.τ).loc Cert.MergeIdeal.main_v25_1) = v1 c
          ∧ r.2.mem ((c.tc : Thread Cert.MergeIdeal.nD Cert.MergeIdeal.τ).loc Cert.MergeIdeal.main_v25_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v73) = v0 c
          ∧ r.2.mem ((c.tc : Thread Cert.MergeRefIdeal.nD Cert.MergeRefIdeal.τ).loc Cert.MergeRefIdeal.main_v99) = v1 c
          ∧ r.2.mem ((c.tc : Thread Cert.MergeRefIdeal.nD Cert.MergeRefIdeal.τ).loc Cert.MergeRefIdeal.main_v100) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18)
          ∧ r.2.mem ((c.tc : Thread Cert.MergeRefIdeal.nD Cert.MergeRefIdeal.τ).loc Cert.MergeRefIdeal.main_arg19) = m' ((c.tc : Thread Cert.MergeRefIdeal.nD Cert.MergeRefIdeal.τ).loc Cert.MergeRefIdeal.main_arg19))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hFinal : Cert.Final.Facts) (hFinalIdeal : Cert.FinalIdeal.Facts) (hFinalRefIdeal : Cert.FinalRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hPre_finite : Cert.Pre_finite.Facts) (hPre_finite6 : Cert.Pre_finite6.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Final (hFinal := hFinal)
    ∧ quiescent_FinalIdeal (hFinalIdeal := hFinalIdeal)
    ∧ quiescent_FinalRefIdeal (hFinalRefIdeal := hFinalRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeIdeal_pre_finite6 (hMergeIdeal := hMergeIdeal) (hPre_finite6 := hPre_finite6)
    ∧ quiescent_MergeRefIdeal (hMergeRefIdeal := hMergeRefIdeal)
    ∧ quiescent_MergeRefIdeal_pre_finite6 (hMergeRefIdeal := hMergeRefIdeal) (hPre_finite6 := hPre_finite6)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Final_FinalIdeal
    ∧ algebraic_FinalIdeal_FinalRefIdeal (hFinalIdeal := hFinalIdeal) (hFinalRefIdeal := hFinalRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal_pre_finite6 (hMergeIdeal := hMergeIdeal) (hMergeRefIdeal := hMergeRefIdeal) (hPre_finite6 := hPre_finite6)
-- ==== Pre_finite.lean ====
abbrev S4x8192x384 : Shape := ⟨3, ![4, 8192, 384]⟩
abbrev S6x15x31 : Shape := ⟨3, ![6, 15, 31]⟩
abbrev S_ : Shape := ⟨0, ![]⟩

class Facts : Prop where
  bcast_S_S4x8192x384 : S_.BroadcastsInDim S4x8192x384 (![] : Fin 0 → Fin S4x8192x384.rank)
  bcast_S_S6x15x31 : S_.BroadcastsInDim S6x15x31 (![] : Fin 0 → Fin S6x15x31.rank)

variable [Facts]

def fn {F : FTy → Type} [FloatOps F] (main_arg0 : FVec F S4x8192x384 .bf16) (main_arg1 : FVec F S4x8192x384 .bf16) (main_arg2 : FVec F S4x8192x384 .bf16) (main_arg3 : FVec F S6x15x31 .f32) : IVec S4x8192x384 1 × IVec S4x8192x384 1 × IVec S6x15x31 1 :=
  let main_v0 : FVec F S4x8192x384 .bf16 := Host.absf main_arg0
  let main_cst : FVec F S_ .bf16 := constant S_ .bf16 0x7F80#16
  let main_v1 : FVec F S4x8192x384 .bf16 := broadcastInDim S4x8192x384 ![] bcast_S_S4x8192x384 main_cst
  let main_v2 : IVec S4x8192x384 1 := cmpf .olt main_v0 main_v1
  let main_v3 : FVec F S4x8192x384 .bf16 := Host.absf main_arg1
  let main_cst_0 : FVec F S_ .bf16 := constant S_ .bf16 0x7F80#16
  let main_v4 : FVec F S4x8192x384 .bf16 := broadcastInDim S4x8192x384 ![] bcast_S_S4x8192x384 main_cst_0
  let main_v5 : IVec S4x8192x384 1 := cmpf .olt main_v3 main_v4
  let main_v6 : FVec F S6x15x31 .f32 := Host.absf main_arg3
  let main_cst_1 : FVec F S_ .f32 := constant S_ .f32 0x7F800000#32
  let main_v7 : FVec F S6x15x31 .f32 := broadcastInDim S6x15x31 ![] bcast_S_S6x15x31 main_cst_1
  let main_v8 : IVec S6x15x31 1 := cmpf .olt main_v6 main_v7
  (main_v2, main_v5, main_v8)
-- ==== Pre_finite6.lean ====
abbrev S4x8192x1024 : Shape := ⟨3, ![4, 8192, 1024]⟩
abbrev S4x8192x384 : Shape := ⟨3, ![4, 8192, 384]⟩
abbrev S4x8192x1408 : Shape := ⟨3, ![4, 8192, 1408]⟩
abbrev S4x8192x256 : Shape := ⟨3, ![4, 8192, 256]⟩
abbrev S4x256x256 : Shape := ⟨3, ![4, 256, 256]⟩
abbrev S4x8192x3072 : Shape := ⟨3, ![4, 8192, 3072]⟩
abbrev S384 : Shape := ⟨1, ![384]⟩
abbrev S128x384 : Shape := ⟨2, ![128, 384]⟩
abbrev S384x1024 : Shape := ⟨2, ![384, 1024]⟩
abbrev S256x1024 : Shape := ⟨2, ![256, 1024]⟩
abbrev S1024x1024 : Shape := ⟨2, ![1024, 1024]⟩
abbrev S1x1024 : Shape := ⟨2, ![1, 1024]⟩
abbrev S1024x16 : Shape := ⟨2, ![1024, 16]⟩
abbrev S_ : Shape := ⟨0, ![]⟩

class Facts : Prop where
  bcast_S_S4x8192x256 : S_.BroadcastsInDim S4x8192x256 (![] : Fin 0 → Fin S4x8192x256.rank)
  bcast_S_S4x256x256 : S_.BroadcastsInDim S4x256x256 (![] : Fin 0 → Fin S4x256x256.rank)
  bcast_S_S1x1024 : S_.BroadcastsInDim S1x1024 (![] : Fin 0 → Fin S1x1024.rank)
  bcast_S_S1024x16 : S_.BroadcastsInDim S1024x16 (![] : Fin 0 → Fin S1024x16.rank)

variable [Facts]

def fn {F : FTy → Type} [FloatOps F] (main_arg0 : FVec F S4x8192x1024 .f32) (main_arg1 : FVec F S4x8192x384 .bf16) (main_arg2 : FVec F S4x8192x384 .f32) (main_arg3 : FVec F S4x8192x384 .f32) (main_arg4 : FVec F S4x8192x384 .f32) (main_arg5 : FVec F S4x8192x384 .f32) (main_arg6 : FVec F S4x8192x1408 .f32) (main_arg7 : FVec F S4x8192x256 .bf16) (main_arg8 : FVec F S4x256x256 .bf16) (main_arg9 : FVec F S4x256x256 .bf16) (main_arg10 : FVec F S4x8192x3072 .bf16) (main_arg11 : FVec F S384 .f32) (main_arg12 : FVec F S384 .f32) (main_arg13 : FVec F S128x384 .f32) (main_arg14 : FVec F S384x1024 .f32) (main_arg15 : FVec F S384x1024 .f32) (main_arg16 : FVec F S256x1024 .f32) (main_arg17 : FVec F S1024x1024 .f32) (main_arg18 : FVec F S1x1024 .f32) (main_arg19 : FVec F S1024x16 .f32) : IVec S4x8192x256 1 × IVec S4x256x256 1 × IVec S1x1024 1 × IVec S1024x16 1 :=
  let main_v0 : FVec F S4x8192x256 .bf16 := Host.absf main_arg7
  let main_cst : FVec F S_ .bf16 := constant S_ .bf16 0x7F80#16
  let main_v1 : FVec F S4x8192x256 .bf16 := broadcastInDim S4x8192x256 ![] bcast_S_S4x8192x256 main_cst
  let main_v2 : IVec S4x8192x256 1 := cmpf .olt main_v0 main_v1
  let main_v3 : FVec F S4x256x256 .bf16 := Host.absf main_arg8
  let main_cst_0 : FVec F S_ .bf16 := constant S_ .bf16 0x7F80#16
  let main_v4 : FVec F S4x256x256 .bf16 := broadcastInDim S4x256x256 ![] bcast_S_S4x256x256 main_cst_0
  let main_v5 : IVec S4x256x256 1 := cmpf .olt main_v3 main_v4
  let main_v6 : FVec F S1x1024 .f32 := Host.absf main_arg18
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x16 .f32 := Host.absf main_arg19
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  (main_v2, main_v5, main_v8, main_v11)
-- ==== Attn.lean ====
abbrev S4x8192x384 : Shape := ⟨3, ![4, 8192, 384]⟩
abbrev S6x15x31 : Shape := ⟨3, ![6, 15, 31]⟩
abbrev S_ : Shape := ⟨0, ![]⟩
abbrev S96x128 : Shape := ⟨2, ![96, 128]⟩
abbrev S90x31 : Shape := ⟨2, ![90, 31]⟩
abbrev S1 : Shape := ⟨1, ![1]⟩
abbrev S2 : Shape := ⟨1, ![2]⟩
abbrev S96x4096 : Shape := ⟨2, ![96, 4096]⟩
abbrev S128x4096 : Shape := ⟨2, ![128, 4096]⟩
abbrev S1x4096 : Shape := ⟨2, ![1, 4096]⟩
abbrev S90x4096 : Shape := ⟨2, ![90, 4096]⟩
abbrev S6x15x64x64 : Shape := ⟨4, ![6, 15, 64, 64]⟩
abbrev S6x8x64x64 : Shape := ⟨4, ![6, 8, 64, 64]⟩
abbrev S6x1x8x64x64 : Shape := ⟨5, ![6, 1, 8, 64, 64]⟩
abbrev S6x8x8x64x64 : Shape := ⟨5, ![6, 8, 8, 64, 64]⟩
abbrev S6x8x64x8x64 : Shape := ⟨5, ![6, 8, 64, 8, 64]⟩
abbrev S6x8x64x512 : Shape := ⟨4, ![6, 8, 64, 512]⟩
abbrev S1x1024x384 : Shape := ⟨3, ![1, 1024, 384]⟩
abbrev S1x8192x384 : Shape := ⟨3, ![1, 8192, 384]⟩
abbrev S64x128 : Shape := ⟨2, ![64, 128]⟩
abbrev S1x64x384 : Shape := ⟨3, ![1, 64, 384]⟩
abbrev S64x384 : Shape := ⟨2, ![64, 384]⟩
abbrev S1x512x384 : Shape := ⟨3, ![1, 512, 384]⟩
abbrev S512x384 : Shape := ⟨2, ![512, 384]⟩
abbrev S128x128 : Shape := ⟨2, ![128, 128]⟩
abbrev S512x128 : Shape := ⟨2, ![512, 128]⟩
abbrev S128x512 : Shape := ⟨2, ![128, 512]⟩
abbrev S1x1x64x512 : Shape := ⟨4, ![1, 1, 64, 512]⟩
abbrev S64x512 : Shape := ⟨2, ![64, 512]⟩
abbrev S128 : Shape := ⟨1, ![128]⟩
abbrev S128x1 : Shape := ⟨2, ![128, 1]⟩

abbrev nBuf : Space → Nat
  | .hbm => 36
  | .vmem => 11
  | .smem => 0
  | _ => 0

abbrev bufTy : (tb : Table) → Fin (tcTables nBuf tb) → BufTy
  | .hbm, ⟨0, _⟩ => ⟨S4x8192x384, .bf16⟩
  | .hbm, ⟨1, _⟩ => ⟨S4x8192x384, .bf16⟩
  | .hbm, ⟨2, _⟩ => ⟨S4x8192x384, .bf16⟩
  | .hbm, ⟨3, _⟩ => ⟨S6x15x31, .f32⟩
  | .hbm, ⟨4, _⟩ => ⟨S_, .f32⟩
  | .hbm, ⟨5, _⟩ => ⟨S96x128, .f32⟩
  | .hbm, ⟨6, _⟩ => ⟨S90x31, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S96x128, .f32⟩
  | .hbm, ⟨13, _⟩ => ⟨S96x4096, .f32⟩
  | .hbm, ⟨14, _⟩ => ⟨S90x4096, .f32⟩
  | .hbm, ⟨15, _⟩ => ⟨S6x15x64x64, .f32⟩
  | .hbm, ⟨16, _⟩ => ⟨S6x8x64x64, .f32⟩
  | .hbm, ⟨17, _⟩ => ⟨S6x8x64x64, .f32⟩
  | .hbm, ⟨18, _⟩ => ⟨S6x8x64x64, .f32⟩
  | .hbm, ⟨19, _⟩ => ⟨S6x8x64x64, .f32⟩
  | .hbm, ⟨20, _⟩ => ⟨S6x8x64x64, .f32⟩
  | .hbm, ⟨21, _⟩ => ⟨S6x8x64x64, .f32⟩
  | .hbm, ⟨22, _⟩ => ⟨S6x8x64x64, .f32⟩
  | .hbm, ⟨23, _⟩ => ⟨S6x8x64x64, .f32⟩
  | .hbm, ⟨24, _⟩ => ⟨S6x1x8x64x64, .f32⟩
  | .hbm, ⟨25, _⟩ => ⟨S6x1x8x64x64, .f32⟩
  | .hbm, ⟨26, _⟩ => ⟨S6x1x8x64x64, .f32⟩
  | .hbm, ⟨27, _⟩ => ⟨S6x1x8x64x64, .f32⟩
  | .hbm, ⟨28, _⟩ => ⟨S6x1x8x64x64, .f32⟩
  | .hbm, ⟨29, _⟩ => ⟨S6x1x8x64x64, .f32⟩
  | .hbm, ⟨30, _⟩ => ⟨S6x1x8x64x64, .f32⟩
  | .hbm, ⟨31, _⟩ => ⟨S6x1x8x64x64, .f32⟩
  | .hbm, ⟨32, _⟩ => ⟨S6x8x8x64x64, .f32⟩
  | .hbm, ⟨33, _⟩ => ⟨S6x8x64x8x64, .f32⟩
  | .hbm, ⟨34, _⟩ => ⟨S6x8x64x512, .f32⟩
  | .hbm, ⟨35, _⟩ => ⟨S4x8192x384, .bf16⟩
  | .local _ .vmem, ⟨0, _⟩ => ⟨S96x128, .f32⟩
  | .local _ .vmem, ⟨1, _⟩ => ⟨S96x4096, .f32⟩
  | .local _ .vmem, ⟨2, _⟩ => ⟨S1x1024x384, .bf16⟩
  | .local _ .vmem, ⟨3, _⟩ => ⟨S1x1024x384, .bf16⟩
  | .local _ .vmem, ⟨4, _⟩ => ⟨S1x8192x384, .bf16⟩
  | .local _ .vmem, ⟨5, _⟩ => ⟨S1x8192x384, .bf16⟩
  | .local _ .vmem, ⟨6, _⟩ => ⟨S1x8192x384, .bf16⟩
  | .local _ .vmem, ⟨7, _⟩ => ⟨S1x8192x384, .bf16⟩
  | .local _ .vmem, ⟨8, _⟩ => ⟨S6x8x64x512, .f32⟩
  | .local _ .vmem, ⟨9, _⟩ => ⟨S1x1024x384, .bf16⟩
  | .local _ .vmem, ⟨10, _⟩ => ⟨S1x1024x384, .bf16⟩
  | _, _ => ⟨S4x8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := .none

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![4, 8], ![false, false]⟩

@[reducible] def k1_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c64_i32_3 : BitVec 32 := 64#32
  let v10 : BitVec 32 := Scalar.muli arg7 c64_i32_3
  v10
def k1_off1 (k1_t1 : Fin k1_t1_loop.trips) : Fin 3 → Nat :=
  let c0 : Index := 0#32
  let c0_i32 : BitVec 32 := 0#32
  let c1_i32 : BitVec 32 := 1#32
  let arg7 : BitVec 32 := Scf.iv c0_i32 c1_i32 k1_t1
  let c64_i32_3 : BitVec 32 := 64#32
  let v10 : BitVec 32 := Scalar.muli arg7 c64_i32_3
  let v11 : BitVec 32 := v10
  let v12 : Index := Scalar.indexCast v11
  let c0_4 : Index := 0#32
  ![0, v12.toNat, 0]
def k1_mult2 (i : grid1.Coords) (k1_t1 : Fin k1_t1_loop.trips) : BitVec 32 :=
  let c120_i32 : BitVec 32 := 120#32
  let c0_i32_2 : BitVec 32 := 0#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c4_i32 : BitVec 32 := 4#32
  let v6 : BitVec 32 := Scalar.subi v5 c4_i32
  let v7 : BitVec 32 := Scalar.maxsi c0_i32_2 v6
  let v8 : BitVec 32 := Scalar.minsi c120_i32 v7
  let c64_i32_5 : BitVec 32 := 64#32
  let v17 : BitVec 32 := Scalar.muli v8 c64_i32_5
  v17
def k1_off2 (i : grid1.Coords) (k1_t1 : Fin k1_t1_loop.trips) : Fin 3 → Nat :=
  let c0_6 : Index := 0#32
  let c120_i32 : BitVec 32 := 120#32
  let c0_i32_2 : BitVec 32 := 0#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c4_i32 : BitVec 32 := 4#32
  let v6 : BitVec 32 := Scalar.subi v5 c4_i32
  let v7 : BitVec 32 := Scalar.maxsi c0_i32_2 v6
  let v8 : BitVec 32 := Scalar.minsi c120_i32 v7
  let c64_i32_5 : BitVec 32 := 64#32
  let v17 : BitVec 32 := Scalar.muli v8 c64_i32_5
  let v18 : BitVec 32 := v17
  let v19 : Index := Scalar.indexCast v18
  let c0_7 : Index := 0#32
  ![0, v19.toNat, 0]
def k1_off3 (i : grid1.Coords) (k1_t1 : Fin k1_t1_loop.trips) : Fin 4 → Nat :=
  let c0_14 : Index := 0#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v42 : Index := Scalar.indexCast v9
  let c0_15 : Index := 0#32
  let c0_16 : Index := 0#32
  ![0, v42.toNat, 0, 0]
def k1_off4 (i : grid1.Coords) (k1_t1 : Fin k1_t1_loop.trips) : Fin 4 → Nat :=
  let c1 : Index := 1#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v45 : Index := Scalar.indexCast v9
  let c0_17 : Index := 0#32
  let c0_18 : Index := 0#32
  ![1, v45.toNat, 0, 0]
def k1_off5 (i : grid1.Coords) (k1_t1 : Fin k1_t1_loop.trips) : Fin 4 → Nat :=
  let c2 : Index := 2#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v52 : Index := Scalar.indexCast v9
  let c0_20 : Index := 0#32
  let c0_21 : Index := 0#32
  ![2, v52.toNat, 0, 0]
def k1_off6 (i : grid1.Coords) (k1_t1 : Fin k1_t1_loop.trips) : Fin 4 → Nat :=
  let c3 : Index := 3#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v55 : Index := Scalar.indexCast v9
  let c0_22 : Index := 0#32
  let c0_23 : Index := 0#32
  ![3, v55.toNat, 0, 0]
def k1_off7 (i : grid1.Coords) (k1_t1 : Fin k1_t1_loop.trips) : Fin 4 → Nat :=
  let c4 : Index := 4#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v62 : Index := Scalar.indexCast v9
  let c0_25 : Index := 0#32
  let c0_26 : Index := 0#32
  ![4, v62.toNat, 0, 0]
def k1_off8 (i : grid1.Coords) (k1_t1 : Fin k1_t1_loop.trips) : Fin 4 → Nat :=
  let c5 : Index := 5#32
  let arg1 : BitVec 32 := BitVec.ofNat 32 (i 1).val
  let c16_i32_1 : BitVec 32 := 16#32
  let v4 : BitVec 32 := Scalar.muli arg1 c16_i32_1
  let c0_i32 : BitVec 32 := 0#32
  let c1_i32 : BitVec 32 := 1#32
  let arg7 : BitVec 32 := Scf.iv c0_i32 c1_i32 k1_t1
  let v5 : BitVec 32 := Scalar.addi v4 arg7
  let c120_i32 : BitVec 32 := 120#32
  let c0_i32_2 : BitVec 32 := 0#32
  let c4_i32 : BitVec 32 := 4#32
  let v6 : BitVec 32 := Scalar.subi v5 c4_i32
  let v7 : BitVec 32 := Scalar.maxsi c0_i32_2 v6
  let v8 : BitVec 32 := Scalar.minsi c120_i32 v7
  let v9 : BitVec 32 := Scalar.subi v5 v8
  let v65 : Index := Scalar.indexCast v9
  let c0_27 : Index := 0#32
  let c0_28 : Index := 0#32
  ![5, v65.toNat, 0, 0]
def k1_mult3 (k1_t1 : Fin k1_t1_loop.trips) : BitVec 32 :=
  let c0_i32 : BitVec 32 := 0#32
  let c1_i32 : BitVec 32 := 1#32
  let arg7 : BitVec 32 := Scf.iv c0_i32 c1_i32 k1_t1
  let c64_i32_38 : BitVec 32 := 64#32
  let v117 : BitVec 32 := Scalar.muli arg7 c64_i32_38
  v117
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S6x8x64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== AttnIdeal.lean ====
variable {F : FTy → Type} [FloatOps F] [Named F]
def κ : String → Option EReal := fun
  | "mask" => some ⊥
  | _ => none
-- ==== AttnRefIdeal.lean ====
abbrev S4x8192x384 : Shape := ⟨3, ![4, 8192, 384]⟩
abbrev S6x15x31 : Shape := ⟨3, ![6, 15, 31]⟩
abbrev S_ : Shape := ⟨0, ![]⟩
abbrev S4x128x64x6x64 : Shape := ⟨5, ![4, 128, 64, 6, 64]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1x1 : Shape := ⟨4, ![128, 8, 1, 1]⟩
abbrev S1x1x64x16 : Shape := ⟨4, ![1, 1, 64, 16]⟩
abbrev S128x8x64x16 : Shape := ⟨4, ![128, 8, 64, 16]⟩
abbrev S128x8x64x16x1 : Shape := ⟨5, ![128, 8, 64, 16, 1]⟩
abbrev S128x8x64x16x2 : Shape := ⟨5, ![128, 8, 64, 16, 2]⟩
abbrev S4x128x8x64x16x6x64 : Shape := ⟨7, ![4, 128, 8, 64, 16, 6, 64]⟩
abbrev S128x1x8x1 : Shape := ⟨4, ![128, 1, 8, 1]⟩
abbrev S1x64x1x16 : Shape := ⟨4, ![1, 64, 1, 16]⟩
abbrev S128x64x8x16 : Shape := ⟨4, ![128, 64, 8, 16]⟩
abbrev S128x64x8x16x1 : Shape := ⟨5, ![128, 64, 8, 16, 1]⟩
abbrev S128x64x8x16x2 : Shape := ⟨5, ![128, 64, 8, 16, 2]⟩
abbrev S6x128x64x8x16 : Shape := ⟨5, ![6, 128, 64, 8, 16]⟩
abbrev S4x6x128x64x8x16 : Shape := ⟨6, ![4, 6, 128, 64, 8, 16]⟩
abbrev S1x6x128x64x8x16 : Shape := ⟨6, ![1, 6, 128, 64, 8, 16]⟩
abbrev S4x6x128x64x128 : Shape := ⟨5, ![4, 6, 128, 64, 128]⟩
abbrev S4x6x128x64 : Shape := ⟨4, ![4, 6, 128, 64]⟩
abbrev S4x6x128x64x1 : Shape := ⟨5, ![4, 6, 128, 64, 1]⟩

abbrev nBuf : Space → Nat
  | .hbm => 150
  | .vmem => 0
  | .smem => 0
  | _ => 0

abbrev hbmTy0_0 (i : Nat) : BufTy := match i % 128 with
  | 0 => ⟨S4x8192x384, .bf16⟩
  | 1 => ⟨S4x8192x384, .bf16⟩
  | 2 => ⟨S4x8192x384, .bf16⟩
  | 3 => ⟨S6x15x31, .f32⟩
  | 4 => ⟨S4x8192x384, .f32⟩
  | 5 => ⟨S_, .f32⟩
  | 6 => ⟨S4x8192x384, .f32⟩
  | 7 => ⟨S4x8192x384, .f32⟩
  | 8 => ⟨S4x128x64x6x64, .f32⟩
  | 9 => ⟨S4x8192x384, .f32⟩
  | 10 => ⟨S4x128x64x6x64, .f32⟩
  | 11 => ⟨S4x8192x384, .f32⟩
  | 12 => ⟨S4x128x64x6x64, .f32⟩
  | 13 => ⟨S64, .i32⟩
  | 14 => ⟨S_, .i32⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64x1, .i32⟩
  | 26 => ⟨S16, .i32⟩
  | 27 => ⟨S1x16, .i32⟩
  | 28 => ⟨S64x16, .i32⟩
  | 29 => ⟨S64x16, .i32⟩
  | 30 => ⟨S64x16, .i32⟩
  | 31 => ⟨S64x1, .i32⟩
  | 32 => ⟨S64x16, .i32⟩
  | 33 => ⟨S64x16, .i32⟩
  | 34 => ⟨S_, .i32⟩
  | 35 => ⟨S64x16, .i32⟩
  | 36 => ⟨S64x16, .i32⟩
  | 37 => ⟨S128, .i32⟩
  | 38 => ⟨S_, .i32⟩
  | 39 => ⟨S128, .i32⟩
  | 40 => ⟨S128, .i32⟩
  | 41 => ⟨S_, .i32⟩
  | 42 => ⟨S_, .i32⟩
  | 43 => ⟨S_, .i32⟩
  | 44 => ⟨S128, .i32⟩
  | 45 => ⟨S128, .i32⟩
  | 46 => ⟨S_, .i32⟩
  | 47 => ⟨S128, .i32⟩
  | 48 => ⟨S128, .i32⟩
  | 49 => ⟨S128x1, .i32⟩
  | 50 => ⟨S8, .i32⟩
  | 51 => ⟨S1x8, .i32⟩
  | 52 => ⟨S128x8, .i32⟩
  | 53 => ⟨S128x8, .i32⟩
  | 54 => ⟨S128x8, .i32⟩
  | 55 => ⟨S128x1, .i32⟩
  | 56 => ⟨S128x8, .i32⟩
  | 57 => ⟨S128x8, .i32⟩
  | 58 => ⟨S_, .i32⟩
  | 59 => ⟨S128x8, .i32⟩
  | 60 => ⟨S128x8, .i32⟩
  | 61 => ⟨S128x8x1x1, .i32⟩
  | 62 => ⟨S1x1x64x16, .i32⟩
  | 63 => ⟨S_, .i32⟩
  | 64 => ⟨S128x8x1x1, .i32⟩
  | 65 => ⟨S128x8x1x1, .i1⟩
  | 66 => ⟨S_, .i32⟩
  | 67 => ⟨S128x8x1x1, .i32⟩
  | 68 => ⟨S128x8x1x1, .i32⟩
  | 69 => ⟨S128x8x1x1, .i32⟩
  | 70 => ⟨S_, .i32⟩
  | 71 => ⟨S1x1x64x16, .i32⟩
  | 72 => ⟨S1x1x64x16, .i1⟩
  | 73 => ⟨S_, .i32⟩
  | 74 => ⟨S1x1x64x16, .i32⟩
  | 75 => ⟨S1x1x64x16, .i32⟩
  | 76 => ⟨S1x1x64x16, .i32⟩
  | 77 => ⟨S128x8x64x16, .i32⟩
  | 78 => ⟨S128x8x64x16, .i32⟩
  | 79 => ⟨S128x8x64x16x1, .i32⟩
  | 80 => ⟨S128x8x64x16x1, .i32⟩
  | 81 => ⟨S128x8x64x16x2, .i32⟩
  | 82 => ⟨S4x128x8x64x16x6x64, .f32⟩
  | 83 => ⟨S128x8x1x1, .i32⟩
  | 84 => ⟨S1x1x64x16, .i32⟩
  | 85 => ⟨S_, .i32⟩
  | 86 => ⟨S128x8x1x1, .i32⟩
  | 87 => ⟨S128x8x1x1, .i1⟩
  | 88 => ⟨S_, .i32⟩
  | 89 => ⟨S128x8x1x1, .i32⟩
  | 90 => ⟨S128x8x1x1, .i32⟩
  | 91 => ⟨S128x8x1x1, .i32⟩
  | 92 => ⟨S_, .i32⟩
  | 93 => ⟨S1x1x64x16, .i32⟩
  | 94 => ⟨S1x1x64x16, .i1⟩
  | 95 => ⟨S_, .i32⟩
  | 96 => ⟨S1x1x64x16, .i32⟩
  | 97 => ⟨S1x1x64x16, .i32⟩
  | 98 => ⟨S1x1x64x16, .i32⟩
  | 99 => ⟨S128x8x64x16, .i32⟩
  | 100 => ⟨S128x8x64x16, .i32⟩
  | 101 => ⟨S128x8x64x16x1, .i32⟩
  | 102 => ⟨S128x8x64x16x1, .i32⟩
  | 103 => ⟨S128x8x64x16x2, .i32⟩
  | 104 => ⟨S4x128x8x64x16x6x64, .f32⟩
  | 105 => ⟨S128x1x8x1, .i32⟩
  | 106 => ⟨S1x64x1x16, .i32⟩
  | 107 => ⟨S_, .i32⟩
  | 108 => ⟨S128x1x8x1, .i32⟩
  | 109 => ⟨S128x1x8x1, .i1⟩
  | 110 => ⟨S_, .i32⟩
  | 111 => ⟨S128x1x8x1, .i32⟩
  | 112 => ⟨S128x1x8x1, .i32⟩
  | 113 => ⟨S128x1x8x1, .i32⟩
  | 114 => ⟨S_, .i32⟩
  | 115 => ⟨S1x64x1x16, .i32⟩
  | 116 => ⟨S1x64x1x16, .i1⟩
  | 117 => ⟨S_, .i32⟩
  | 118 => ⟨S1x64x1x16, .i32⟩
  | 119 => ⟨S1x64x1x16, .i32⟩
  | 120 => ⟨S1x64x1x16, .i32⟩
  | 121 => ⟨S128x64x8x16, .i32⟩
  | 122 => ⟨S128x64x8x16, .i32⟩
  | 123 => ⟨S128x64x8x16x1, .i32⟩
  | 124 => ⟨S128x64x8x16x1, .i32⟩
  | 125 => ⟨S128x64x8x16x2, .i32⟩
  | 126 => ⟨S6x128x64x8x16, .f32⟩
  | 127 => ⟨S4x6x128x64x8x16, .f32⟩
  | _ => ⟨S4x8192x384, .bf16⟩

abbrev hbmTy0_1 (i : Nat) : BufTy := match i % 128 with
  | 0 => ⟨S1x6x128x64x8x16, .f32⟩
  | 1 => ⟨S4x6x128x64x8x16, .f32⟩
  | 2 => ⟨S4x6x128x64x8x16, .f32⟩
  | 3 => ⟨S4x6x128x64x128, .f32⟩
  | 4 => ⟨S_, .f32⟩
  | 5 => ⟨S4x6x128x64, .f32⟩
  | 6 => ⟨S_, .f32⟩
  | 7 => ⟨S4x6x128x64, .f32⟩
  | 8 => ⟨S4x6x128x64, .f32⟩
  | 9 => ⟨S4x6x128x64x1, .f32⟩
  | 10 => ⟨S4x6x128x64x128, .f32⟩
  | 11 => ⟨S4x6x128x64x128, .f32⟩
  | 12 => ⟨S4x6x128x64x128, .f32⟩
  | 13 => ⟨S_, .f32⟩
  | 14 => ⟨S4x6x128x64, .f32⟩
  | 15 => ⟨S4x6x128x64x1, .f32⟩
  | 16 => ⟨S4x6x128x64x128, .f32⟩
  | 17 => ⟨S4x6x128x64x128, .f32⟩
  | 18 => ⟨S4x6x128x64x8x16, .f32⟩
  | 19 => ⟨S4x128x64x6x64, .f32⟩
  | 20 => ⟨S4x8192x384, .f32⟩
  | 21 => ⟨S4x8192x384, .bf16⟩
  | _ => ⟨S4x8192x384, .bf16⟩

abbrev hbmTy (i : Nat) : BufTy := match i / 128 with
  | 0 => hbmTy0_0 i
  | 1 => hbmTy0_1 i
  | _ => ⟨S4x8192x384, .bf16⟩

abbrev bufTy : (tb : Table) → Fin (tcTables nBuf tb) → BufTy
  | .hbm, ⟨i, _⟩ => hbmTy i
  | _, _ => ⟨S4x8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_c_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_c_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_cst_20 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]
-- ==== Ffn.lean ====
abbrev S4x16x8192x128 : Shape := ⟨4, ![4, 16, 8192, 128]⟩
abbrev S16x1024x2048 : Shape := ⟨3, ![16, 1024, 2048]⟩
abbrev S16x2048x1024 : Shape := ⟨3, ![16, 2048, 1024]⟩
abbrev S4x16x1024x1 : Shape := ⟨4, ![4, 16, 1024, 1]⟩
abbrev S1x1x8192x128 : Shape := ⟨4, ![1, 1, 8192, 128]⟩
abbrev S1x1024x1024 : Shape := ⟨3, ![1, 1024, 1024]⟩
abbrev S1x1x1024x1 : Shape := ⟨4, ![1, 1, 1024, 1]⟩
abbrev S1024x1024 : Shape := ⟨2, ![1024, 1024]⟩
abbrev S1x1x1024x128 : Shape := ⟨4, ![1, 1, 1024, 128]⟩
abbrev S1024x128 : Shape := ⟨2, ![1024, 128]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S4x16x8192x128, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x1024x1, .f32⟩
  | .hbm, ⟨5, _⟩ => ⟨S4x16x8192x128, .f32⟩
  | .local _ .vmem, ⟨0, _⟩ => ⟨S1x1x8192x128, .f32⟩
  | .local _ .vmem, ⟨1, _⟩ => ⟨S1x1x8192x128, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024x1, .f32⟩
  | .local _ .vmem, ⟨9, _⟩ => ⟨S1x1x1024x1, .f32⟩
  | .local _ .vmem, ⟨10, _⟩ => ⟨S1x1x8192x128, .f32⟩
  | .local _ .vmem, ⟨11, _⟩ => ⟨S1x1x8192x128, .f32⟩
  | .local _ .vmem, ⟨12, _⟩ => ⟨S1024x1024, .f32⟩
  | .local _ .vmem, ⟨13, _⟩ => ⟨S1024x1024, .bf16⟩
  | _, _ => ⟨S4x16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v102 : BitVec 1 := Scalar.cmpi .eq arg2 c1_i32
  let v103 : BitVec 32 := Scalar.extui v102
  let c0_i32_63 : BitVec 32 := 0#32
  let v104 : BitVec 1 := Scalar.cmpi .ne v103 c0_i32_63
  v104

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnRefIdeal.lean ====
abbrev S4x16x8192x128 : Shape := ⟨4, ![4, 16, 8192, 128]⟩
abbrev S16x1024x2048 : Shape := ⟨3, ![16, 1024, 2048]⟩
abbrev S16x2048x1024 : Shape := ⟨3, ![16, 2048, 1024]⟩
abbrev S4x16x1024x1 : Shape := ⟨4, ![4, 16, 1024, 1]⟩
abbrev S4x16x1024x1024 : Shape := ⟨4, ![4, 16, 1024, 1024]⟩
abbrev S16x2048x4x1024 : Shape := ⟨4, ![16, 2048, 4, 1024]⟩
abbrev S4x16x1024x2048 : Shape := ⟨4, ![4, 16, 1024, 2048]⟩
abbrev S_ : Shape := ⟨0, ![]⟩
abbrev S16x1024x4x1024 : Shape := ⟨4, ![16, 1024, 4, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x16x8192x128, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S4x16x1024x1, .f32⟩
  | .hbm, ⟨5, _⟩ => ⟨S4x16x1024x1024, .f32⟩
  | .hbm, ⟨6, _⟩ => ⟨S16x2048x4x1024, .f32⟩
  | .hbm, ⟨7, _⟩ => ⟨S4x16x1024x2048, .f32⟩
  | .hbm, ⟨8, _⟩ => ⟨S4x16x1024x2048, .f32⟩
  | .hbm, ⟨9, _⟩ => ⟨S4x16x1024x2048, .f32⟩
  | .hbm, ⟨10, _⟩ => ⟨S_, .f32⟩
  | .hbm, ⟨11, _⟩ => ⟨S4x16x1024x2048, .f32⟩
  | .hbm, ⟨12, _⟩ => ⟨S4x16x1024x2048, .f32⟩
  | .hbm, ⟨13, _⟩ => ⟨S_, .f32⟩
  | .hbm, ⟨14, _⟩ => ⟨S4x16x1024x2048, .f32⟩
  | .hbm, ⟨15, _⟩ => ⟨S4x16x1024x2048, .f32⟩
  | .hbm, ⟨16, _⟩ => ⟨S4x16x1024x2048, .f32⟩
  | .hbm, ⟨17, _⟩ => ⟨S16x2048x4x1024, .f32⟩
  | .hbm, ⟨18, _⟩ => ⟨S4x16x1024x2048, .f32⟩
  | .hbm, ⟨19, _⟩ => ⟨S4x16x1024x2048, .f32⟩
  | .hbm, ⟨20, _⟩ => ⟨S16x1024x4x1024, .f32⟩
  | .hbm, ⟨21, _⟩ => ⟨S4x16x1024x1024, .f32⟩
  | .hbm, ⟨22, _⟩ => ⟨S4x16x1024x1024, .f32⟩
  | .hbm, ⟨23, _⟩ => ⟨S4x16x1024x1024, .f32⟩
  | .hbm, ⟨24, _⟩ => ⟨S4x16x8192x128, .f32⟩
  | _, _ => ⟨S4x16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S1024x5888 : Shape := ⟨2, ![1024, 5888]⟩
abbrev S32768x384 : Shape := ⟨2, ![32768, 384]⟩
abbrev S32768x1408 : Shape := ⟨2, ![32768, 1408]⟩
abbrev S32768x256 : Shape := ⟨2, ![32768, 256]⟩
abbrev S32768x3072 : Shape := ⟨2, ![32768, 3072]⟩
abbrev S256x1024 : Shape := ⟨2, ![256, 1024]⟩
abbrev S256x384 : Shape := ⟨2, ![256, 384]⟩
abbrev S256x1408 : Shape := ⟨2, ![256, 1408]⟩
abbrev S256x256 : Shape := ⟨2, ![256, 256]⟩
abbrev S256x3072 : Shape := ⟨2, ![256, 3072]⟩
abbrev S256 : Shape := ⟨1, ![256]⟩
abbrev S256x1 : Shape := ⟨2, ![256, 1]⟩
abbrev S1024x384 : Shape := ⟨2, ![1024, 384]⟩
abbrev S1024x1408 : Shape := ⟨2, ![1024, 1408]⟩
abbrev S1024x256 : Shape := ⟨2, ![1024, 256]⟩
abbrev S1024x3072 : Shape := ⟨2, ![1024, 3072]⟩

abbrev nBuf : Space → Nat
  | .hbm => 10
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5888, .f32⟩
  | .hbm, ⟨3, _⟩ => ⟨S1024x5888, .bf16⟩
  | .hbm, ⟨4, _⟩ => ⟨S32768x384, .bf16⟩
  | .hbm, ⟨5, _⟩ => ⟨S32768x384, .bf16⟩
  | .hbm, ⟨6, _⟩ => ⟨S32768x384, .bf16⟩
  | .hbm, ⟨7, _⟩ => ⟨S32768x1408, .f32⟩
  | .hbm, ⟨8, _⟩ => ⟨S32768x256, .bf16⟩
  | .hbm, ⟨9, _⟩ => ⟨S32768x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5888, .bf16⟩
  | .local _ .vmem, ⟨4, _⟩ => ⟨S256x384, .bf16⟩
  | .local _ .vmem, ⟨5, _⟩ => ⟨S256x384, .bf16⟩
  | .local _ .vmem, ⟨6, _⟩ => ⟨S256x384, .bf16⟩
  | .local _ .vmem, ⟨7, _⟩ => ⟨S256x384, .bf16⟩
  | .local _ .vmem, ⟨8, _⟩ => ⟨S256x384, .bf16⟩
  | .local _ .vmem, ⟨9, _⟩ => ⟨S256x384, .bf16⟩
  | .local _ .vmem, ⟨10, _⟩ => ⟨S256x1408, .f32⟩
  | .local _ .vmem, ⟨11, _⟩ => ⟨S256x1408, .f32⟩
  | .local _ .vmem, ⟨12, _⟩ => ⟨S256x256, .bf16⟩
  | .local _ .vmem, ⟨13, _⟩ => ⟨S256x256, .bf16⟩
  | .local _ .vmem, ⟨14, _⟩ => ⟨S256x3072, .bf16⟩
  | .local _ .vmem, ⟨15, _⟩ => ⟨S256x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S32768x1024 : Shape := ⟨2, ![32768, 1024]⟩
abbrev S1x1024 : Shape := ⟨2, ![1, 1024]⟩
abbrev S1024x5888 : Shape := ⟨2, ![1024, 5888]⟩
abbrev S_ : Shape := ⟨0, ![]⟩
abbrev S32768 : Shape := ⟨1, ![32768]⟩
abbrev S32768x1 : Shape := ⟨2, ![32768, 1]⟩
abbrev S32768x5888 : Shape := ⟨2, ![32768, 5888]⟩
abbrev S32768x384 : Shape := ⟨2, ![32768, 384]⟩
abbrev S32768x1408 : Shape := ⟨2, ![32768, 1408]⟩
abbrev S32768x256 : Shape := ⟨2, ![32768, 256]⟩
abbrev S32768x3072 : Shape := ⟨2, ![32768, 3072]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5888, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x5888, .f32⟩
  | .hbm, ⟨19, _⟩ => ⟨S32768x384, .f32⟩
  | .hbm, ⟨20, _⟩ => ⟨S32768x384, .f32⟩
  | .hbm, ⟨21, _⟩ => ⟨S32768x384, .f32⟩
  | .hbm, ⟨22, _⟩ => ⟨S32768x1408, .f32⟩
  | .hbm, ⟨23, _⟩ => ⟨S32768x256, .f32⟩
  | .hbm, ⟨24, _⟩ => ⟨S32768x3072, .f32⟩
  | .hbm, ⟨25, _⟩ => ⟨S32768x384, .bf16⟩
  | .hbm, ⟨26, _⟩ => ⟨S32768x384, .bf16⟩
  | .hbm, ⟨27, _⟩ => ⟨S32768x384, .bf16⟩
  | .hbm, ⟨28, _⟩ => ⟨S32768x256, .bf16⟩
  | .hbm, ⟨29, _⟩ => ⟨S32768x3072, .f32⟩
  | .hbm, ⟨30, _⟩ => ⟨S32768x3072, .f32⟩
  | .hbm, ⟨31, _⟩ => ⟨S_, .f32⟩
  | .hbm, ⟨32, _⟩ => ⟨S32768x3072, .f32⟩
  | .hbm, ⟨33, _⟩ => ⟨S32768x3072, .f32⟩
  | .hbm, ⟨34, _⟩ => ⟨S_, .f32⟩
  | .hbm, ⟨35, _⟩ => ⟨S32768x3072, .f32⟩
  | .hbm, ⟨36, _⟩ => ⟨S32768x3072, .f32⟩
  | .hbm, ⟨37, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Final.lean ====
abbrev S32768x1024 : Shape := ⟨2, ![32768, 1024]⟩
abbrev S262144x128 : Shape := ⟨2, ![262144, 128]⟩
abbrev S1x1024 : Shape := ⟨2, ![1, 1024]⟩
abbrev S512x1024 : Shape := ⟨2, ![512, 1024]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S262144x128, .f32⟩
  | .hbm, ⟨2, _⟩ => ⟨S1x1024, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S32768x1024 : Shape := ⟨2, ![32768, 1024]⟩
abbrev S262144x128 : Shape := ⟨2, ![262144, 128]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S262144x128, .f32⟩
  | .hbm, ⟨2, _⟩ => ⟨S1x1024, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MemKv.lean ====
abbrev S4x256x1024 : Shape := ⟨3, ![4, 256, 1024]⟩
abbrev S1x1024 : Shape := ⟨2, ![1, 1024]⟩
abbrev S1024x512 : Shape := ⟨2, ![1024, 512]⟩
abbrev S4x256x256 : Shape := ⟨3, ![4, 256, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1024x512, .f32⟩
  | .hbm, ⟨3, _⟩ => ⟨S1024x512, .bf16⟩
  | .hbm, ⟨4, _⟩ => ⟨S4x256x256, .bf16⟩
  | .hbm, ⟨5, _⟩ => ⟨S4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S4x256x1024 : Shape := ⟨3, ![4, 256, 1024]⟩
abbrev S1x1024 : Shape := ⟨2, ![1, 1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1024x512, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x512, .f32⟩
  | .hbm, ⟨20, _⟩ => ⟨S4x256x256, .f32⟩
  | .hbm, ⟨21, _⟩ => ⟨S4x256x256, .f32⟩
  | .hbm, ⟨22, _⟩ => ⟨S4x256x256, .bf16⟩
  | .hbm, ⟨23, _⟩ => ⟨S4x256x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x384 : Shape := ⟨3, ![4, 8192, 384]⟩
abbrev S4x8192x1408 : Shape := ⟨3, ![4, 8192, 1408]⟩
abbrev S4x8192x256 : Shape := ⟨3, ![4, 8192, 256]⟩
abbrev S4x256x256 : Shape := ⟨3, ![4, 256, 256]⟩
abbrev S4x8192x3072 : Shape := ⟨3, ![4, 8192, 3072]⟩
abbrev S384 : Shape := ⟨1, ![384]⟩
abbrev S128x384 : Shape := ⟨2, ![128, 384]⟩
abbrev S384x1024 : Shape := ⟨2, ![384, 1024]⟩
abbrev S256x1024 : Shape := ⟨2, ![256, 1024]⟩
abbrev S1024x1024 : Shape := ⟨2, ![1024, 1024]⟩
abbrev S1x1024 : Shape := ⟨2, ![1, 1024]⟩
abbrev S1024x16 : Shape := ⟨2, ![1024, 16]⟩
abbrev S_ : Shape := ⟨0, ![]⟩
abbrev S384x1 : Shape := ⟨2, ![384, 1]⟩
abbrev S1x384 : Shape := ⟨2, ![1, 384]⟩
abbrev S384x384 : Shape := ⟨2, ![384, 384]⟩
abbrev S1024x128 : Shape := ⟨2, ![1024, 128]⟩
abbrev S1 : Shape := ⟨1, ![1]⟩
abbrev S4x65536x128 : Shape := ⟨3, ![4, 65536, 128]⟩
abbrev S4x16x8192 : Shape := ⟨3, ![4, 16, 8192]⟩
abbrev S1x256x1024 : Shape := ⟨3, ![1, 256, 1024]⟩
abbrev S1x256x384 : Shape := ⟨3, ![1, 256, 384]⟩
abbrev S1x256x128 : Shape := ⟨3, ![1, 256, 128]⟩
abbrev S1x256x256 : Shape := ⟨3, ![1, 256, 256]⟩
abbrev S1x256x3072 : Shape := ⟨3, ![1, 256, 3072]⟩
abbrev S1x2048x128 : Shape := ⟨3, ![1, 2048, 128]⟩
abbrev S1x16x256 : Shape := ⟨3, ![1, 16, 256]⟩
abbrev S256x128 : Shape := ⟨2, ![256, 128]⟩
abbrev S256x3072 : Shape := ⟨2, ![256, 3072]⟩
abbrev S256x384 : Shape := ⟨2, ![256, 384]⟩
abbrev S256x256 : Shape := ⟨2, ![256, 256]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x1024 : Shape := ⟨2, ![512, 1024]⟩
abbrev S128x256 : Shape := ⟨2, ![128, 256]⟩
abbrev S16x256 : Shape := ⟨2, ![16, 256]⟩

abbrev nBuf : Space → Nat
  | .hbm => 68
  | .vmem => 39
  | .smem => 0
  | _ => 0

abbrev bufTy : (tb : Table) → Fin (tcTables nBuf tb) → BufTy
  | .hbm, ⟨0, _⟩ => ⟨S4x8192x1024, .f32⟩
  | .hbm, ⟨1, _⟩ => ⟨S4x8192x384, .bf16⟩
  | .hbm, ⟨2, _⟩ => ⟨S4x8192x384, .f32⟩
  | .hbm, ⟨3, _⟩ => ⟨S4x8192x384, .f32⟩
  | .hbm, ⟨4, _⟩ => ⟨S4x8192x384, .f32⟩
  | .hbm, ⟨5, _⟩ => ⟨S4x8192x384, .f32⟩
  | .hbm, ⟨6, _⟩ => ⟨S4x8192x1408, .f32⟩
  | .hbm, ⟨7, _⟩ => ⟨S4x8192x256, .bf16⟩
  | .hbm, ⟨8, _⟩ => ⟨S4x256x256, .bf16⟩
  | .hbm, ⟨9, _⟩ => ⟨S4x256x256, .bf16⟩
  | .hbm, ⟨10, _⟩ => ⟨S4x8192x3072, .bf16⟩
  | .hbm, ⟨11, _⟩ => ⟨S384, .f32⟩
  | .hbm, ⟨12, _⟩ => ⟨S384, .f32⟩
  | .hbm, ⟨13, _⟩ => ⟨S128x384, .f32⟩
  | .hbm, ⟨14, _⟩ => ⟨S384x1024, .f32⟩
  | .hbm, ⟨15, _⟩ => ⟨S384x1024, .f32⟩
  | .hbm, ⟨16, _⟩ => ⟨S256x1024, .f32⟩
  | .hbm, ⟨17, _⟩ => ⟨S1024x1024, .f32⟩
  | .hbm, ⟨18, _⟩ => ⟨S1x1024, .f32⟩
  | .hbm, ⟨19, _⟩ => ⟨S1024x16, .f32⟩
  | .hbm, ⟨20, _⟩ => ⟨S384x1024, .bf16⟩
  | .hbm, ⟨21, _⟩ => ⟨S384x1024, .bf16⟩
  | .hbm, ⟨22, _⟩ => ⟨S256x1024, .bf16⟩
  | .hbm, ⟨23, _⟩ => ⟨S1024x1024, .bf16⟩
  | .hbm, ⟨24, _⟩ => ⟨S384, .i32⟩
  | .hbm, ⟨25, _⟩ => ⟨S_, .i32⟩
  | .hbm, ⟨26, _⟩ => ⟨S_, .i32⟩
  | .hbm, ⟨27, _⟩ => ⟨S384, .i32⟩
  | .hbm, ⟨28, _⟩ => ⟨S384, .i32⟩
  | .hbm, ⟨29, _⟩ => ⟨S384, .i32⟩
  | .hbm, ⟨30, _⟩ => ⟨S_, .i32⟩
  | .hbm, ⟨31, _⟩ => ⟨S384, .i32⟩
  | .hbm, ⟨32, _⟩ => ⟨S384, .i1⟩
  | .hbm, ⟨33, _⟩ => ⟨S384, .i32⟩
  | .hbm, ⟨34, _⟩ => ⟨S384, .i32⟩
  | .hbm, ⟨35, _⟩ => ⟨S_, .i32⟩
  | .hbm, ⟨36, _⟩ => ⟨S384, .i32⟩
  | .hbm, ⟨37, _⟩ => ⟨S384, .i1⟩
  | .hbm, ⟨38, _⟩ => ⟨S384, .i1⟩
  | .hbm, ⟨39, _⟩ => ⟨S_, .i32⟩
  | .hbm, ⟨40, _⟩ => ⟨S384, .i32⟩
  | .hbm, ⟨41, _⟩ => ⟨S384, .i32⟩
  | .hbm, ⟨42, _⟩ => ⟨S384, .i32⟩
  | .hbm, ⟨43, _⟩ => ⟨S384x1, .i32⟩
  | .hbm, ⟨44, _⟩ => ⟨S1x384, .i32⟩
  | .hbm, ⟨45, _⟩ => ⟨S384x384, .i32⟩
  | .hbm, ⟨46, _⟩ => ⟨S384x384, .i32⟩
  | .hbm, ⟨47, _⟩ => ⟨S384x384, .i1⟩
  | .hbm, ⟨48, _⟩ => ⟨S384x384, .f32⟩
  | .hbm, ⟨49, _⟩ => ⟨S_, .f32⟩
  | .hbm, ⟨50, _⟩ => ⟨S384x384, .f32⟩
  | .hbm, ⟨51, _⟩ => ⟨S384x384, .f32⟩
  | .hbm, ⟨52, _⟩ => ⟨S384x384, .bf16⟩
  | .hbm, ⟨53, _⟩ => ⟨S_, .f32⟩
  | .hbm, ⟨54, _⟩ => ⟨S1024x128, .f32⟩
  | .hbm, ⟨55, _⟩ => ⟨S_, .i32⟩
  | .hbm, ⟨56, _⟩ => ⟨S1, .i32⟩
  | .hbm, ⟨57, _⟩ => ⟨S1024x128, .f32⟩
  | .hbm, ⟨58, _⟩ => ⟨S1024x128, .bf16⟩
  | .hbm, ⟨59, _⟩ => ⟨S1024x128, .f32⟩
  | .hbm, ⟨60, _⟩ => ⟨S1024x128, .f32⟩
  | .hbm, ⟨61, _⟩ => ⟨S1024x128, .bf16⟩
  | .hbm, ⟨62, _⟩ => ⟨S1x384, .f32⟩
  | .hbm, ⟨63, _⟩ => ⟨S1x384, .f32⟩
  | .hbm, ⟨64, _⟩ => ⟨S128x384, .bf16⟩
  | .hbm, ⟨65, _⟩ => ⟨S4x8192x1024, .f32⟩
  | .hbm, ⟨66, _⟩ => ⟨S4x65536x128, .f32⟩
  | .hbm, ⟨67, _⟩ => ⟨S4x16x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x256x384, .bf16⟩
  | .local _ .vmem, ⟨3, _⟩ => ⟨S1x256x384, .bf16⟩
  | .local _ .vmem, ⟨4, _⟩ => ⟨S1x256x384, .f32⟩
  | .local _ .vmem, ⟨5, _⟩ => ⟨S1x256x384, .f32⟩
  | .local _ .vmem, ⟨6, _⟩ => ⟨S1x256x384, .f32⟩
  | .local _ .vmem, ⟨7, _⟩ => ⟨S1x256x384, .f32⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x128, .f32⟩
  | .local _ .vmem, ⟨13, _⟩ => ⟨S1x256x128, .f32⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x3072, .bf16⟩
  | .local _ .vmem, ⟨21, _⟩ => ⟨S1x256x3072, .bf16⟩
  | .local _ .vmem, ⟨22, _⟩ => ⟨S1x384, .f32⟩
  | .local _ .vmem, ⟨23, _⟩ => ⟨S1x384, .f32⟩
  | .local _ .vmem, ⟨24, _⟩ => ⟨S128x384, .bf16⟩
  | .local _ .vmem, ⟨25, _⟩ => ⟨S384x384, .bf16⟩
  | .local _ .vmem, ⟨26, _⟩ => ⟨S384x1024, .bf16⟩
  | .local _ .vmem, ⟨27, _⟩ => ⟨S384x1024, .bf16⟩
  | .local _ .vmem, ⟨28, _⟩ => ⟨S256x1024, .bf16⟩
  | .local _ .vmem, ⟨29, _⟩ => ⟨S1024x1024, .bf16⟩
  | .local _ .vmem, ⟨30, _⟩ => ⟨S1x1024, .f32⟩
  | .local _ .vmem, ⟨31, _⟩ => ⟨S1024x128, .bf16⟩
  | .local _ .vmem, ⟨32, _⟩ => ⟨S1024x128, .bf16⟩
  | .local _ .vmem, ⟨33, _⟩ => ⟨S1x256x1024, .f32⟩
  | .local _ .vmem, ⟨34, _⟩ => ⟨S1x256x1024, .f32⟩
  | .local _ .vmem, ⟨35, _⟩ => ⟨S1x2048x128, .f32⟩
  | .local _ .vmem, ⟨36, _⟩ => ⟨S1x2048x128, .f32⟩
  | .local _ .vmem, ⟨37, _⟩ => ⟨S1x16x256, .f32⟩
  | .local _ .vmem, ⟨38, _⟩ => ⟨S1x16x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_0 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25_0 : Ref sig .tc := ⟨.hbm, 65, rfl⟩
abbrev main_v25_1 : Ref sig .tc := ⟨.hbm, 66, rfl⟩
abbrev main_v25_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x384 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S384x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S384x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x16x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== MergeIdeal.lean ====
variable {F : FTy → Type} [FloatOps F] [Named F]
def κ : String → Option EReal := fun
  | "mask" => some ⊥
  | _ => none
-- ==== MergeRefIdeal.lean ====
abbrev S4x8192x1024 : Shape := ⟨3, ![4, 8192, 1024]⟩
abbrev S4x8192x384 : Shape := ⟨3, ![4, 8192, 384]⟩
abbrev S4x8192x1408 : Shape := ⟨3, ![4, 8192, 1408]⟩
abbrev S4x8192x256 : Shape := ⟨3, ![4, 8192, 256]⟩
abbrev S4x256x256 : Shape := ⟨3, ![4, 256, 256]⟩
abbrev S4x8192x3072 : Shape := ⟨3, ![4, 8192, 3072]⟩
abbrev S384 : Shape := ⟨1, ![384]⟩
abbrev S128x384 : Shape := ⟨2, ![128, 384]⟩
abbrev S384x1024 : Shape := ⟨2, ![384, 1024]⟩
abbrev S256x1024 : Shape := ⟨2, ![256, 1024]⟩
abbrev S1024x1024 : Shape := ⟨2, ![1024, 1024]⟩
abbrev S1x1024 : Shape := ⟨2, ![1, 1024]⟩
abbrev S1024x16 : Shape := ⟨2, ![1024, 16]⟩
abbrev S4x8192x6x64 : Shape := ⟨4, ![4, 8192, 6, 64]⟩
abbrev S_ : Shape := ⟨0, ![]⟩
abbrev S4x8192x6 : Shape := ⟨3, ![4, 8192, 6]⟩
abbrev S4x8192x6x1 : Shape := ⟨4, ![4, 8192, 6, 1]⟩
abbrev S1x1x384 : Shape := ⟨3, ![1, 1, 384]⟩
abbrev S4x8192x128 : Shape := ⟨3, ![4, 8192, 128]⟩
abbrev S4x8192x4x64 : Shape := ⟨4, ![4, 8192, 4, 64]⟩
abbrev S4x256x4x64 : Shape := ⟨4, ![4, 256, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S4x65536x128 : Shape := ⟨3, ![4, 65536, 128]⟩
abbrev S4x16x8192 : Shape := ⟨3, ![4, 16, 8192]⟩

abbrev nBuf : Space → Nat
  | .hbm => 138
  | .vmem => 0
  | .smem => 0
  | _ => 0

abbrev hbmTy0_0 (i : Nat) : BufTy := match i % 128 with
  | 0 => ⟨S4x8192x1024, .f32⟩
  | 1 => ⟨S4x8192x384, .bf16⟩
  | 2 => ⟨S4x8192x384, .f32⟩
  | 3 => ⟨S4x8192x384, .f32⟩
  | 4 => ⟨S4x8192x384, .f32⟩
  | 5 => ⟨S4x8192x384, .f32⟩
  | 6 => ⟨S4x8192x1408, .f32⟩
  | 7 => ⟨S4x8192x256, .bf16⟩
  | 8 => ⟨S4x256x256, .bf16⟩
  | 9 => ⟨S4x256x256, .bf16⟩
  | 10 => ⟨S4x8192x3072, .bf16⟩
  | 11 => ⟨S384, .f32⟩
  | 12 => ⟨S384, .f32⟩
  | 13 => ⟨S128x384, .f32⟩
  | 14 => ⟨S384x1024, .f32⟩
  | 15 => ⟨S384x1024, .f32⟩
  | 16 => ⟨S256x1024, .f32⟩
  | 17 => ⟨S1024x1024, .f32⟩
  | 18 => ⟨S1x1024, .f32⟩
  | 19 => ⟨S1024x16, .f32⟩
  | 20 => ⟨S4x8192x384, .f32⟩
  | 21 => ⟨S4x8192x6x64, .f32⟩
  | 22 => ⟨S_, .f32⟩
  | 23 => ⟨S4x8192x6, .f32⟩
  | 24 => ⟨S4x8192x6x1, .f32⟩
  | 25 => ⟨S_, .f32⟩
  | 26 => ⟨S4x8192x6x1, .f32⟩
  | 27 => ⟨S4x8192x6x1, .f32⟩
  | 28 => ⟨S4x8192x6x64, .f32⟩
  | 29 => ⟨S4x8192x6x64, .f32⟩
  | 30 => ⟨S4x8192x6x64, .f32⟩
  | 31 => ⟨S_, .f32⟩
  | 32 => ⟨S4x8192x6, .f32⟩
  | 33 => ⟨S4x8192x6x1, .f32⟩
  | 34 => ⟨S_, .f32⟩
  | 35 => ⟨S4x8192x6x1, .f32⟩
  | 36 => ⟨S4x8192x6x1, .f32⟩
  | 37 => ⟨S_, .f32⟩
  | 38 => ⟨S4x8192x6x1, .f32⟩
  | 39 => ⟨S4x8192x6x1, .f32⟩
  | 40 => ⟨S4x8192x6x1, .f32⟩
  | 41 => ⟨S4x8192x6x64, .f32⟩
  | 42 => ⟨S4x8192x6x64, .f32⟩
  | 43 => ⟨S4x8192x384, .f32⟩
  | 44 => ⟨S1x1x384, .f32⟩
  | 45 => ⟨S4x8192x384, .f32⟩
  | 46 => ⟨S4x8192x384, .f32⟩
  | 47 => ⟨S1x1x384, .f32⟩
  | 48 => ⟨S4x8192x384, .f32⟩
  | 49 => ⟨S4x8192x384, .f32⟩
  | 50 => ⟨S4x8192x384, .f32⟩
  | 51 => ⟨S4x8192x384, .f32⟩
  | 52 => ⟨S4x8192x128, .f32⟩
  | 53 => ⟨S4x8192x128, .f32⟩
  | 54 => ⟨S4x8192x128, .f32⟩
  | 55 => ⟨S_, .f32⟩
  | 56 => ⟨S4x8192x128, .f32⟩
  | 57 => ⟨S4x8192x128, .f32⟩
  | 58 => ⟨S_, .f32⟩
  | 59 => ⟨S4x8192x128, .f32⟩
  | 60 => ⟨S4x8192x128, .f32⟩
  | 61 => ⟨S4x8192x384, .f32⟩
  | 62 => ⟨S4x8192x384, .f32⟩
  | 63 => ⟨S4x8192x256, .f32⟩
  | 64 => ⟨S4x8192x4x64, .f32⟩
  | 65 => ⟨S_, .f32⟩
  | 66 => ⟨S4x8192x4x64, .f32⟩
  | 67 => ⟨S4x8192x4x64, .f32⟩
  | 68 => ⟨S4x256x256, .f32⟩
  | 69 => ⟨S4x256x4x64, .f32⟩
  | 70 => ⟨S4x256x256, .f32⟩
  | 71 => ⟨S4x256x4x64, .f32⟩
  | 72 => ⟨S4x4x8192x256, .f32⟩
  | 73 => ⟨S_, .f32⟩
  | 74 => ⟨S4x4x8192, .f32⟩
  | 75 => ⟨S_, .f32⟩
  | 76 => ⟨S4x4x8192, .f32⟩
  | 77 => ⟨S4x4x8192, .f32⟩
  | 78 => ⟨S4x4x8192x1, .f32⟩
  | 79 => ⟨S4x4x8192x256, .f32⟩
  | 80 => ⟨S4x4x8192x256, .f32⟩
  | 81 => ⟨S4x4x8192x256, .f32⟩
  | 82 => ⟨S_, .f32⟩
  | 83 => ⟨S4x4x8192, .f32⟩
  | 84 => ⟨S4x4x8192x1, .f32⟩
  | 85 => ⟨S4x4x8192x256, .f32⟩
  | 86 => ⟨S4x4x8192x256, .f32⟩
  | 87 => ⟨S4x4x64x8192, .f32⟩
  | 88 => ⟨S4x8192x4x64, .f32⟩
  | 89 => ⟨S4x8192x256, .f32⟩
  | 90 => ⟨S4x8192x3072, .f32⟩
  | 91 => ⟨S4x8192x1024, .f32⟩
  | 92 => ⟨S4x8192x384, .f32⟩
  | 93 => ⟨S4x8192x1024, .f32⟩
  | 94 => ⟨S4x8192x1024, .f32⟩
  | 95 => ⟨S4x8192x1024, .f32⟩
  | 96 => ⟨S4x8192x1024, .f32⟩
  | 97 => ⟨S4x8192x1024, .f32⟩
  | 98 => ⟨S4x8192x1024, .f32⟩
  | 99 => ⟨S4x8192x1024, .f32⟩
  | 100 => ⟨S4x8192x1024, .f32⟩
  | 101 => ⟨S4x8192x1024, .f32⟩
  | 102 => ⟨S4x8192x1024, .f32⟩
  | 103 => ⟨S4x8192x1024, .f32⟩
  | 104 => ⟨S4x8192x1024, .f32⟩
  | 105 => ⟨S4x8192x1024, .f32⟩
  | 106 => ⟨S_, .f32⟩
  | 107 => ⟨S4x8192, .f32⟩
  | 108 => ⟨S4x8192x1, .f32⟩
  | 109 => ⟨S_, .f32⟩
  | 110 => ⟨S4x8192x1, .f32⟩
  | 111 => ⟨S4x8192x1, .f32⟩
  | 112 => ⟨S_, .f32⟩
  | 113 => ⟨S4x8192x1, .f32⟩
  | 114 => ⟨S4x8192x1, .f32⟩
  | 115 => ⟨S4x8192x1, .f32⟩
  | 116 => ⟨S4x8192x1024, .f32⟩
  | 117 => ⟨S4x8192x1024, .f32⟩
  | 118 => ⟨S1x1x1024, .f32⟩
  | 119 => ⟨S4x8192x1024, .f32⟩
  | 120 => ⟨S4x8192x1024, .f32⟩
  | 121 => ⟨S4x8192x16, .f32⟩
  | 122 => ⟨S_, .f32⟩
  | 123 => ⟨S4x8192, .f32⟩
  | 124 => ⟨S_, .f32⟩
  | 125 => ⟨S4x8192, .f32⟩
  | 126 => ⟨S4x8192, .f32⟩
  | 127 => ⟨S4x8192x1, .f32⟩
  | _ => ⟨S4x8192x1024, .f32⟩

abbrev hbmTy0_1 (i : Nat) : BufTy := match i % 128 with
  | 0 => ⟨S4x8192x16, .f32⟩
  | 1 => ⟨S4x8192x16, .f32⟩
  | 2 => ⟨S4x8192x16, .f32⟩
  | 3 => ⟨S_, .f32⟩
  | 4 => ⟨S4x8192, .f32⟩
  | 5 => ⟨S4x8192x1, .f32⟩
  | 6 => ⟨S4x8192x16, .f32⟩
  | 7 => ⟨S4x8192x16, .f32⟩
  | 8 => ⟨S4x65536x128, .f32⟩
  | 9 => ⟨S4x16x8192, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_cst : Ref sig .tc := ⟨.hbm, 22, rfl⟩
abbrev main_v2 : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_10 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_13 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_15 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]
-- ==== Proof.Refs.lean ====
/- The frames of the reference programs: each is a straight line of host operations on a signature that declares no
   semaphore, so its generated run keeps the arguments and there is no counter that could end above zero. -/
module

public import proofs.«01_k».proof.Defs
public import proofs.«01_k».proof.Proof.Gen.AttnRefIdeal
public import proofs.«01_k».proof.Proof.Gen.AttnRefIdeal.Run
public import proofs.«01_k».proof.Proof.Gen.FfnRefIdeal
public import proofs.«01_k».proof.Proof.Gen.FfnRefIdeal.Run
public import proofs.«01_k».proof.Proof.Gen.InProjRefIdeal
public import proofs.«01_k».proof.Proof.Gen.InProjRefIdeal.Run
public import proofs.«01_k».proof.Proof.Gen.FinalRefIdeal
public import proofs.«01_k».proof.Proof.Gen.FinalRefIdeal.Run
public import proofs.«01_k».proof.Proof.Gen.MemKvRefIdeal
public import proofs.«01_k».proof.Proof.Gen.MemKvRefIdeal.Run
public import proofs.«01_k».proof.Proof.Gen.MergeRefIdeal
public import proofs.«01_k».proof.Proof.Gen.MergeRefIdeal.Run
public import Idealize.ShloMosaic.Lib.Quiescent

@[expose] public section

namespace Cert.Proof.Refs

open Idealize.ShloMosaic Idealize.SL.Sem

/-- The reference of the attention runs and keeps its four arguments. -/
theorem attn : Cert.quiescent_AttnRefIdeal := fun m ρ _ =>
  (θ_run Cert.AttnRefIdeal.defs _ _).mono (fun r h => ⟨fun c => (h c).2, sem_eq_zero_of_no_sems rfl r.2⟩) (Cert.AttnRefIdeal.Value.run m ρ)

/-- The reference of the feed-forward runs and keeps its five arguments. -/
theorem ffn : Cert.quiescent_FfnRefIdeal := fun m ρ _ =>
  (θ_run Cert.FfnRefIdeal.defs _ _).mono (fun r h => ⟨fun c => (h c).2, sem_eq_zero_of_no_sems rfl r.2⟩) (Cert.FfnRefIdeal.Value.run m ρ)

/-- The reference of the input projection runs and keeps its three arguments. -/
theorem inProj : Cert.quiescent_InProjRefIdeal := fun m ρ _ =>
  (θ_run Cert.InProjRefIdeal.defs _ _).mono (fun r h => ⟨fun c => (h c).2.2.2.2.2.2, sem_eq_zero_of_no_sems rfl r.2⟩) (Cert.InProjRefIdeal.Value.run m ρ)

/-- The reference of the final norm runs and keeps its three arguments. -/
theorem final : Cert.quiescent_FinalRefIdeal := fun m ρ _ =>
  (θ_run Cert.FinalRefIdeal.defs _ _).mono (fun r h => ⟨fun c => (h c).2, sem_eq_zero_of_no_sems rfl r.2⟩) (Cert.FinalRefIdeal.Value.run m ρ)

/-- The reference of the memory's keys and values runs and keeps its three arguments. -/
theorem memKv : Cert.quiescent_MemKvRefIdeal := fun m ρ _ =>
  (θ_run Cert.MemKvRefIdeal.defs _ _).mono (fun r h => ⟨fun c => (h c).2.2, sem_eq_zero_of_no_sems rfl r.2⟩) (Cert.MemKvRefIdeal.Value.run m ρ)

/-- The reference of the merge runs and keeps its twenty arguments. -/
theorem merge : Cert.quiescent_MergeRefIdeal := fun m ρ _ =>
  (θ_run Cert.MergeRefIdeal.defs _ _).mono (fun r h => ⟨fun c => (h c).2.2.2, sem_eq_zero_of_no_sems rfl r.2⟩) (Cert.MergeRefIdeal.Value.run m ρ)

end Cert.Proof.Refs

end
-- ==== Proof.InProj.lean ====
/- The input projection's value: after the run, each of the six result arrays of the kernel holds, at every index, what the
   reference computes there: a column slice of the normalised rows times the weights, the last slice through the logistic
   function. A grid point's block of rows is read off the argument arrays, the block's payload is read at an index as the
   reference's sum, and the blocks cover each result array. -/
module

public import proofs.«01_k».proof.Defs
public import proofs.«01_k».proof.Proof.Gen.InProjIdeal.Value
public import proofs.«01_k».proof.Proof.Gen.InProjRefIdeal.Read
public import Idealize.ShloMosaic.Lib.Pointwise

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem
open Cert.InProjRefIdeal.Read

/-! ## The payloads and the reference at an index -/

/-- Entry `k` of a row of the normalised input: the entry over the root of the row's mean square (plus a small constant), times
    the gain. -/
def normed {n : Nat} (x : FVec Ideal ⟨2, ![n, 1024]⟩ .f32) (g : FVec Ideal ⟨2, ![1, 1024]⟩ .f32) (r : Fin n) (k : Fin 1024) : EReal :=
  x (ix2 r k) * Ideal.rsqrt (Ideal.div (∑ l : Fin 1024, x (ix2 r l) * x (ix2 r l)) (Ideal.ofBits .f32 0x44800000#32)
    + Ideal.ofBits .f32 0x358637BD#32) * g (ix2 0 k)

/-- Entry (`r`, `j`) of the product of the normalised rows with a matrix of weights. -/
def proj {n p : Nat} {φ : FTy} (x : FVec Ideal ⟨2, ![n, 1024]⟩ .f32) (g : FVec Ideal ⟨2, ![1, 1024]⟩ .f32) (w : FVec Ideal ⟨2, ![1024, p]⟩ φ)
    (r : Fin n) (j : Fin p) : EReal :=
  ∑ k : Fin 1024, normed x g r k * w (ix2 k j)

/-- The logistic function as both sides compute it. -/
def logistic (s : EReal) : EReal := Ideal.div 1 (1 + Ideal.exp (-s))

/-- The block the kernel normalises, at an index. -/
theorem pay4_apply (x : Vec Ideal S256x1024 .f32) (g : Vec Ideal S1x1024 .f32) (r : Fin 256) (k : Fin 1024) :
    k0_pay4 x g (ix2 r k) = normed x g r k := by
  pointwise [k0_pay4, normed]

/-- The queries' block, at an index. -/
theorem pay5_apply (x : Vec Ideal S256x1024 .f32) (g : Vec Ideal S1x1024 .f32) (w : Vec Ideal S1024x384 .bf16) (r : Fin 256) (j : Fin 384) :
    k0_pay5 x g w (ix2 r j) = proj (φ := .bf16) x g w r j := by
  pointwise [k0_pay5, pay4_apply, proj]

/-- The keys' block, and the values', is the same function of its columns of the weights. -/
theorem pay6_apply (x : Vec Ideal S256x1024 .f32) (g : Vec Ideal S1x1024 .f32) (w : Vec Ideal S1024x384 .bf16) (r : Fin 256) (j : Fin 384) :
    k0_pay6 x g w (ix2 r j) = proj (φ := .bf16) x g w r j := pay5_apply x g w r j
theorem pay7_apply (x : Vec Ideal S256x1024 .f32) (g : Vec Ideal S1x1024 .f32) (w : Vec Ideal S1024x384 .bf16) (r : Fin 256) (j : Fin 384) :
    k0_pay7 x g w (ix2 r j) = proj (φ := .bf16) x g w r j := pay5_apply x g w r j

/-- The plain columns' block, at an index. -/
theorem pay1_apply (x : Vec Ideal S256x1024 .f32) (g : Vec Ideal S1x1024 .f32) (w : Vec Ideal S1024x1408 .bf16) (r : Fin 256) (j : Fin 1408) :
    k0_pay1 (k0_pay4 x g) (k0_pay8 w) (ix2 r j) = proj (φ := .bf16) x g w r j := by
  pointwise [k0_pay1, k0_pay8, pay4_apply, proj]

/-- The memory queries' block, at an index. -/
theorem pay2_apply (x : Vec Ideal S256x1024 .f32) (g : Vec Ideal S1x1024 .f32) (w : Vec Ideal S1024x256 .bf16) (r : Fin 256) (j : Fin 256) :
    k0_pay2 (k0_pay4 x g) w (ix2 r j) = proj (φ := .bf16) x g w r j := by
  pointwise [k0_pay2, pay4_apply, proj]

/-- The gates' block, at an index. -/
theorem pay3_apply (x : Vec Ideal S256x1024 .f32) (g : Vec Ideal S1x1024 .f32) (w : Vec Ideal S1024x3072 .bf16) (r : Fin 256) (j : Fin 3072) :
    k0_pay3 (k0_pay4 x g) w (ix2 r j) = logistic (proj (φ := .bf16) x g w r j) := by
  pointwise [k0_pay3, pay4_apply, proj, logistic, zero_sub]

/-- The reference's product, at an index. -/
theorem ref_apply (x : Vec Ideal S32768x1024 .f32) (g : Vec Ideal S1x1024 .f32) (w : Vec Ideal S1024x5888 .f32) (r : Fin 32768) (j : Fin 5888) :
    val_main_v12 (F := Ideal) x g w (ix2 r j) = proj (φ := .f32) x g w r j := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, proj, normed]

/-- The reference's six results, at an index: columns of the product, the last six's through the logistic function. -/
theorem ref19_apply (x : Vec Ideal S32768x1024 .f32) (g : Vec Ideal S1x1024 .f32) (w : Vec Ideal S1024x5888 .f32) (r : Fin 32768) (j : Fin 384) :
    val_main_v19 (F := Ideal) x g w (ix2 r j) = proj (φ := .f32) x g w r ⟨j.val, by omega⟩ := by
  pointwise [val_main_v19, val_main_v13, ref_apply]
theorem ref20_apply (x : Vec Ideal S32768x1024 .f32) (g : Vec Ideal S1x1024 .f32) (w : Vec Ideal S1024x5888 .f32) (r : Fin 32768) (j : Fin 384) :
    val_main_v20 (F := Ideal) x g w (ix2 r j) = proj (φ := .f32) x g w r ⟨384 + j.val, by omega⟩ := by
  pointwise [val_main_v20, val_main_v14, ref_apply]
theorem ref21_apply (x : Vec Ideal S32768x1024 .f32) (g : Vec Ideal S1x1024 .f32) (w : Vec Ideal S1024x5888 .f32) (r : Fin 32768) (j : Fin 384) :
    val_main_v21 (F := Ideal) x g w (ix2 r j) = proj (φ := .f32) x g w r ⟨768 + j.val, by omega⟩ := by
  pointwise [val_main_v21, val_main_v15, ref_apply]
theorem ref16_apply (x : Vec Ideal S32768x1024 .f32) (g : Vec Ideal S1x1024 .f32) (w : Vec Ideal S1024x5888 .f32) (r : Fin 32768) (j : Fin 1408) :
    val_main_v16 (F := Ideal) x g w (ix2 r j) = proj (φ := .f32) x g w r ⟨1152 + j.val, by omega⟩ := by
  pointwise [val_main_v16, ref_apply]
theorem ref22_apply (x : Vec Ideal S32768x1024 .f32) (g : Vec Ideal S1x1024 .f32) (w : Vec Ideal S1024x5888 .f32) (r : Fin 32768) (j : Fin 256) :
    val_main_v22 (F := Ideal) x g w (ix2 r j) = proj (φ := .f32) x g w r ⟨2560 + j.val, by omega⟩ := by
  pointwise [val_main_v22, val_main_v17, ref_apply]
theorem ref29_apply (x : Vec Ideal S32768x1024 .f32) (g : Vec Ideal S1x1024 .f32) (w : Vec Ideal S1024x5888 .f32) (r : Fin 32768) (j : Fin 3072) :
    val_main_v29 (F := Ideal) x g w (ix2 r j) = logistic (proj (φ := .f32) x g w r ⟨2816 + j.val, by omega⟩) := by
  pointwise [val_main_v29, val_main_v28, val_main_v27, val_main_v26, val_main_v25, val_main_v24, val_main_v23, val_main_cst_2, val_main_cst_3,
    val_main_v18, ref_apply, logistic]

/-! ## The blocks -/

/-- Every window that moves sits, at point `t`, at block row `t` and block column 0; the gain and the weights at block (0, 0). -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

/-- Row `r` of point `t`'s block of rows, among all the rows. -/
def row (t : Fin cfg0.N) (r : Fin 256) : Fin 32768 := ⟨t.val * 256 + r.val, by have h := t.isLt; have : cfg0.N = 128 := by decide
                                                                               omega⟩

variable (m : (ℓ : Loc nD τ sig) → Buf (Elt Ideal) ℓ) (ρ : Dev nD → PrngReg)

/-- A block index of the rows' window, in the array. -/
theorem iblk0_apply (c : Dev nD) (t : Fin cfg0.N) (r : Fin 256) (k : Fin 1024) :
    iblk m c 0 t (ix2 r k) = m ((c : Thread nD τ).loc main_arg0) (ix2 (row t r) k) := by
  show V m c main_arg0 (((cfg0.win 0).blk t).view.emb (ix2 r k)) = _
  rw [V_main_arg0]
  obtain ⟨e0, e1⟩ := idx0 t
  refine congrArg _ (funext fun a => Fin.ext ?_)
  match a with
  | ⟨0, _⟩ => show win0_0.index t (0 : Fin 2) * 256 + 1 * r.val = t.val * 256 + r.val; omega
  | ⟨1, _⟩ => show win0_0.index t (1 : Fin 2) * 1024 + 1 * k.val = k.val; omega

/-- The gain's block is the gain. -/
theorem iblk1_apply (c : Dev nD) (t : Fin cfg0.N) (r : Fin 1) (k : Fin 1024) :
    iblk m c 1 t (ix2 r k) = m ((c : Thread nD τ).loc main_arg1) (ix2 r k) := by
  show V m c main_arg1 (((cfg0.win 1).blk t).view.emb (ix2 r k)) = _
  rw [V_main_arg1]
  obtain ⟨e0, e1⟩ := idx1 t
  refine congrArg _ (funext fun a => Fin.ext ?_)
  match a with
  | ⟨0, _⟩ => show win0_1.index t (0 : Fin 2) * 1 + 1 * r.val = r.val; omega
  | ⟨1, _⟩ => show win0_1.index t (1 : Fin 2) * 1024 + 1 * k.val = k.val; omega

/-- The weights in the region are the argument's, rounded on the host: over the extended reals the same. -/
theorem V_v0 (c : Dev nD) : V m c main_v0 = (m ((c : Thread nD τ).loc main_arg2) : Vec Ideal S1024x5888 .f32) := by
  unfold V hostOps0
  after_results_simp
  rfl

/-- The weights' block is the weights. -/
theorem iblk2_apply (c : Dev nD) (t : Fin cfg0.N) (k : Fin 1024) (j : Fin 5888) :
    iblk m c 2 t (ix2 k j) = m ((c : Thread nD τ).loc main_arg2) (ix2 k j) := by
  show V m c main_v0 (((cfg0.win 2).blk t).view.emb (ix2 k j)) = _
  rw [V_v0]
  obtain ⟨e0, e1⟩ := idx2 t
  refine congrArg _ (funext fun a => Fin.ext ?_)
  match a with
  | ⟨0, _⟩ => show win0_2.index t (0 : Fin 2) * 1024 + 1 * k.val = k.val; omega
  | ⟨1, _⟩ => show win0_2.index t (1 : Fin 2) * 5888 + 1 * j.val = j.val; omega

theorem hz : (![0, 0] : Fin 2 → Nat) = fun _ => 0 := funext fun a => by fin_cases a <;> rfl

/-- The product over a block of rows and a band of the weights' columns is the product over all the rows and all the columns, at
    the row and the column the block and the band stand at. -/
theorem proj_block (c : Dev nD) (t : Fin cfg0.N) {p : Nat} (w : FVec Ideal ⟨2, ![1024, p]⟩ .bf16) (r : Fin 256) (j : Fin p) (q : Fin 5888)
    (hw : ∀ k : Fin 1024, w (ix2 k j) = m ((c : Thread nD τ).loc main_arg2) (ix2 k q)) :
    proj (n := 256) (iblk m c 0 t) (iblk m c 1 t) w r j
      = proj (n := 32768) (φ := .f32) (m ((c : Thread nD τ).loc main_arg0)) (m ((c : Thread nD τ).loc main_arg1))
          (m ((c : Thread nD τ).loc main_arg2)) (row t r) q := by
  unfold proj normed
  simp only [hw, iblk0_apply, iblk1_apply]

/-- An index with point `t`'s block row `r` and column `j` is row `row t r`, column `j`. -/
theorem eq_row {p : Nat} (t : Fin cfg0.N) (r : Fin 256) (j : Fin p) (b : Fin 2 → Nat) (hb : b 0 = t.val ∧ b 1 = 0)
    (i : (⟨2, ![32768, p]⟩ : Shape).Idx) (h0 : (i 0).val = b 0 * 256 + 1 * r.val) (h1 : (i 1).val = b 1 * p + 1 * j.val) :
    i = ix2 (row t r) j := by
  refine funext fun a => Fin.ext ?_
  match a with
  | ⟨0, _⟩ => show (i 0).val = t.val * 256 + r.val; rw [h0, hb.1, one_mul]
  | ⟨1, _⟩ => show (i 1).val = j.val; rw [h1, hb.2, zero_mul, one_mul, zero_add]

/-- The point whose block holds a row, and the row within the block. -/
theorem exists_row (i : Fin 32768) : ∃ (t : Fin cfg0.N) (r : Fin 256), row t r = i :=
  ⟨⟨i.val / 256, by have : cfg0.N = 128 := by decide
                    omega⟩, ⟨i.val % 256, by omega⟩, Fin.ext (by show i.val / 256 * 256 + i.val % 256 = i.val; omega)⟩

/-- Block (`r`, `j`) of point `t` in the array of the queries. -/
theorem emb3 (t : Fin cfg0.N) (r : Fin 256) (j : Fin 384) : ((cfg0.win 3).blk t).view.emb (ix2 r j) = ix2 (row t r) j :=
  eq_row t r j (win0_3.index t) (idx3 t) _ rfl rfl

/-- After the run, the array of the queries is the reference's. -/
theorem final3 (c : Dev nD) : (dats m 0 c).arrAt 3 cfg0.N
    = val_main_v19 (F := Ideal) (m ((c : Thread nD τ).loc main_arg0)) (m ((c : Thread nD τ).loc main_arg1)) (m ((c : Thread nD τ).loc main_arg2)) := by
  refine (dats m 0 c).arrAt_eq_of_cover 3 _ (fun t _ => funext fun i => ?_) fun i => ?_
  · obtain ⟨r, j, rfl⟩ : ∃ (r : Fin 256) (j : Fin 384), i = ix2 r j := ⟨i 0, i 1, eq_ix2 i⟩
    rw [flushed3]
    show out0_3 (iblk m c 0 t) (iblk m c 1 t) (iblk m c 2 t) (ix2 r j) = val_main_v19 (F := Ideal) _ _ _ (((cfg0.win 3).blk t).view.emb (ix2 r j))
    rw [emb3, ref19_apply]
    unfold out0_3
    rw [View.canon_unit_zero hz, View.ld_unit_zero hz, View.ld_unit_zero hz, pay5_apply]
    exact proj_block m c t _ r j _ fun k => by pointwise [iblk2_apply]
  · obtain ⟨R, j, rfl⟩ : ∃ (R : Fin 32768) (j : Fin 384), i = ix2 R j := ⟨i 0, i 1, eq_ix2 i⟩
    obtain ⟨t, r, rfl⟩ := exists_row R
    exact ⟨t, flush0_3 t, emb3 t r j ▸ ((cfg0.win 3).blk t).view.emb_mem_set (ix2 r j)⟩

/-- Block (`r`, `j`) of point `t` in the array of the keys. -/
theorem emb4 (t : Fin cfg0.N) (r : Fin 256) (j : Fin 384) : ((cfg0.win 4).blk t).view.emb (ix2 r j) = ix2 (row t r) j :=
  eq_row t r j (win0_4.index t) (idx4 t) _ rfl rfl

/-- After the run, the array of the keys is the reference's. -/
theorem final4 (c : Dev nD) : (dats m 0 c).arrAt 4 cfg0.N
    = val_main_v20 (F := Ideal) (m ((c : Thread nD τ).loc main_arg0)) (m ((c : Thread nD τ).loc main_arg1)) (m ((c : Thread nD τ).loc main_arg2)) := by
  refine (dats m 0 c).arrAt_eq_of_cover 4 _ (fun t _ => funext fun i => ?_) fun i => ?_
  · obtain ⟨r, j, rfl⟩ : ∃ (r : Fin 256) (j : Fin 384), i = ix2 r j := ⟨i 0, i 1, eq_ix2 i⟩
    rw [flushed4]
    show out0_4 (iblk m c 0 t) (iblk m c 1 t) (iblk m c 2 t) (ix2 r j) = val_main_v20 (F := Ideal) _ _ _ (((cfg0.win 4).blk t).view.emb (ix2 r j))
    rw [emb4, ref20_apply]
    unfold out0_4
    rw [View.canon_unit_zero hz, View.ld_unit_zero hz, View.ld_unit_zero hz, pay6_apply]
    exact proj_block m c t _ r j _ fun k => by pointwise [iblk2_apply]
  · obtain ⟨R, j, rfl⟩ : ∃ (R : Fin 32768) (j : Fin 384), i = ix2 R j := ⟨i 0, i 1, eq_ix2 i⟩
    obtain ⟨t, r, rfl⟩ := exists_row R
    exact ⟨t, flush0_4 t, emb4 t r j ▸ ((cfg0.win 4).blk t).view.emb_mem_set (ix2 r j)⟩

/-- Block (`r`, `j`) of point `t` in the array of the values. -/
theorem emb5 (t : Fin cfg0.N) (r : Fin 256) (j : Fin 384) : ((cfg0.win 5).blk t).view.emb (ix2 r j) = ix2 (row t r) j :=
  eq_row t r j (win0_5.index t) (idx5 t) _ rfl rfl

/-- After the run, the array of the values is the reference's. -/
theorem final5 (c : Dev nD) : (dats m 0 c).arrAt 5 cfg0.N
    = val_main_v21 (F := Ideal) (m ((c : Thread nD τ).loc main_arg0)) (m ((c : Thread nD τ).loc main_arg1)) (m ((c : Thread nD τ).loc main_arg2)) := by
  refine (dats m 0 c).arrAt_eq_of_cover 5 _ (fun t _ => funext fun i => ?_) fun i => ?_
  · obtain ⟨r, j, rfl⟩ : ∃ (r : Fin 256) (j : Fin 384), i = ix2 r j := ⟨i 0, i 1, eq_ix2 i⟩
    rw [flushed5]
    show out0_5 (iblk m c 0 t) (iblk m c 1 t) (iblk m c 2 t) (ix2 r j) = val_main_v21 (F := Ideal) _ _ _ (((cfg0.win 5).blk t).view.emb (ix2 r j))
    rw [emb5, ref21_apply]
    unfold out0_5
    rw [View.canon_unit_zero hz, View.ld_unit_zero hz, View.ld_unit_zero hz, pay7_apply]
    exact proj_block m c t _ r j _ fun k => by pointwise [iblk2_apply]
  · obtain ⟨R, j, rfl⟩ : ∃ (R : Fin 32768) (j : Fin 384), i = ix2 R j := ⟨i 0, i 1, eq_ix2 i⟩
    obtain ⟨t, r, rfl⟩ := exists_row R
    exact ⟨t, flush0_5 t, emb5 t r j ▸ ((cfg0.win 5).blk t).view.emb_mem_set (ix2 r j)⟩

/-- Block (`r`, `j`) of point `t` in the array of the plain columns. -/
theorem emb6 (t : Fin cfg0.N) (r : Fin 256) (j : Fin 1408) : ((cfg0.win 6).blk t).view.emb (ix2 r j) = ix2 (row t r) j :=
  eq_row t r j (win0_6.index t) (idx6 t) _ rfl rfl

/-- After the run, the array of the plain columns is the reference's. -/
theorem final6 (c : Dev nD) : (dats m 0 c).arrAt 6 cfg0.N
    = val_main_v16 (F := Ideal) (m ((c : Thread nD τ).loc main_arg0)) (m ((c : Thread nD τ).loc main_arg1)) (m ((c : Thread nD τ).loc main_arg2)) := by
  refine (dats m 0 c).arrAt_eq_of_cover 6 _ (fun t _ => funext fun i => ?_) fun i => ?_
  · obtain ⟨r, j, rfl⟩ : ∃ (r : Fin 256) (j : Fin 1408), i = ix2 r j := ⟨i 0, i 1, eq_ix2 i⟩
    rw [flushed6]
    show out0_6 (iblk m c 0 t) (iblk m c 1 t) (iblk m c 2 t) (ix2 r j) = val_main_v16 (F := Ideal) _ _ _ (((cfg0.win 6).blk t).view.emb (ix2 r j))
    rw [emb6, ref16_apply]
    unfold out0_6 k0_pay9
    rw [View.canon_unit_zero hz, View.ld_unit_zero hz, View.ld_unit_zero hz, pay1_apply]
    exact proj_block m c t _ r j _ fun k => by pointwise [iblk2_apply]
  · obtain ⟨R, j, rfl⟩ : ∃ (R : Fin 32768) (j : Fin 1408), i = ix2 R j := ⟨i 0, i 1, eq_ix2 i⟩
    obtain ⟨t, r, rfl⟩ := exists_row R
    exact ⟨t, flush0_6 t, emb6 t r j ▸ ((cfg0.win 6).blk t).view.emb_mem_set (ix2 r j)⟩

/-- Block (`r`, `j`) of point `t` in the array of the memory queries. -/
theorem emb7 (t : Fin cfg0.N) (r : Fin 256) (j : Fin 256) : ((cfg0.win 7).blk t).view.emb (ix2 r j) = ix2 (row t r) j :=
  eq_row t r j (win0_7.index t) (idx7 t) _ rfl rfl

/-- After the run, the array of the memory queries is the reference's. -/
theorem final7 (c : Dev nD) : (dats m 0 c).arrAt 7 cfg0.N
    = val_main_v22 (F := Ideal) (m ((c : Thread nD τ).loc main_arg0)) (m ((c : Thread nD τ).loc main_arg1)) (m ((c : Thread nD τ).loc main_arg2)) := by
  refine (dats m 0 c).arrAt_eq_of_cover 7 _ (fun t _ => funext fun i => ?_) fun i => ?_
  · obtain ⟨r, j, rfl⟩ : ∃ (r : Fin 256) (j : Fin 256), i = ix2 r j := ⟨i 0, i 1, eq_ix2 i⟩
    rw [flushed7]
    show out0_7 (iblk m c 0 t) (iblk m c 1 t) (iblk m c 2 t) (ix2 r j) = val_main_v22 (F := Ideal) _ _ _ (((cfg0.win 7).blk t).view.emb (ix2 r j))
    rw [emb7, ref22_apply]
    unfold out0_7 k0_pay9
    rw [View.canon_unit_zero hz, View.ld_unit_zero hz, View.ld_unit_zero hz, pay2_apply]
    exact proj_block m c t _ r j _ fun k => by pointwise [iblk2_apply]
  · obtain ⟨R, j, rfl⟩ : ∃ (R : Fin 32768) (j : Fin 256), i = ix2 R j := ⟨i 0, i 1, eq_ix2 i⟩
    obtain ⟨t, r, rfl⟩ := exists_row R
    exact ⟨t, flush0_7 t, emb7 t r j ▸ ((cfg0.win 7).blk t).view.emb_mem_set (ix2 r j)⟩

/-- Block (`r`, `j`) of point `t` in the array of the gates. -/
theorem emb8 (t : Fin cfg0.N) (r : Fin 256) (j : Fin 3072) : ((cfg0.win 8).blk t).view.emb (ix2 r j) = ix2 (row t r) j :=
  eq_row t r j (win0_8.index t) (idx8 t) _ rfl rfl

/-- After the run, the array of the gates is the reference's. -/
theorem final8 (c : Dev nD) : (dats m 0 c).arrAt 8 cfg0.N
    = val_main_v29 (F := Ideal) (m ((c : Thread nD τ).loc main_arg0)) (m ((c : Thread nD τ).loc main_arg1)) (m ((c : Thread nD τ).loc main_arg2)) := by
  refine (dats m 0 c).arrAt_eq_of_cover 8 _ (fun t _ => funext fun i => ?_) fun i => ?_
  · obtain ⟨r, j, rfl⟩ : ∃ (r : Fin 256) (j : Fin 3072), i = ix2 r j := ⟨i 0, i 1, eq_ix2 i⟩
    rw [flushed8]
    show out0_8 (iblk m c 0 t) (iblk m c 1 t) (iblk m c 2 t) (ix2 r j) = val_main_v29 (F := Ideal) _ _ _ (((cfg0.win 8).blk t).view.emb (ix2 r j))
    rw [emb8, ref29_apply]
    unfold out0_8 k0_pay9
    rw [View.canon_unit_zero hz, View.ld_unit_zero hz, View.ld_unit_zero hz, pay3_apply]
    exact congrArg logistic (proj_block m c t _ r j _ fun k => by pointwise [iblk2_apply])
  · obtain ⟨R, j, rfl⟩ : ∃ (R : Fin 32768) (j : Fin 3072), i = ix2 R j := ⟨i 0, i 1, eq_ix2 i⟩
    obtain ⟨t, r, rfl⟩ := exists_row R
    exact ⟨t, flush0_8 t, emb8 t r j ▸ ((cfg0.win 8).blk t).view.emb_mem_set (ix2 r j)⟩

/-! ## The claim -/

/-- The kernel's run and the reference's end with the same six result arrays, from memories that agree on the arguments. -/
theorem algebraic : Cert.algebraic_InProjIdeal_InProjRefIdeal := by
  intro m ρ m' ρ' _ hag
  refine ⟨fun c => val_main_v19 (F := Ideal) (m ((c : Thread nD τ).loc main_arg0)) (m ((c : Thread nD τ).loc main_arg1)) (m ((c : Thread nD τ).loc main_arg2)),
    fun c => val_main_v20 (F := Ideal) (m ((c : Thread nD τ).loc main_arg0)) (m ((c : Thread nD τ).loc main_arg1)) (m ((c : Thread nD τ).loc main_arg2)),
    fun c => val_main_v21 (F := Ideal) (m ((c : Thread nD τ).loc main_arg0)) (m ((c : Thread nD τ).loc main_arg1)) (m ((c : Thread nD τ).loc main_arg2)),
    fun c => val_main_v16 (F := Ideal) (m ((c : Thread nD τ).loc main_arg0)) (m ((c : Thread nD τ).loc main_arg1)) (m ((c : Thread nD τ).loc main_arg2)),
    fun c => val_main_v22 (F := Ideal) (m ((c : Thread nD τ).loc main_arg0)) (m ((c : Thread nD τ).loc main_arg1)) (m ((c : Thread nD τ).loc main_arg2)),
    fun c => val_main_v29 (F := Ideal) (m ((c : Thread nD τ).loc main_arg0)) (m ((c : Thread nD τ).loc main_arg1)) (m ((c : Thread nD τ).loc main_arg2)),
    (θ_run Cert.InProjIdeal.defs _ _).mono (fun r h c => ?_) (run_blocks m ρ), (θ_run Cert.InProjRefIdeal.defs _ _).mono (fun r h c => ?_) (Cert.InProjRefIdeal.Value.run m' ρ')⟩
  · obtain ⟨h3, h4, h5, h6, h7, h8, ha⟩ := h c
    exact ⟨h3.trans (final3 m c), h4.trans (final4 m c), h5.trans (final5 m c), h6.trans (final6 m c), h7.trans (final7 m c), h8.trans (final8 m c), ha⟩
  · obtain ⟨h3, h4, h5, h6, h7, h8, ha⟩ := h c
    obtain ⟨e0, e1, e2⟩ := hag c
    rw [val_main_v19_eq, e0, e1, e2] at h3
    rw [val_main_v20_eq, e0, e1, e2] at h4
    rw [val_main_v21_eq, e0, e1, e2] at h5
    rw [val_main_v16_eq, e0, e1, e2] at h6
    rw [val_main_v22_eq, e0, e1, e2] at h7
    rw [val_main_v29_eq, e0, e1, e2] at h8
    exact ⟨h3, h4, h5, h6, h7, h8, ha⟩

end Cert.Proof.InProj

end
-- ==== Proof.Attn.Trip.lean ====
/- One trip of the attention kernel's loop: the piece it stores, as one function of the blocks it loads. -/
module

public import proofs.«01_k».proof.Proof.Gen.AttnIdeal.Frame
public import Idealize.ShloMosaic.Lib.Pointwise

@[expose] public section

noncomputable section

namespace Cert.Proof.Attn

open Cert.AttnIdeal Cert.AttnIdeal.Gen Idealize.ShloMosaic Idealize.ShloMosaic.TcCoe Idealize.SL.Sem

variable {F : FTy → Type} [FloatOps F] [Named F]

/-- The block of one image row that a trip stores, from the queries `q` of the row, the keys `k` and values `v` of its
    window of eight rows, and the six heads' biases `b0 … b5`. -/
def rowOut (q : Vec F S1x64x384 .bf16) (k v : Vec F S1x512x384 .bf16) (b0 b1 b2 b3 b4 b5 : Vec F S1x1x64x512 .f32) : Vec F S1x64x384 .bf16 :=
  k1_pay2 (k1_pay5 v) (k1_pay9 (k1_pay4 k) (k1_pay7 k1_pay1 q) b4 b5) (k1_pay10 (k1_pay8 k1_pay1 q k) b0 b1)
    (k1_pay11 (k1_pay4 k) (k1_pay6 k1_pay1 q) b2 b3) (k1_pay12 (k1_pay4 k) (k1_pay7 k1_pay1 q) b4 b5)

/-- The rectangle a trip stores to, and the block stored there. -/
def rowPiece (i : grid1.Coords) (k : Fin k1_t1_loop.trips) (x0 : Vec F S1x1024x384 .bf16) (x1 x2 : Vec F S1x8192x384 .bf16) (x3 : Vec F S6x8x64x512 .f32) : View.Piece (Elt F) S1x1024x384 .bf16 :=
  ⟨Rect.unit (s := S1x1024x384) (k1_off1 k) S1x64x384.size (k1_off1_inb k),
    rowOut (View.ld x0 (Rect.unit (s := S1x1024x384) (k1_off1 k) S1x64x384.size (k1_off1_inb k)))
      (View.ld x1 (Rect.unit (s := S1x8192x384) (k1_off2 i k) S1x512x384.size (k1_off2_inb i k)))
      (View.ld x2 (Rect.unit (s := S1x8192x384) (k1_off2 i k) S1x512x384.size (k1_off2_inb i k)))
      (View.ld x3 (Rect.unit (s := S6x8x64x512) (k1_off3 i k) S1x1x64x512.size (k1_off3_inb i k)))
      (View.ld x3 (Rect.unit (s := S6x8x64x512) (k1_off4 i k) S1x1x64x512.size (k1_off4_inb i k)))
      (View.ld x3 (Rect.unit (s := S6x8x64x512) (k1_off5 i k) S1x1x64x512.size (k1_off5_inb i k)))
      (View.ld x3 (Rect.unit (s := S6x8x64x512) (k1_off6 i k) S1x1x64x512.size (k1_off6_inb i k)))
      (View.ld x3 (Rect.unit (s := S6x8x64x512) (k1_off7 i k) S1x1x64x512.size (k1_off7_inb i k)))
      (View.ld x3 (Rect.unit (s := S6x8x64x512) (k1_off8 i k) S1x1x64x512.size (k1_off8_inb i k)))⟩

/-- A trip stores that one piece. -/
theorem trip_eq (𝒱 : Variants) (c : Dev nD) (bd : Option 𝒱.V) (i : grid1.Coords) (arg2 : Memref sig .tc .vmem S1x1024x384 .bf16) (harg2 : arg2.IsWhole) (arg3 : Memref sig .tc .vmem S1x8192x384 .bf16) (harg3 : arg3.IsWhole) (arg4 : Memref sig .tc .vmem S1x8192x384 .bf16) (harg4 : arg4.IsWhole) (arg5 : Memref sig .tc .vmem S6x8x64x512 .f32) (harg5 : arg5.IsWhole) (arg6 : Memref sig .tc .vmem S1x1024x384 .bf16) (harg6 : arg6.IsWhole) (arg1 : BitVec 32)
    (f2 : BufTy.Contents (Elt F) arg2.view.ty) (f3 : BufTy.Contents (Elt F) arg3.view.ty) (f4 : BufTy.Contents (Elt F) arg4.view.ty) (f5 : BufTy.Contents (Elt F) arg5.view.ty) (k : Fin k1_t1_loop.trips) :
    tripL_k1_t1 (F := F) 𝒱 c bd i arg2 harg2 arg3 harg3 arg4 harg4 arg5 harg5 arg6 harg6 arg1 f2 f3 f4 f5 k
      = [rowPiece i k (arg2.view.read (Elt F) f2) (arg3.view.read (Elt F) f3) (arg4.view.read (Elt F) f4) (arg5.view.read (Elt F) f5)] := by
  unfold tripL_k1_t1 trip_k1_t1
  rfl

/-- The pieces of the trips before `n`, the last first. -/
def rowPieces (i : grid1.Coords) (x0 : Vec F S1x1024x384 .bf16) (x1 x2 : Vec F S1x8192x384 .bf16) (x3 : Vec F S6x8x64x512 .f32) : ℕ → List (View.Piece (Elt F) S1x1024x384 .bf16)
  | 0 => []
  | n + 1 => if h : n < k1_t1_loop.trips then rowPiece i ⟨n, h⟩ x0 x1 x2 x3 :: rowPieces i x0 x1 x2 x3 n else rowPieces i x0 x1 x2 x3 n

/-- The loop's pieces are these. -/
theorem pb_eq (𝒱 : Variants) (c : Dev nD) (bd : Option 𝒱.V) (i : grid1.Coords) (arg2 : Memref sig .tc .vmem S1x1024x384 .bf16) (harg2 : arg2.IsWhole) (arg3 : Memref sig .tc .vmem S1x8192x384 .bf16) (harg3 : arg3.IsWhole) (arg4 : Memref sig .tc .vmem S1x8192x384 .bf16) (harg4 : arg4.IsWhole) (arg5 : Memref sig .tc .vmem S6x8x64x512 .f32) (harg5 : arg5.IsWhole) (arg6 : Memref sig .tc .vmem S1x1024x384 .bf16) (harg6 : arg6.IsWhole) (arg1 : BitVec 32)
    (f2 : BufTy.Contents (Elt F) arg2.view.ty) (f3 : BufTy.Contents (Elt F) arg3.view.ty) (f4 : BufTy.Contents (Elt F) arg4.view.ty) (f5 : BufTy.Contents (Elt F) arg5.view.ty) (n : ℕ) :
    pb_k1_t1 (F := F) 𝒱 c bd i arg2 harg2 arg3 harg3 arg4 harg4 arg5 harg5 arg6 harg6 arg1 f2 f3 f4 f5 n
      = rowPieces i (arg2.view.read (Elt F) f2) (arg3.view.read (Elt F) f3) (arg4.view.read (Elt F) f4) (arg5.view.read (Elt F) f5) n := by
  induction n with
  | zero => rfl
  | succ n ih =>
    rw [pb_k1_t1.eq_2, rowPieces]
    unfold pb_k1_t1Step
    split
    · rw [trip_eq, ih]; rfl
    · exact ih

/-- Where entry `y` of a row's block lies in the block of the grid point. -/
theorem rowPiece_emb (i : grid1.Coords) (k : Fin k1_t1_loop.trips) (x0 : Vec F S1x1024x384 .bf16) (x1 x2 : Vec F S1x8192x384 .bf16) (x3 : Vec F S6x8x64x512 .f32)
    (y : S1x64x384.Idx) (a : Fin 3) : ((rowPiece i k x0 x1 x2 x3).1.emb y a).val = (![0, 64 * k.val, 0] : Fin 3 → ℕ) a + (y a).val := by
  show k1_off1 k a + 1 * (y a).val = _
  rw [k1_off1_eq, Nat.one_mul]

/-- A row's block in the canonical contents of the pieces of the trips before `n`, at distinct rows: that row's piece. -/
theorem canon_rowPieces (i : grid1.Coords) (x0 : Vec F S1x1024x384 .bf16) (x1 x2 : Vec F S1x8192x384 .bf16) (x3 : Vec F S6x8x64x512 .f32) (k : Fin k1_t1_loop.trips) (y : S1x64x384.Idx) (n : ℕ) (hn : k.val < n) :
    View.canon (rowPieces i x0 x1 x2 x3 n) ((rowPiece i k x0 x1 x2 x3).1.emb y) = (rowPiece i k x0 x1 x2 x3).2 y := by
  induction n with
  | zero => omega
  | succ n ih =>
    rw [rowPieces]
    split
    · next h =>
      by_cases hk : k.val = n
      · subst hk
        exact View.canon_cons_emb ..
      · rw [View.canon_cons_of_not_mem]
        · exact ih (by omega)
        · intro hm
          obtain ⟨z, hz, e⟩ := (rowPiece i ⟨n, h⟩ x0 x1 x2 x3).1.mem_set.mp hm 1
          have e1 := rowPiece_emb i k x0 x1 x2 x3 y 1
          have hy : (y 1).val < 64 := (y 1).isLt
          replace hz : z < 64 := hz
          replace e : ((rowPiece i k x0 x1 x2 x3).1.emb y 1).val = k1_off1 ⟨n, h⟩ 1 + 1 * z := e
          rw [k1_off1_eq, e1] at e
          simp only [Matrix.cons_val_one, Matrix.cons_val_zero] at e
          omega
    · next h => exact ih (by omega)

/-- The block a run of the body writes is the canonical contents of its sixteen rows' pieces. -/
theorem out_eq (c : Dev nD) (i : grid1.Coords) (arg2 : Memref sig .tc .vmem S1x1024x384 .bf16) (harg2 : arg2.IsWhole) (arg3 : Memref sig .tc .vmem S1x8192x384 .bf16) (harg3 : arg3.IsWhole) (arg4 : Memref sig .tc .vmem S1x8192x384 .bf16) (harg4 : arg4.IsWhole) (arg5 : Memref sig .tc .vmem S6x8x64x512 .f32) (harg5 : arg5.IsWhole) (arg6 : Memref sig .tc .vmem S1x1024x384 .bf16) (harg6 : arg6.IsWhole)
    (x0 : Vec F S1x1024x384 .bf16) (x1 x2 : Vec F S1x8192x384 .bf16) (x3 : Vec F S6x8x64x512 .f32) :
    out1_A_4 c i arg2 harg2 arg3 harg3 arg4 harg4 arg5 harg5 arg6 harg6 x0 x1 x2 x3 = View.canon (rowPieces i x0 x1 x2 x3 k1_t1_loop.trips) := by
  unfold out1_A_4
  rw [View.read_writes_eq_canon _ _ _ (cover1_A_4 c i arg2 harg2 arg3 harg3 arg4 harg4 arg5 harg5 arg6 harg6 x0 x1 x2 x3)]
  refine congrArg View.canon ?_
  have h : (kernelRun1_A c i arg2 harg2 arg3 harg3 arg4 harg4 arg5 harg5 arg6 harg6 x0 x1 x2 x3).1
      = pb_k1_t1 (F := F) Variants.none c none i arg2 harg2 arg3 harg3 arg4 harg4 arg5 harg5 arg6 harg6 (BitVec.ofNat 32 (i 1).val) (harg2.unread x0) (harg3.unread x1) (harg4.unread x2) (harg5.unread x3) k1_t1_loop.trips := by
    unfold kernelRun1_A
    rfl
  rw [h, pb_eq, harg2.read_unread, harg3.read_unread, harg4.read_unread, harg5.read_unread]

end Cert.Proof.Attn

end
-- ==== Proof.Attn.Row.lean ====
/- The block one trip stores, entry by entry: the softmax average of the values. -/
module

public import proofs.«01_k».proof.Proof.Attn.Trip
public import Idealize.ShloMosaic.Lib.Pointwise

@[expose] public section

noncomputable section

namespace Cert.Proof.Attn

open Cert.AttnIdeal Cert.AttnIdeal.Gen Idealize.ShloMosaic Idealize.ShloMosaic.TcCoe Idealize.SL.Sem

/-- A lane below 64 is below 64 as a signed word. -/
theorem lane_low (n : ℕ) (h : n < 64) : IntOp.cmpi CmpIPredicate.slt (BitVec.ofNat 32 n) 64#32 = 1#1 :=
  (by decide +kernel : ∀ n : Fin 64, IntOp.cmpi CmpIPredicate.slt (BitVec.ofNat 32 n.val) 64#32 = 1#1) ⟨n, h⟩

/-- A lane from 64 on is not below 64 as a signed word. -/
theorem lane_high (n : ℕ) (h : 64 ≤ n ∧ n < 128) : IntOp.cmpi CmpIPredicate.slt (BitVec.ofNat 32 n) 64#32 = 0#1 := by
  obtain ⟨m, rfl⟩ := Nat.exists_eq_add_of_le h.1
  exact (by decide +kernel : ∀ n : Fin 64, IntOp.cmpi CmpIPredicate.slt (BitVec.ofNat 32 (64 + n.val)) 64#32 = 0#1) ⟨m, by omega⟩

/-- A choice on a true bit. -/
theorem select_one {α : Type} (a b : α) : Scalar.select 1#1 a b = a := rfl

/-- A choice on a false bit. -/
theorem select_zero {α : Type} (a b : α) : Scalar.select 0#1 a b = b := rfl

/-- A sum over 128 lanes of which the upper half is cleared. -/
theorem lanes_lo (f : Fin 128 → EReal) : ∑ x : Fin 128, Scalar.select (IntOp.cmpi CmpIPredicate.slt (BitVec.ofNat 32 x.val) 64#32) (f x) 0
    = ∑ d : Fin 64, f ⟨d.val, by omega⟩ := by
  refine (Fin.sum_univ_add (a := 64) (b := 64) _).trans ?_
  rw [Finset.sum_eq_zero (s := Finset.univ) (f := fun i : Fin 64 => Scalar.select (IntOp.cmpi CmpIPredicate.slt (BitVec.ofNat 32 (Fin.natAdd 64 i).val) 64#32) (f (Fin.natAdd 64 i)) (0 : EReal)), add_zero]
  · refine Finset.sum_congr rfl fun d _ => ?_
    rw [lane_low _ (show (Fin.castAdd 64 d).val < 64 from d.isLt), select_one]; rfl
  · intro d _
    rw [lane_high (Fin.natAdd 64 d).val ⟨Nat.le_add_right _ _, (Fin.natAdd 64 d).isLt⟩, select_zero]

/-- A sum over 128 lanes of which the lower half is cleared. -/
theorem lanes_hi (f : Fin 128 → EReal) : ∑ x : Fin 128, Scalar.select (IntOp.cmpi CmpIPredicate.slt (BitVec.ofNat 32 x.val) 64#32) 0 (f x)
    = ∑ d : Fin 64, f ⟨64 + d.val, by omega⟩ := by
  refine (Fin.sum_univ_add (a := 64) (b := 64) _).trans ?_
  rw [Finset.sum_eq_zero (s := Finset.univ) (f := fun i : Fin 64 => Scalar.select (IntOp.cmpi CmpIPredicate.slt (BitVec.ofNat 32 (Fin.castAdd 64 i).val) 64#32) (0 : EReal) (f (Fin.castAdd 64 i))), zero_add]
  · refine Finset.sum_congr rfl fun d _ => ?_
    rw [lane_high (Fin.natAdd 64 d).val ⟨Nat.le_add_right _ _, (Fin.natAdd 64 d).isLt⟩, select_zero]; rfl
  · intro d _
    rw [lane_low _ (show (Fin.castAdd 64 d).val < 64 from d.isLt), select_one]

/-- The greatest of the scores, from minus infinity on. -/
def top {n : ℕ} (s : Fin n → EReal) : EReal := Finset.univ.fold max (Ideal.ofBits FTy.f32 4286578688#32) s

/-- The average of `v` with the softmax weights of the scores `s`, the division last. -/
def average {n : ℕ} (s v : Fin n → EReal) : EReal := Ideal.div (∑ c, Ideal.exp (s c - top s) * v c) (∑ c, Ideal.exp (s c - top s))

/-- The index of head `h`'s feature `d` among 384. -/
def feat (h : Fin 6) (d : Fin 64) : Fin 384 := ⟨64 * h.val + d.val, by omega⟩

/-- The score of window position `c` for the query `w` of a row, in head `h`. -/
def score (q : Vec Ideal S1x64x384 .bf16) (k : Vec Ideal S1x512x384 .bf16) (b : Fin 6 → Vec Ideal S1x1x64x512 .f32) (h : Fin 6) (w : Fin 64) (c : Fin 512) : EReal :=
  (∑ d : Fin 64, q (ix3 0 w (feat h d)) * Ideal.ofBits FTy.bf16 15872#16 * k (ix3 0 c (feat h d))) + b h (ix4 0 0 w c)

/-- Taking 128 off and putting it back. -/
theorem back_128 (j : ℕ) (h : 128 ≤ j) : 128 + (j - 128) = j := by omega

/-- Taking 256 off in two steps and putting it back. -/
theorem back_256 (j : ℕ) (h : 256 ≤ j) : 256 + (j - 128 - 128) = j := by omega

set_option maxHeartbeats 2000000 in
/-- Feature `d` of head `h` in the block of a row: the softmax average of that feature of the values. -/
theorem rowOut_apply (q : Vec Ideal S1x64x384 .bf16) (k v : Vec Ideal S1x512x384 .bf16) (b : Fin 6 → Vec Ideal S1x1x64x512 .f32) (w : Fin 64) (h : Fin 6) (d : Fin 64)
    (j : Fin 384) (hj : j.val = 64 * h.val + d.val) :
    rowOut q k v (b 0) (b 1) (b 2) (b 3) (b 4) (b 5) (ix3 0 w j) = average (score q k b h w) (fun c => v (ix3 0 c (feat h d))) := by
  have hd : d.val < 64 := d.isLt
  have hj2 : j = feat h d := Fin.ext hj
  have hs : score q k b h w = fun c => (∑ d : Fin 64, q (ix3 0 w (feat h d)) * Ideal.ofBits FTy.bf16 15872#16 * k (ix3 0 c (feat h d))) + b h (ix4 0 0 w c) := rfl
  rw [hs]
  clear hs
  pointwise [rowOut, k1_pay2, k1_pay5]
  fin_cases h <;> (
    simp only [Nat.reduceMul, Nat.zero_add] at hj
    simp (discharger := omega) only [dif_pos, dif_neg, lane_low, lane_high, select_one, select_zero]
    pointwise [k1_pay9,k1_pay4,k1_pay7,k1_pay1,k1_pay3,k1_pay10,k1_pay8,k1_pay11,k1_pay6,k1_pay12]
    simp only [lanes_lo, lanes_hi]
    simp (discharger := omega) only [lane_low, lane_high, select_one, select_zero, back_128, back_256]
    simp only [average, top, feat, hj, Fin.coe_ofNat_eq_mod, Nat.reduceMod, ← Nat.add_assoc, Nat.reduceAdd, Nat.reduceMul, Nat.zero_add]
    try simp only [hj2, feat, Fin.coe_ofNat_eq_mod, Nat.reduceMod, Nat.reduceMul, Nat.zero_add])

end Cert.Proof.Attn

end
-- ==== Proof.Attn.Final.lean ====
/- What the attention kernel leaves in its result array, entry by entry: for every query the softmax average over the 512
   positions of its eight-row window, the scores offset by a table of biases. -/
module

public import proofs.«01_k».proof.Proof.Attn.Row

@[expose] public section

set_option maxRecDepth 16384

noncomputable section

namespace Cert.Proof.Attn

open Cert.AttnIdeal Cert.AttnIdeal.Gen Idealize.ShloMosaic Idealize.ShloMosaic.TcCoe Idealize.SL.Sem

/-- The first of the eight image rows a query of row `r` looks at. -/
def rowStart (r : Fin 128) : Fin 121 := ⟨min 120 (r.val - 4), by omega⟩

/-- How far a row is below the first row it looks at. -/
def rowShift (r : Fin 128) : Fin 8 := ⟨r.val - min 120 (r.val - 4), by omega⟩

/-- The position of column `w` of image row `r` among the 8192. -/
def tok (r : Fin 128) (w : Fin 64) : Fin 8192 := ⟨64 * r.val + w.val, by omega⟩

/-- Position `c` of the eight-row window of row `r` among the 8192. -/
def winTok (r : Fin 128) (c : Fin 512) : Fin 8192 := ⟨64 * (rowStart r).val + c.val, by have := (rowStart r).isLt; omega⟩

/-- The softmax average the kernel computes for a query, at one feature of one head. -/
def attend (q k v : Vec Ideal S4x8192x384 .bf16) (tab : Vec Ideal S6x8x64x512 .f32) (b : Fin 4) (r : Fin 128) (w : Fin 64) (h : Fin 6) (d : Fin 64) : EReal :=
  average (fun c : Fin 512 => (∑ e : Fin 64, q (ix3 b (tok r w) (feat h e)) * Ideal.ofBits FTy.bf16 15872#16 * k (ix3 b (winTok r c) (feat h e))) + tab (ix4 h (rowShift r) w c))
    (fun c => v (ix3 b (winTok r c) (feat h d)))

/-! ## The loop's offsets -/

/-- The image row of trip `k` at the grid point `i`. -/
def rowAt (i : grid1.Coords) (k : Fin k1_t1_loop.trips) : Fin 128 := ⟨16 * (i 1).val + k.val, by
  have h1 : (i 1).val < 8 := (i 1).isLt
  have h2 : k.val < 16 := k.isLt
  omega⟩

/-- The coordinates of a grid point: its image and its band of sixteen rows. -/
def coords (b : Fin 4) (j : Fin 8) : grid1.Coords := fun a => match a with | ⟨0, _⟩ => b | ⟨1, _⟩ => j

theorem coords_eta (i : grid1.Coords) : i = coords (i 0) (i 1) := funext fun a => by
  match a with
  | ⟨0, _⟩ => rfl
  | ⟨1, _⟩ => rfl

/-- The keys' and the values' window starts at the first row looked at. -/
theorem off2_eq (i : grid1.Coords) (k : Fin k1_t1_loop.trips) (a : Fin 3) : k1_off2 i k a = (![0, 64 * (rowStart (rowAt i k)).val, 0] : Fin 3 → ℕ) a := by
  rw [coords_eta i]
  exact (by decide +kernel : ∀ (j : Fin 8) (k : Fin k1_t1_loop.trips) (a : Fin 3), k1_off2 (coords 0 j) k a = (![0, 64 * (rowStart (rowAt (coords 0 j) k)).val, 0] : Fin 3 → ℕ) a) (i 1) k a

/-- The biases' window of each head is the one of the row's shift. -/
theorem off3_eq (i : grid1.Coords) (k : Fin k1_t1_loop.trips) (a : Fin 4) : k1_off3 i k a = (![0, (rowShift (rowAt i k)).val, 0, 0] : Fin 4 → ℕ) a := by
  rw [coords_eta i]
  exact (by decide +kernel : ∀ (j : Fin 8) (k : Fin k1_t1_loop.trips) (a : Fin 4), k1_off3 (coords 0 j) k a = (![0, (rowShift (rowAt (coords 0 j) k)).val, 0, 0] : Fin 4 → ℕ) a) (i 1) k a
theorem off4_eq (i : grid1.Coords) (k : Fin k1_t1_loop.trips) (a : Fin 4) : k1_off4 i k a = (![1, (rowShift (rowAt i k)).val, 0, 0] : Fin 4 → ℕ) a := by
  have := off3_eq i k a
  match a with
  | ⟨0, _⟩ => rfl
  | ⟨1, _⟩ => exact this
  | ⟨2, _⟩ => rfl
  | ⟨3, _⟩ => rfl
theorem off5_eq (i : grid1.Coords) (k : Fin k1_t1_loop.trips) (a : Fin 4) : k1_off5 i k a = (![2, (rowShift (rowAt i k)).val, 0, 0] : Fin 4 → ℕ) a := by
  have := off3_eq i k a
  match a with
  | ⟨0, _⟩ => rfl
  | ⟨1, _⟩ => exact this
  | ⟨2, _⟩ => rfl
  | ⟨3, _⟩ => rfl
theorem off6_eq (i : grid1.Coords) (k : Fin k1_t1_loop.trips) (a : Fin 4) : k1_off6 i k a = (![3, (rowShift (rowAt i k)).val, 0, 0] : Fin 4 → ℕ) a := by
  have := off3_eq i k a
  match a with
  | ⟨0, _⟩ => rfl
  | ⟨1, _⟩ => exact this
  | ⟨2, _⟩ => rfl
  | ⟨3, _⟩ => rfl
theorem off7_eq (i : grid1.Coords) (k : Fin k1_t1_loop.trips) (a : Fin 4) : k1_off7 i k a = (![4, (rowShift (rowAt i k)).val, 0, 0] : Fin 4 → ℕ) a := by
  have := off3_eq i k a
  match a with
  | ⟨0, _⟩ => rfl
  | ⟨1, _⟩ => exact this
  | ⟨2, _⟩ => rfl
  | ⟨3, _⟩ => rfl
theorem off8_eq (i : grid1.Coords) (k : Fin k1_t1_loop.trips) (a : Fin 4) : k1_off8 i k a = (![5, (rowShift (rowAt i k)).val, 0, 0] : Fin 4 → ℕ) a := by
  have := off3_eq i k a
  match a with
  | ⟨0, _⟩ => rfl
  | ⟨1, _⟩ => exact this
  | ⟨2, _⟩ => rfl
  | ⟨3, _⟩ => rfl

/-! ## The loads of a trip -/

/-- The queries of a trip's row. -/
theorem ldq (x : Vec Ideal S1x1024x384 .bf16) (k : Fin k1_t1_loop.trips) (w : Fin 64) (f : Fin 384) :
    View.ld x (Rect.unit (s := S1x1024x384) (k1_off1 k) S1x64x384.size (k1_off1_inb k)) (ix3 0 w f)
      = x (ix3 0 ⟨64 * k.val + w.val, by have h : k.val < 16 := k.isLt; omega⟩ f) := by
  refine congrArg x (funext fun a => Fin.ext ?_)
  show k1_off1 k a + 1 * _ = _
  rw [congrFun (k1_off1_eq k) a]
  match a with
  | ⟨0, _⟩ => rfl
  | ⟨1, _⟩ => show 64 * k.val + 1 * w.val = 64 * k.val + w.val; omega
  | ⟨2, _⟩ => show 0 + 1 * f.val = f.val; omega

/-- The keys (or the values) of a trip's window. -/
theorem ldk (x : Vec Ideal S1x8192x384 .bf16) (i : grid1.Coords) (k : Fin k1_t1_loop.trips) (c : Fin 512) (f : Fin 384) :
    View.ld x (Rect.unit (s := S1x8192x384) (k1_off2 i k) S1x512x384.size (k1_off2_inb i k)) (ix3 0 c f) = x (ix3 0 (winTok (rowAt i k) c) f) := by
  refine congrArg x (funext fun a => Fin.ext ?_)
  show k1_off2 i k a + 1 * _ = _
  rw [off2_eq]
  match a with
  | ⟨0, _⟩ => rfl
  | ⟨1, _⟩ => show 64 * (rowStart (rowAt i k)).val + 1 * c.val = 64 * (rowStart (rowAt i k)).val + c.val; omega
  | ⟨2, _⟩ => show 0 + 1 * f.val = f.val; omega

/-- The biases of one head at a trip, from a rectangle at that head and the row's shift. -/
theorem ldb (x : Vec Ideal S6x8x64x512 .f32) (off : Fin 4 → ℕ) (inb : ∀ a, off a + S1x1x64x512.size a ≤ S6x8x64x512.size a) (h : Fin 6) (s : Fin 8)
    (e : ∀ a, off a = (![h.val, s.val, 0, 0] : Fin 4 → ℕ) a) (w : Fin 64) (c : Fin 512) :
    View.ld x (Rect.unit (s := S6x8x64x512) off S1x1x64x512.size inb) (ix4 0 0 w c) = x (ix4 h s w c) := by
  refine congrArg x (funext fun a => Fin.ext ?_)
  show off a + 1 * _ = _
  rw [e]
  match a with
  | ⟨0, _⟩ => rfl
  | ⟨1, _⟩ => rfl
  | ⟨2, _⟩ => show 0 + 1 * w.val = w.val; omega
  | ⟨3, _⟩ => show 0 + 1 * c.val = c.val; omega

/-- The block a trip stores, at an index, from the blocks of the grid point. -/
theorem rowPiece_apply (i : grid1.Coords) (k : Fin k1_t1_loop.trips) (x0 : Vec Ideal S1x1024x384 .bf16) (x1 x2 : Vec Ideal S1x8192x384 .bf16) (x3 : Vec Ideal S6x8x64x512 .f32)
    (w : Fin 64) (h : Fin 6) (d : Fin 64) :
    (rowPiece i k x0 x1 x2 x3).2 (ix3 0 w (feat h d))
      = average (fun c : Fin 512 => (∑ e : Fin 64, x0 (ix3 0 ⟨64 * k.val + w.val, by have h : k.val < 16 := k.isLt; omega⟩ (feat h e)) * Ideal.ofBits FTy.bf16 15872#16
            * x1 (ix3 0 (winTok (rowAt i k) c) (feat h e))) + x3 (ix4 h (rowShift (rowAt i k)) w c))
          (fun c => x2 (ix3 0 (winTok (rowAt i k) c) (feat h d))) := by
  have hr := rowOut_apply (View.ld x0 (Rect.unit (s := S1x1024x384) (k1_off1 k) S1x64x384.size (k1_off1_inb k)))
      (View.ld x1 (Rect.unit (s := S1x8192x384) (k1_off2 i k) S1x512x384.size (k1_off2_inb i k)))
      (View.ld x2 (Rect.unit (s := S1x8192x384) (k1_off2 i k) S1x512x384.size (k1_off2_inb i k)))
      (fun h => match h with
        | ⟨0, _⟩ => View.ld x3 (Rect.unit (s := S6x8x64x512) (k1_off3 i k) S1x1x64x512.size (k1_off3_inb i k))
        | ⟨1, _⟩ => View.ld x3 (Rect.unit (s := S6x8x64x512) (k1_off4 i k) S1x1x64x512.size (k1_off4_inb i k))
        | ⟨2, _⟩ => View.ld x3 (Rect.unit (s := S6x8x64x512) (k1_off5 i k) S1x1x64x512.size (k1_off5_inb i k))
        | ⟨3, _⟩ => View.ld x3 (Rect.unit (s := S6x8x64x512) (k1_off6 i k) S1x1x64x512.size (k1_off6_inb i k))
        | ⟨4, _⟩ => View.ld x3 (Rect.unit (s := S6x8x64x512) (k1_off7 i k) S1x1x64x512.size (k1_off7_inb i k))
        | ⟨5, _⟩ => View.ld x3 (Rect.unit (s := S6x8x64x512) (k1_off8 i k) S1x1x64x512.size (k1_off8_inb i k)))
      w h d (feat h d) rfl
  refine hr.trans ?_
  congr 1
  · funext c
    unfold score
    congr 1
    · refine Finset.sum_congr rfl fun e _ => ?_
      rw [ldq, ldk]
    · match h with
      | ⟨0, _⟩ => exact ldb x3 _ _ 0 _ (off3_eq i k) w c
      | ⟨1, _⟩ => exact ldb x3 _ _ 1 _ (off4_eq i k) w c
      | ⟨2, _⟩ => exact ldb x3 _ _ 2 _ (off5_eq i k) w c
      | ⟨3, _⟩ => exact ldb x3 _ _ 3 _ (off6_eq i k) w c
      | ⟨4, _⟩ => exact ldb x3 _ _ 4 _ (off7_eq i k) w c
      | ⟨5, _⟩ => exact ldb x3 _ _ 5 _ (off8_eq i k) w c
  · funext c
    rw [ldk]

/-! ## The blocks of the grid points -/

/-- Where the windows sit at a point: the image and, for the queries and the result, the band of rows. -/
theorem idx0 : ∀ (t : Fin cfg1.N) (a : Fin 3), win1_0.index t a = (![((grid1.coords t) 0).val, ((grid1.coords t) 1).val, 0] : Fin 3 → ℕ) a := (by decide +kernel : ∀ (t : Fin grid1.N) (a : Fin 3), _)
theorem idx1 : ∀ (t : Fin cfg1.N) (a : Fin 3), win1_1.index t a = (![((grid1.coords t) 0).val, 0, 0] : Fin 3 → ℕ) a := (by decide +kernel : ∀ (t : Fin grid1.N) (a : Fin 3), _)
theorem idx2 : ∀ (t : Fin cfg1.N) (a : Fin 3), win1_2.index t a = (![((grid1.coords t) 0).val, 0, 0] : Fin 3 → ℕ) a := (by decide +kernel : ∀ (t : Fin grid1.N) (a : Fin 3), _)
theorem idx3 : ∀ (t : Fin cfg1.N) (a : Fin 4), win1_3.index t a = 0 := (by decide +kernel : ∀ (t : Fin grid1.N) (a : Fin 4), _)
theorem idx4 : ∀ (t : Fin cfg1.N) (a : Fin 3), win1_4.index t a = (![((grid1.coords t) 0).val, ((grid1.coords t) 1).val, 0] : Fin 3 → ℕ) a := (by decide +kernel : ∀ (t : Fin grid1.N) (a : Fin 3), _)

variable (V : (c : Dev nD) → (b : Ref sig .tc) → Buf (Elt Ideal) ((c : Thread nD τ).loc b))

/-- The image of a grid point. -/
abbrev img (t : Fin cfg1.N) : Fin 4 := (grid1.coords t) 0

/-- The queries' block at a point: row `k` of its band, column `w`. -/
theorem blk0_apply (c : Dev nD) (t : Fin cfg1.N) (k : Fin k1_t1_loop.trips) (w : Fin 64) (h : 64 * k.val + w.val < 1024) (f : Fin 384) :
    iblk1 V c 0 t (ix3 0 ⟨64 * k.val + w.val, h⟩ f) = V c main_arg0 (ix3 (img t) (tok (rowAt (grid1.coords t) k) w) f) := by
  refine congrArg (V c main_arg0) (funext fun a => Fin.ext ?_)
  have e := idx0 t a
  match a with
  | ⟨0, _⟩ => show win1_0.index t (0 : Fin 3) * 1 + 1 * 0 = ((grid1.coords t) 0).val
              rw [show win1_0.index t (0 : Fin 3) = ((grid1.coords t) 0).val from e]; omega
  | ⟨1, _⟩ => show win1_0.index t (1 : Fin 3) * 1024 + 1 * (64 * k.val + w.val) = 64 * (16 * ((grid1.coords t) 1).val + k.val) + w.val
              rw [show win1_0.index t (1 : Fin 3) = ((grid1.coords t) 1).val from e]; omega
  | ⟨2, _⟩ => show win1_0.index t (2 : Fin 3) * 384 + 1 * f.val = f.val
              rw [show win1_0.index t (2 : Fin 3) = 0 from e]; omega

/-- The keys' block at a point is the image's keys. -/
theorem blk1_apply (c : Dev nD) (t : Fin cfg1.N) (s : Fin 8192) (f : Fin 384) :
    iblk1 V c 1 t (ix3 0 s f) = V c main_arg1 (ix3 (img t) s f) := by
  refine congrArg (V c main_arg1) (funext fun a => Fin.ext ?_)
  have e := idx1 t a
  match a with
  | ⟨0, _⟩ => show win1_1.index t (0 : Fin 3) * 1 + 1 * 0 = ((grid1.coords t) 0).val
              rw [show win1_1.index t (0 : Fin 3) = ((grid1.coords t) 0).val from e]; omega
  | ⟨1, _⟩ => show win1_1.index t (1 : Fin 3) * 8192 + 1 * s.val = s.val
              rw [show win1_1.index t (1 : Fin 3) = 0 from e]; omega
  | ⟨2, _⟩ => show win1_1.index t (2 : Fin 3) * 384 + 1 * f.val = f.val
              rw [show win1_1.index t (2 : Fin 3) = 0 from e]; omega

/-- The values' block at a point is the image's values. -/
theorem blk2_apply (c : Dev nD) (t : Fin cfg1.N) (s : Fin 8192) (f : Fin 384) :
    iblk1 V c 2 t (ix3 0 s f) = V c main_arg2 (ix3 (img t) s f) := by
  refine congrArg (V c main_arg2) (funext fun a => Fin.ext ?_)
  have e := idx2 t a
  match a with
  | ⟨0, _⟩ => show win1_2.index t (0 : Fin 3) * 1 + 1 * 0 = ((grid1.coords t) 0).val
              rw [show win1_2.index t (0 : Fin 3) = ((grid1.coords t) 0).val from e]; omega
  | ⟨1, _⟩ => show win1_2.index t (1 : Fin 3) * 8192 + 1 * s.val = s.val
              rw [show win1_2.index t (1 : Fin 3) = 0 from e]; omega
  | ⟨2, _⟩ => show win1_2.index t (2 : Fin 3) * 384 + 1 * f.val = f.val
              rw [show win1_2.index t (2 : Fin 3) = 0 from e]; omega

/-- The biases' block at every point is the whole table. -/
theorem blk3_apply (c : Dev nD) (t : Fin cfg1.N) (h : Fin 6) (s : Fin 8) (w : Fin 64) (p : Fin 512) :
    iblk1 V c 3 t (ix4 h s w p) = V c main_v27 (ix4 h s w p) := by
  refine congrArg (V c main_v27) (funext fun a => Fin.ext ?_)
  have e := idx3 t a
  match a with
  | ⟨0, _⟩ => show win1_3.index t (0 : Fin 4) * 6 + 1 * h.val = h.val
              rw [show win1_3.index t (0 : Fin 4) = 0 from e]; omega
  | ⟨1, _⟩ => show win1_3.index t (1 : Fin 4) * 8 + 1 * s.val = s.val
              rw [show win1_3.index t (1 : Fin 4) = 0 from e]; omega
  | ⟨2, _⟩ => show win1_3.index t (2 : Fin 4) * 64 + 1 * w.val = w.val
              rw [show win1_3.index t (2 : Fin 4) = 0 from e]; omega
  | ⟨3, _⟩ => show win1_3.index t (3 : Fin 4) * 512 + 1 * p.val = p.val
              rw [show win1_3.index t (3 : Fin 4) = 0 from e]; omega

/-- Where row `k`, column `w` of a point's block lies in the result array. -/
theorem emb4 (t : Fin cfg1.N) (k : Fin k1_t1_loop.trips) (w : Fin 64) (h : 64 * k.val + w.val < 1024) (f : Fin 384) :
    ((cfg1.win 4).blk t).view.emb (ix3 0 ⟨64 * k.val + w.val, h⟩ f) = ix3 (img t) (tok (rowAt (grid1.coords t) k) w) f := by
  refine funext fun a => Fin.ext ?_
  have e := idx4 t a
  match a with
  | ⟨0, _⟩ => show win1_4.index t (0 : Fin 3) * 1 + 1 * 0 = ((grid1.coords t) 0).val
              rw [show win1_4.index t (0 : Fin 3) = ((grid1.coords t) 0).val from e]; omega
  | ⟨1, _⟩ => show win1_4.index t (1 : Fin 3) * 1024 + 1 * (64 * k.val + w.val) = 64 * (16 * ((grid1.coords t) 1).val + k.val) + w.val
              rw [show win1_4.index t (1 : Fin 3) = ((grid1.coords t) 1).val from e]; omega
  | ⟨2, _⟩ => show win1_4.index t (2 : Fin 3) * 384 + 1 * f.val = f.val
              rw [show win1_4.index t (2 : Fin 3) = 0 from e]; omega

/-- The softmax average at an index of the result array. -/
def attendAt (q k v : Vec Ideal S4x8192x384 .bf16) (tab : Vec Ideal S6x8x64x512 .f32) (x : S4x8192x384.Idx) : EReal :=
  attend q k v tab (x 0) ⟨(x 1).val / 64, Nat.div_lt_of_lt_mul (show (x 1).val < 64 * 128 from (x 1).isLt)⟩ ⟨(x 1).val % 64, Nat.mod_lt _ (by decide)⟩
    ⟨(x 2).val / 64, Nat.div_lt_of_lt_mul (show (x 2).val < 64 * 6 from (x 2).isLt)⟩ ⟨(x 2).val % 64, Nat.mod_lt _ (by decide)⟩

theorem attendAt_ix (q k v : Vec Ideal S4x8192x384 .bf16) (tab : Vec Ideal S6x8x64x512 .f32) (b : Fin 4) (r : Fin 128) (w : Fin 64) (h : Fin 6) (d : Fin 64) :
    attendAt q k v tab (ix3 b (tok r w) (feat h d)) = attend q k v tab b r w h d := by
  unfold attendAt
  congr 1
  · exact Fin.ext (by show (64 * r.val + w.val) / 64 = r.val; omega)
  · exact Fin.ext (by show (64 * r.val + w.val) % 64 = w.val; omega)
  · exact Fin.ext (by show (64 * h.val + d.val) / 64 = h.val; omega)
  · exact Fin.ext (by show (64 * h.val + d.val) % 64 = d.val; omega)

/-- Every grid point's coordinates can be had. -/
theorem exists_point : ∀ (b : Fin 4) (j : Fin 8), ∃ t : Fin cfg1.N, grid1.coords t = coords b j := by
  decide +kernel

/-- After the run, the result array holds the softmax averages. -/
theorem final4 (c : Dev nD) : (dat1 V c).arrAt 4 cfg1.N = attendAt (V c main_arg0) (V c main_arg1) (V c main_arg2) (V c main_v27) := by
  refine (dat1 V c).arrAt_eq_of_cover 4 _ (fun t _ => funext fun i => ?_) fun i => ?_
  · obtain ⟨k, w, h, d, hkw, rfl⟩ : ∃ (k : Fin k1_t1_loop.trips) (w : Fin 64) (h : Fin 6) (d : Fin 64) (hkw : 64 * k.val + w.val < 1024), i = ix3 0 ⟨64 * k.val + w.val, hkw⟩ (feat h d) := by
      have h0 : (i 0).val < 1 := (i 0).isLt
      have h1 : (i 1).val < 1024 := (i 1).isLt
      have h2 : (i 2).val < 384 := (i 2).isLt
      refine ⟨⟨(i 1).val / 64, show (i 1).val / 64 < 16 by omega⟩, ⟨(i 1).val % 64, by omega⟩, ⟨(i 2).val / 64, by omega⟩, ⟨(i 2).val % 64, by omega⟩, by dsimp only; omega, funext fun a => Fin.ext ?_⟩
      match a with
      | ⟨0, _⟩ => show (i 0).val = 0; omega
      | ⟨1, _⟩ => show (i 1).val = 64 * ((i 1).val / 64) + (i 1).val % 64; omega
      | ⟨2, _⟩ => show (i 2).val = 64 * ((i 2).val / 64) + (i 2).val % 64; omega
    show (dat1 V c).after 4 t (ix3 0 ⟨64 * k.val + w.val, hkw⟩ (feat h d)) = attendAt _ _ _ _ (((cfg1.win 4).blk t).view.emb (ix3 0 ⟨64 * k.val + w.val, hkw⟩ (feat h d)))
    rw [emb4, attendAt_ix, after1_4]
    unfold outsAt1
    rw [out_eq]
    have hc := canon_rowPieces (grid1.coords t) (iblk1 V c 0 t) (iblk1 V c 1 t) (iblk1 V c 2 t) (iblk1 V c 3 t) k (ix3 0 w (feat h d)) k1_t1_loop.trips k.isLt
    have he : (rowPiece (grid1.coords t) k (iblk1 V c 0 t) (iblk1 V c 1 t) (iblk1 V c 2 t) (iblk1 V c 3 t)).1.emb (ix3 0 w (feat h d)) = ix3 0 ⟨64 * k.val + w.val, hkw⟩ (feat h d) := by
      refine funext fun a => Fin.ext ((rowPiece_emb _ _ _ _ _ _ _ a).trans ?_)
      match a with
      | ⟨0, _⟩ => rfl
      | ⟨1, _⟩ => rfl
      | ⟨2, _⟩ => show 0 + (feat h d).val = (feat h d).val; omega
    rw [he] at hc
    rw [hc, rowPiece_apply]
    unfold attend
    simp only [blk0_apply, blk1_apply, blk2_apply, blk3_apply]
  · obtain ⟨b, r, w, h, d, rfl⟩ : ∃ (b : Fin 4) (r : Fin 128) (w : Fin 64) (h : Fin 6) (d : Fin 64), i = ix3 b (tok r w) (feat h d) := by
      have h1 : (i 1).val < 8192 := (i 1).isLt
      have h2 : (i 2).val < 384 := (i 2).isLt
      refine ⟨i 0, ⟨(i 1).val / 64, by omega⟩, ⟨(i 1).val % 64, by omega⟩, ⟨(i 2).val / 64, by omega⟩, ⟨(i 2).val % 64, by omega⟩, funext fun a => Fin.ext ?_⟩
      match a with
      | ⟨0, _⟩ => rfl
      | ⟨1, _⟩ => show (i 1).val = 64 * ((i 1).val / 64) + (i 1).val % 64; omega
      | ⟨2, _⟩ => show (i 2).val = 64 * ((i 2).val / 64) + (i 2).val % 64; omega
    obtain ⟨t, ht⟩ := exists_point b ⟨r.val / 16, by omega⟩
    have hkw : 64 * (r.val % 16) + w.val < 1024 := by omega
    have e := emb4 t ⟨r.val % 16, show r.val % 16 < 16 by omega⟩ w hkw (feat h d)
    rw [show tok (rowAt (grid1.coords t) ⟨r.val % 16, show r.val % 16 < 16 by omega⟩) w = tok r w from by
      rw [ht]; exact Fin.ext (by show 64 * (16 * (r.val / 16) + r.val % 16) + w.val = 64 * r.val + w.val; omega), show img t = b from by unfold img; rw [ht]; rfl] at e
    exact ⟨t, flush1_4 t, e ▸ ((cfg1.win 4).blk t).view.emb_mem_set _⟩

end Cert.Proof.Attn

end
-- ==== Proof.Attn.Bias.lean ====
module

public import proofs.«01_k».proof.Proof.Attn.Final

@[expose] public section

set_option maxRecDepth 16384

noncomputable section

namespace Cert.Proof.Attn

open Cert.AttnIdeal Cert.AttnIdeal.Gen Idealize.ShloMosaic Idealize.ShloMosaic.TcCoe Idealize.SL.Sem

/-- The first of the sixteen columns a query of column `w` looks at. -/
def colStart (w : Fin 64) : Fin 49 := ⟨min 48 (w.val - 8), by omega⟩

/-- Column `x` is one of the sixteen that a query of column `w` looks at. -/
def near (w x : Fin 64) : Prop := (colStart w).val ≤ x.val ∧ x.val < (colStart w).val + 16

instance (w x : Fin 64) : Decidable (near w x) := inferInstanceAs (Decidable (_ ∧ _))

/-- The index of the pair of columns `w`, `x` among 4096. -/
def pair (w x : Fin 64) : Fin 4096 := ⟨64 * w.val + x.val, by omega⟩

/-- The query's column at an index of the table. -/
theorem pay2_apply (a : Fin 128) (w x : Fin 64) : k0_pay2 (ix2 a (pair w x)) = BitVec.ofNat 32 w.val := by
  pointwise [k0_pay2, pair]
  clear a
  revert w x
  decide +kernel

/-- The key's column at an index of the table. -/
theorem pay3_apply (a : Fin 128) (w x : Fin 64) : k0_pay3 (ix2 a (pair w x)) = BitVec.ofNat 32 x.val := by
  pointwise [k0_pay3, pair]
  clear a
  revert w x
  decide +kernel

/-- The test whether a key's column is near the query's, as the kernel computes it. -/
theorem near_bit : ∀ w x : Fin 64,
    IntOp.andi (IntOp.cmpi CmpIPredicate.sge (BitVec.ofNat 32 x.val) (IntOp.minsi 48#32 (IntOp.maxsi 0#32 (IntOp.subi (BitVec.ofNat 32 w.val) 8#32))))
      (IntOp.cmpi CmpIPredicate.slt (BitVec.ofNat 32 x.val) (IntOp.addi (IntOp.minsi 48#32 (IntOp.maxsi 0#32 (IntOp.subi (BitVec.ofNat 32 w.val) 8#32))) 16#32))
      = if near w x then 1#1 else 0#1 := by decide +kernel

/-- The offset of a near column in a row of the table of relative positions, as the kernel computes it. -/
theorem near_off : ∀ w x : Fin 64, near w x →
    IntOp.addi (IntOp.subi (BitVec.ofNat 32 x.val) (BitVec.ofNat 32 w.val)) 15#32 = BitVec.ofNat 32 (x.val + 15 - w.val) ∧ x.val + 15 - w.val < 31 := by decide +kernel

/-- The conversion of a test whether two lane numbers agree. -/
theorem hot (a b : ℕ) (ha : a < 128) (hb : b < 128) (c : BitVec 1) :
    FloatOps.sitofp (F := Ideal) FTy.f32 (BitVec.setWidth 32 (IntOp.andi (IntOp.cmpi CmpIPredicate.eq (BitVec.ofNat 32 a) (BitVec.ofNat 32 b)) c))
      = if a = b ∧ c = 1#1 then 1 else 0 := by
  have h0 : FloatOps.sitofp (F := Ideal) FTy.f32 (0#32) = 0 := by
    simp [FloatOps.sitofp]
  have h1 : FloatOps.sitofp (F := Ideal) FTy.f32 (1#32) = 1 := by
    simp [FloatOps.sitofp]
  by_cases e : a = b
  · subst e
    rcases BitVec.eq_zero_or_eq_one c with rfl | rfl <;> simp [IntOp.cmpi, IntOp.andi, h0, h1]
  · have : (BitVec.ofNat 32 a == BitVec.ofNat 32 b) = false := by
      simp only [beq_eq_false_iff_ne, ne_eq]
      intro h
      have h' := congrArg BitVec.toNat h
      simp only [BitVec.toNat_ofNat] at h'
      omega
    simp [IntOp.cmpi, IntOp.andi, this, e, h0]

/-- The named constant of the mask is −∞. -/
theorem mask_bot : Named.named (F := Ideal) κ "mask" (φ := .f32) 4048155338#32 = (⊥ : EReal) := by
  simp [Named.named, κ]

/-- An entry of the bias table for two columns: the row's bias at their offset where they are near, minus infinity elsewhere. -/
theorem pay1_apply (y : Vec Ideal S96x128 .f32) (p : Fin 96) (w x : Fin 64) :
    k0_pay1 (iota .tc S128x4096 32 [0] iota_S128x4096_d0_w32) k0_pay2 k0_pay3 k0_pay4 0#32 48#32 y (ix2 p (pair w x))
      = if h : near w x then y (ix2 p ⟨x.val + 15 - w.val, by have := (near_off w x h).2; omega⟩) else ⊥ := by
  pointwise [k0_pay1, k0_pay4, pay3_apply, pay2_apply, near_bit]
  split
  · next h =>
    obtain ⟨h1, h2⟩ := near_off w x h
    rw [h1, Finset.sum_eq_single ⟨x.val + 15 - w.val, by omega⟩]
    · rw [hot _ _ (by omega) (by omega)]
      simp [Scalar.select]
    · intro b _ hb
      rw [hot _ _ (by omega) b.isLt, if_neg (fun e => hb (Fin.ext e.1.symm)), mul_zero]
    · simp
  · next h =>
    rw [show Scalar.select (0#1) _ _ = _ from rfl, mask_bot]
    exact EReal.add_bot _

end Cert.Proof.Attn

end
-- ==== Proof.Attn.Table.lean ====
module

public import proofs.«01_k».proof.Proof.Attn.Bias
public import Idealize.ShloMosaic.Lib.Routing.OpsPair
public import Idealize.ShloMosaic.Lib.Routing.OpsSet
public import Idealize.ShloMosaic.Lib.Routing.OpsOne

@[expose] public section

set_option maxRecDepth 16384

noncomputable section

namespace Cert.Proof.Attn

open Cert.AttnIdeal Cert.AttnIdeal.Gen Idealize.ShloMosaic Idealize.ShloMosaic.TcCoe Idealize.SL.Sem

/-- The bias table's entry in the layout the kernel reads, from the matrix of all its rows. -/
def layout (y : Vec Ideal S96x4096 .f32) : Vec Ideal S6x8x64x512 .f32 :=
  let y8 : Vec Ideal S6x15x64x64 .f32 := shapeCast S6x15x64x64 (extractStridedSlice S90x4096 ![0, 0] y slices_S96x4096_S90x4096_0_0) shapeCasts_S90x4096_S6x15x64x64
  let up (z : Vec Ideal S6x8x64x64 .f32) : Vec Ideal S6x1x8x64x64 .f32 := broadcastInDim S6x1x8x64x64 ![0, 2, 3, 4] bcast_S6x8x64x64_S6x1x8x64x64_0_2_3_4 z
  shapeCast S6x8x64x512 (transpose S6x8x64x8x64 [0, 1, 3, 2, 4] (concatenate S6x8x8x64x64 1
      [⟨S6x1x8x64x64, up (extractStridedSlice S6x8x64x64 ![0, 7, 0, 0] y8 slices_S6x15x64x64_S6x8x64x64_0_7_0_0)⟩,
       ⟨S6x1x8x64x64, up (extractStridedSlice S6x8x64x64 ![0, 6, 0, 0] y8 slices_S6x15x64x64_S6x8x64x64_0_6_0_0)⟩,
       ⟨S6x1x8x64x64, up (extractStridedSlice S6x8x64x64 ![0, 5, 0, 0] y8 slices_S6x15x64x64_S6x8x64x64_0_5_0_0)⟩,
       ⟨S6x1x8x64x64, up (extractStridedSlice S6x8x64x64 ![0, 4, 0, 0] y8 slices_S6x15x64x64_S6x8x64x64_0_4_0_0)⟩,
       ⟨S6x1x8x64x64, up (extractStridedSlice S6x8x64x64 ![0, 3, 0, 0] y8 slices_S6x15x64x64_S6x8x64x64_0_3_0_0)⟩,
       ⟨S6x1x8x64x64, up (extractStridedSlice S6x8x64x64 ![0, 2, 0, 0] y8 slices_S6x15x64x64_S6x8x64x64_0_2_0_0)⟩,
       ⟨S6x1x8x64x64, up (extractStridedSlice S6x8x64x64 ![0, 1, 0, 0] y8 slices_S6x15x64x64_S6x8x64x64_0_1_0_0)⟩,
       ⟨S6x1x8x64x64, up (extractStridedSlice S6x8x64x64 ![0, 0, 0, 0] y8 slices_S6x15x64x64_S6x8x64x64_0_0_0_0)⟩]
      concatenates_S6x1x8x64x64_S6x1x8x64x64_S6x1x8x64x64_S6x1x8x64x64_S6x1x8x64x64_S6x1x8x64x64_S6x1x8x64x64_S6x1x8x64x64_S6x8x8x64x64_d1) transposes_S6x8x8x64x64_S6x8x64x8x64_0_1_3_2_4) shapeCasts_S6x8x64x8x64_S6x8x64x512

/-- The position of row `i`, column `x` among the 512 of eight rows. -/
def win (i : Fin 8) (x : Fin 64) : Fin 512 := ⟨64 * i.val + x.val, by omega⟩

/-- An entry of the layout, from the matrix. -/
theorem layout_apply (y : Vec Ideal S96x4096 .f32) (h : Fin 6) (s : Fin 8) (w : Fin 64) (i : Fin 8) (x : Fin 64) :
    layout y (ix4 h s w (win i x)) = y (ix2 (⟨15 * h.val + (7 - s.val + i.val), by omega⟩ : Fin 96) (pair w x)) := by
  fin_cases s <;> pointwise [layout, win, pair] <;> exact congrArg y (congrArg₂ ix2 (Fin.ext (by dsimp only; omega)) (Fin.ext (by dsimp only; omega)))

/-- The padded table of relative positions, as the host lays it out. -/
def padded (z : Vec Ideal S6x15x31 .f32) : Vec Ideal S96x128 .f32 :=
  Host.scatter scatter_S96x128_S2_S90x31_01_n_01_0 (fun _ b => b)
    (broadcastInDim S96x128 ![] bcast_S_S96x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (shapeCast S90x31 z shapeCasts_S6x15x31_S90x31)

/-- An entry of the padded table, inside the table. -/
theorem padded_apply (z : Vec Ideal S6x15x31 .f32) (h : Fin 6) (a : Fin 15) (o : Fin 31) :
    padded z (ix2 (⟨15 * h.val + a.val, by omega⟩ : Fin 96) (⟨o.val, by omega⟩ : Fin 128)) = z (ix3 h a o) := by
  have hs (k : S90x31.Idx) (q : Fin 2) : scatter_S96x128_S2_S90x31_01_n_01_0.start k (concatenate S2 0 [⟨S1, broadcastInDim S1 ![] bcast_S_S1 (constantI S_ 32 0#32)⟩, ⟨S1, broadcastInDim S1 ![] bcast_S_S1 (constantI S_ 32 0#32)⟩] concatenates_S1_S1_S2_d0) q = 0 := by
    rw [Routing.start_pair scatter_S96x128_S2_S90x31_01_n_01_0 rfl rfl]
    fin_cases q <;> pointwise
    all_goals rfl
  have hw0 (k : S90x31.Idx) : scatter_S96x128_S2_S90x31_01_n_01_0.window k 0 = (k 0).val := rfl
  have hw1 (k : S90x31.Idx) : scatter_S96x128_S2_S90x31_01_n_01_0.window k 1 = (k 1).val := rfl
  have hr (k : S90x31.Idx) (p : Fin 96) (q : Fin 128) : scatter_S96x128_S2_S90x31_01_n_01_0.resultIdx? k (concatenate S2 0 [⟨S1, broadcastInDim S1 ![] bcast_S_S1 (constantI S_ 32 0#32)⟩, ⟨S1, broadcastInDim S1 ![] bcast_S_S1 (constantI S_ 32 0#32)⟩] concatenates_S1_S1_S2_d0) = some (ix2 p q)
      ↔ (k 0).val = p.val ∧ (k 1).val = q.val := by
    refine (Routing.resultIdx?_ix2 (R := 96) (C := 128) _ k _ p q).trans ?_
    rw [hs, hs, hw0, hw1]
    omega
  unfold padded
  refine Routing.scatter_set_hit _ _ _ _ _ _ (fun k hk => ?_) (ix2 ⟨15 * h.val + a.val, by omega⟩ o) ?_
  · rw [hr] at hk
    obtain ⟨k0, k1, rfl⟩ : ∃ (k0 : Fin 90) (k1 : Fin 31), k = ix2 k0 k1 := ⟨k 0, k 1, eq_ix2 k⟩
    have h0 : k0.val = 15 * h.val + a.val := by exact hk.1
    have h1 : k1 = o := Fin.ext (by exact hk.2)
    subst h1
    pointwise [h0]
    exact congrArg z (congrArg₂ (ix3 · · k1) (Fin.ext (by dsimp only; omega)) (Fin.ext (by dsimp only; omega)))
  · exact (hr _ _ _).2 ⟨rfl, rfl⟩

section
variable (m : (ℓ : Loc nD τ sig) → Buf (Elt Ideal) ℓ) (ρ : Dev nD → PrngReg)

theorem v27_eq (c : Dev nD) : V3 m ρ c main_v27 = layout (W2 m ρ c (Proc.devRef .tc main_v6)) := by
  unfold V3 W3 hostOps1
  after_results_simp
  rfl

theorem v5_eq (c : Dev nD) : V1 m ρ c main_v5 = padded (m ((c : Thread nD τ).loc main_arg3)) := by
  unfold V1 W1 hostOps0
  after_results_simp
  rfl

end

theorem hz2 : (![0, 0] : Fin 2 → Nat) = fun _ => 0 := funext fun a => by fin_cases a <;> rfl

section
variable (V : (c : Dev nD) → (b : Ref sig .tc) → Buf (Elt Ideal) ((c : Thread nD τ).loc b))

/-- The first call reads and writes its arrays whole. -/
theorem idxT : ∀ t : Fin cfg0.N, win0_0.index t 0 = 0 ∧ win0_0.index t 1 = 0 ∧ win0_1.index t 0 = 0 ∧ win0_1.index t 1 = 0 := by decide +kernel

theorem blk0 (c : Dev nD) (t : Fin cfg0.N) : iblk0 V c 0 t = V c main_v5 := by
  refine funext fun i => ?_
  show V c main_v5 (((cfg0.win 0).blk t).view.emb i) = _
  obtain ⟨e0, e1, -, -⟩ := idxT t
  refine congrArg _ (funext fun a => Fin.ext ?_)
  match a with
  | ⟨0, _⟩ => show win0_0.index t (0 : Fin 2) * 96 + 1 * (i 0).val = (i 0).val; rw [show win0_0.index t (0 : Fin 2) = 0 from e0]; omega
  | ⟨1, _⟩ => show win0_0.index t (1 : Fin 2) * 128 + 1 * (i 1).val = (i 1).val; rw [show win0_0.index t (1 : Fin 2) = 0 from e1]; omega

theorem emb0 (t : Fin cfg0.N) (i : S96x4096.Idx) : ((cfg0.win 1).blk t).view.emb i = i := by
  obtain ⟨-, -, e0, e1⟩ := idxT t
  refine funext fun a => Fin.ext ?_
  match a with
  | ⟨0, _⟩ => show win0_1.index t (0 : Fin 2) * 96 + 1 * (i 0).val = (i 0).val; rw [show win0_1.index t (0 : Fin 2) = 0 from e0]; omega
  | ⟨1, _⟩ => show win0_1.index t (1 : Fin 2) * 4096 + 1 * (i 1).val = (i 1).val; rw [show win0_1.index t (1 : Fin 2) = 0 from e1]; omega

/-- After the first call, its result is the matrix it computes from the padded table. -/
theorem final0 (c : Dev nD) : (dat0 V c).arrAt 1 cfg0.N
    = k0_pay1 (iota .tc S128x4096 32 [0] iota_S128x4096_d0_w32) k0_pay2 k0_pay3 k0_pay4 0#32 48#32 (V c main_v5) := by
  refine (dat0 V c).arrAt_eq_of_cover 1 _ (fun t _ => funext fun i => ?_) fun i => ?_
  · show (dat0 V c).after 1 t i = (k0_pay1 (F := Ideal) (iota .tc S128x4096 32 [0] iota_S128x4096_d0_w32) k0_pay2 k0_pay3 k0_pay4 0#32 48#32 (V c main_v5) : Vec Ideal S96x4096 .f32) (((cfg0.win 1).blk t).view.emb i)
    rw [emb0, after0_1, blk0]
    unfold out0_1
    rw [View.canon_unit_zero hz2, View.ld_unit_zero hz2]
  · exact ⟨⟨0, by decide⟩, flush0_1 _, emb0 ⟨0, by decide⟩ i ▸ ((cfg0.win 1).blk _).view.emb_mem_set i⟩

end

/-- A query's entry in the bias table: the relative position's for a near column, −∞ for another. -/
def bias (z : Vec Ideal S6x15x31 .f32) (h : Fin 6) (s : Fin 8) (w : Fin 64) (i : Fin 8) (x : Fin 64) : EReal :=
  if e : near w x then z (ix3 h ⟨7 - s.val + i.val, by omega⟩ ⟨x.val + 15 - w.val, (near_off w x e).2⟩) else ⊥

/-- The bias table the attention call reads. -/
theorem v27_apply (m : (ℓ : Loc nD τ sig) → Buf (Elt Ideal) ℓ) (ρ : Dev nD → PrngReg) (c : Dev nD) (h : Fin 6) (s : Fin 8) (w : Fin 64) (i : Fin 8) (x : Fin 64) :
    V3 m ρ c main_v27 (ix4 h s w (win i x)) = bias (m ((c : Thread nD τ).loc main_arg3)) h s w i x := by
  rw [v27_eq, layout_apply]
  rw [show W2 m ρ c (Proc.devRef .tc main_v6) = (dat0 (V1 m ρ) c).arrAt 1 cfg0.N from W2_arr m ρ c 1, final0, pay1_apply, v5_eq]
  unfold bias
  split
  · next e =>
    exact padded_apply (m ((c : Thread nD τ).loc main_arg3)) h ⟨7 - s.val + i.val, by omega⟩ ⟨x.val + 15 - w.val, (near_off w x e).2⟩
  · rfl

end Cert.Proof.Attn

end
-- ==== Proof.Attn.Ref.lean ====
module

public import proofs.«01_k».proof.Proof.Attn.Table
public import proofs.«01_k».proof.Proof.Gen.AttnRefIdeal.Read

@[expose] public section

set_option maxRecDepth 16384

noncomputable section

namespace Cert.Proof.Attn

open Cert.AttnRefIdeal Cert.AttnRefIdeal.Gen Cert.AttnRefIdeal.Read Idealize.ShloMosaic Idealize.ShloMosaic.TcCoe Idealize.SL.Sem

/-- The key's row of a window position, as the reference computes it. -/
theorem ref_row (r : Fin 128) (i : Fin 8) : val_main_v32 (F := Ideal) (ix2 r i) = BitVec.ofNat 32 ((rowStart r).val + i.val) := by
  pointwise [val_main_v32, val_main_v30, val_main_v31, val_main_v29, val_main_v28, val_main_v27, val_main_v26, val_main_call1_v4, val_main_call1_v2, val_main_call1_v3, val_main_call1_v1, val_main_call1_v0, val_main_c_4, val_main_c_5, val_main_v25, val_main_v24, val_main_v23, val_main_c_3]
  revert r i
  decide +kernel

/-- The key's column of a window position, as the reference computes it. -/
theorem ref_col (w : Fin 64) (j : Fin 16) : val_main_v17 (F := Ideal) (ix2 w j) = BitVec.ofNat 32 ((colStart w).val + j.val) := by
  pointwise [val_main_v17, val_main_v16, val_main_v15, val_main_v14, val_main_v13, val_main_v12, val_main_v11, val_main_call0_v4, val_main_call0_v2, val_main_call0_v3, val_main_call0_v1, val_main_call0_v0, val_main_c_0, val_main_c_1, val_main_v10, val_main_v9, val_main_v8, val_main_c]
  revert w j
  decide +kernel

/-- The relative row of a window position, as the reference computes it. -/
theorem ref_rowOff (r : Fin 128) (i : Fin 8) : val_main_v37 (F := Ideal) (ix2 r i) = BitVec.ofNat 32 (7 - (rowShift r).val + i.val) := by
  pointwise [val_main_v37, val_main_v36, val_main_v35, val_main_v34, val_main_v33, ref_row, val_main_v23, val_main_c_6]
  revert r i
  decide +kernel

/-- The relative column of a window position, as the reference computes it. -/
theorem ref_colOff (w : Fin 64) (j : Fin 16) : val_main_v22 (F := Ideal) (ix2 w j) = BitVec.ofNat 32 ((colStart w).val + j.val + 15 - w.val) := by
  pointwise [val_main_v22, val_main_v21, val_main_v20, val_main_v19, val_main_v18, ref_col, val_main_v8, val_main_c_2]
  revert w j
  decide +kernel

/-- A word that is not negative is left as it is by the wrap of negative indices. -/
theorem wrap_ofNat (a n : Nat) (h : a < 2 ^ 31) : Scalar.select (IntOp.cmpi .slt (BitVec.ofNat 32 a) 0#32) (IntOp.addi (BitVec.ofNat 32 a) (BitVec.ofNat 32 n)) (BitVec.ofNat 32 a) = BitVec.ofNat 32 a :=
  Routing.wrap_of_lt _ _ (by rw [BitVec.toNat_ofNat]; omega)

theorem ref_v54_0 (r : Fin 128) (i : Fin 8) (w : Fin 64) (j : Fin 16) : val_main_v54 (F := Ideal) (ix5 r i w j 0) = BitVec.ofNat 32 ((rowStart r).val + i.val) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_c_7, val_main_c_8, val_main_c_9, val_main_c_10, ref_row, ref_col]
  exact wrap_ofNat _ 128 (by omega)

theorem ref_v54_1 (r : Fin 128) (i : Fin 8) (w : Fin 64) (j : Fin 16) : val_main_v54 (F := Ideal) (ix5 r i w j 1) = BitVec.ofNat 32 ((colStart w).val + j.val) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_c_7, val_main_c_8, val_main_c_9, val_main_c_10, ref_row, ref_col]
  exact wrap_ofNat _ 64 (by omega)

theorem ref_v72_0 (r : Fin 128) (i : Fin 8) (w : Fin 64) (j : Fin 16) : val_main_v72 (F := Ideal) (ix5 r i w j 0) = BitVec.ofNat 32 ((rowStart r).val + i.val) := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_c_11, val_main_c_12, val_main_c_13, val_main_c_14, ref_row, ref_col]
  exact wrap_ofNat _ 128 (by omega)

theorem ref_v72_1 (r : Fin 128) (i : Fin 8) (w : Fin 64) (j : Fin 16) : val_main_v72 (F := Ideal) (ix5 r i w j 1) = BitVec.ofNat 32 ((colStart w).val + j.val) := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_c_11, val_main_c_12, val_main_c_13, val_main_c_14, ref_row, ref_col]
  exact wrap_ofNat _ 64 (by omega)

theorem ref_v90_0 (r : Fin 128) (w : Fin 64) (i : Fin 8) (j : Fin 16) : val_main_v90 (F := Ideal) (ix5 r w i j 0) = BitVec.ofNat 32 (7 - (rowShift r).val + i.val) := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_c_15, val_main_c_16, val_main_c_17, val_main_c_18, ref_rowOff, ref_colOff]
  exact wrap_ofNat _ 15 (by omega)

theorem ref_v90_1 (r : Fin 128) (w : Fin 64) (i : Fin 8) (j : Fin 16) : val_main_v90 (F := Ideal) (ix5 r w i j 1) = BitVec.ofNat 32 ((colStart w).val + j.val + 15 - w.val) := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_c_15, val_main_c_16, val_main_c_17, val_main_c_18, ref_rowOff, ref_colOff]
  exact wrap_ofNat _ 31 (by omega)

/-- A small word read signed is the number it was made of. -/
theorem toInt_ofNat (a : Nat) (h : a < 2 ^ 31) : (BitVec.ofNat 32 a).toInt.toNat = a := by
  rw [BitVec.toInt_eq_toNat_of_lt (by rw [BitVec.toNat_ofNat]; omega), BitVec.toNat_ofNat, Int.toNat_natCast]
  omega

/-- The gather of whole pixels at a position whose indices are in range. -/
theorem gather_pixel {α : Type} (x : S4x128x64x6x64.Idx → α) (idx : IVec S128x8x64x16x2 32) (b : Fin 4) (r : Fin 128) (i : Fin 8) (w : Fin 64) (j : Fin 16) (h : Fin 6) (e : Fin 64)
    (R : Fin 128) (C : Fin 64) (h0 : idx (ix5 r i w j 0) = BitVec.ofNat 32 R.val) (h1 : idx (ix5 r i w j 1) = BitVec.ofNat 32 C.val) :
    Host.gather gather_S4x128x64x6x64_S128x8x64x16x2_S4x128x8x64x16x6x64_056_12_n_n_12_4_411664 x idx (ix7 b r i w j h e) = x (ix5 b R C h e) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have hs1 : gather_S4x128x64x6x64_S128x8x64x16x2_S4x128x8x64x16x6x64_056_12_n_n_12_4_411664.siIdx (ix7 b r i w j h e) ⟨List.idxOf (1 : Fin 5) gather_S4x128x64x6x64_S128x8x64x16x2_S4x128x8x64x16x6x64_056_12_n_n_12_4_411664.startIndexMap, List.idxOf_lt_length_iff.2 (by decide)⟩ = ix5 r i w j 0 := by
    funext y; refine Fin.ext ?_
    match y with
    | ⟨0, _⟩ => rfl
    | ⟨1, _⟩ => rfl
    | ⟨2, _⟩ => rfl
    | ⟨3, _⟩ => rfl
    | ⟨4, _⟩ => rfl
  have hs2 : gather_S4x128x64x6x64_S128x8x64x16x2_S4x128x8x64x16x6x64_056_12_n_n_12_4_411664.siIdx (ix7 b r i w j h e) ⟨List.idxOf (2 : Fin 5) gather_S4x128x64x6x64_S128x8x64x16x2_S4x128x8x64x16x6x64_056_12_n_n_12_4_411664.startIndexMap, List.idxOf_lt_length_iff.2 (by decide)⟩ = ix5 r i w j 1 := by
    funext y; refine Fin.ext ?_
    match y with
    | ⟨0, _⟩ => rfl
    | ⟨1, _⟩ => rfl
    | ⟨2, _⟩ => rfl
    | ⟨3, _⟩ => rfl
    | ⟨4, _⟩ => rfl
  match a with
  | ⟨0, _⟩ => exact Nat.zero_add _
  | ⟨1, _⟩ =>
    show gather_S4x128x64x6x64_S128x8x64x16x2_S4x128x8x64x16x6x64_056_12_n_n_12_4_411664.start (ix7 b r i w j h e) idx (1 : Fin 5) + 0 + gather_S4x128x64x6x64_S128x8x64x16x2_S4x128x8x64x16x6x64_056_12_n_n_12_4_411664.offCoord (ix7 b r i w j h e) (1 : Fin 5) = R.val
    rw [GatherDims.offCoord_eq_zero _ _ _ (fun h => ((GatherDims.mem_sKept _ _).mp h).1 (by decide))]
    unfold GatherDims.start
    rw [dif_pos (show (1 : Fin 5) ∈ gather_S4x128x64x6x64_S128x8x64x16x2_S4x128x8x64x16x6x64_056_12_n_n_12_4_411664.startIndexMap by decide), hs1, h0, toInt_ofNat _ (by omega)]
    show min R.val 127 + 0 + 0 = R.val
    omega
  | ⟨2, _⟩ =>
    show gather_S4x128x64x6x64_S128x8x64x16x2_S4x128x8x64x16x6x64_056_12_n_n_12_4_411664.start (ix7 b r i w j h e) idx (2 : Fin 5) + 0 + gather_S4x128x64x6x64_S128x8x64x16x2_S4x128x8x64x16x6x64_056_12_n_n_12_4_411664.offCoord (ix7 b r i w j h e) (2 : Fin 5) = C.val
    rw [GatherDims.offCoord_eq_zero _ _ _ (fun h => ((GatherDims.mem_sKept _ _).mp h).1 (by decide))]
    unfold GatherDims.start
    rw [dif_pos (show (2 : Fin 5) ∈ gather_S4x128x64x6x64_S128x8x64x16x2_S4x128x8x64x16x6x64_056_12_n_n_12_4_411664.startIndexMap by decide), hs2, h1, toInt_ofNat _ (by omega)]
    show min C.val 63 + 0 + 0 = C.val
    omega
  | ⟨3, _⟩ => exact Nat.zero_add _
  | ⟨4, _⟩ => exact Nat.zero_add _

/-- The gather of relative positions at a position whose indices are in range. -/
theorem gather_bias {α : Type} (x : S6x15x31.Idx → α) (idx : IVec S128x64x8x16x2 32) (r : Fin 128) (w : Fin 64) (i : Fin 8) (j : Fin 16) (h : Fin 6)
    (R : Fin 15) (C : Fin 31) (h0 : idx (ix5 r w i j 0) = BitVec.ofNat 32 R.val) (h1 : idx (ix5 r w i j 1) = BitVec.ofNat 32 C.val) :
    Host.gather gather_S6x15x31_S128x64x8x16x2_S6x128x64x8x16_0_12_n_n_12_4_611 x idx (ix5 h r w i j) = x (ix3 h R C) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have hs1 : gather_S6x15x31_S128x64x8x16x2_S6x128x64x8x16_0_12_n_n_12_4_611.siIdx (ix5 h r w i j) ⟨List.idxOf (1 : Fin 3) gather_S6x15x31_S128x64x8x16x2_S6x128x64x8x16_0_12_n_n_12_4_611.startIndexMap, List.idxOf_lt_length_iff.2 (by decide)⟩ = ix5 r w i j 0 := by
    funext y; refine Fin.ext ?_
    match y with
    | ⟨0, _⟩ => rfl
    | ⟨1, _⟩ => rfl
    | ⟨2, _⟩ => rfl
    | ⟨3, _⟩ => rfl
    | ⟨4, _⟩ => rfl
  have hs2 : gather_S6x15x31_S128x64x8x16x2_S6x128x64x8x16_0_12_n_n_12_4_611.siIdx (ix5 h r w i j) ⟨List.idxOf (2 : Fin 3) gather_S6x15x31_S128x64x8x16x2_S6x128x64x8x16_0_12_n_n_12_4_611.startIndexMap, List.idxOf_lt_length_iff.2 (by decide)⟩ = ix5 r w i j 1 := by
    funext y; refine Fin.ext ?_
    match y with
    | ⟨0, _⟩ => rfl
    | ⟨1, _⟩ => rfl
    | ⟨2, _⟩ => rfl
    | ⟨3, _⟩ => rfl
    | ⟨4, _⟩ => rfl
  match a with
  | ⟨0, _⟩ => exact Nat.zero_add _
  | ⟨1, _⟩ =>
    show gather_S6x15x31_S128x64x8x16x2_S6x128x64x8x16_0_12_n_n_12_4_611.start (ix5 h r w i j) idx (1 : Fin 3) + 0 + gather_S6x15x31_S128x64x8x16x2_S6x128x64x8x16_0_12_n_n_12_4_611.offCoord (ix5 h r w i j) (1 : Fin 3) = R.val
    rw [GatherDims.offCoord_eq_zero _ _ _ (fun h => ((GatherDims.mem_sKept _ _).mp h).1 (by decide))]
    unfold GatherDims.start
    rw [dif_pos (show (1 : Fin 3) ∈ gather_S6x15x31_S128x64x8x16x2_S6x128x64x8x16_0_12_n_n_12_4_611.startIndexMap by decide), hs1, h0, toInt_ofNat _ (by omega)]
    show min R.val 14 + 0 + 0 = R.val
    omega
  | ⟨2, _⟩ =>
    show gather_S6x15x31_S128x64x8x16x2_S6x128x64x8x16_0_12_n_n_12_4_611.start (ix5 h r w i j) idx (2 : Fin 3) + 0 + gather_S6x15x31_S128x64x8x16x2_S6x128x64x8x16_0_12_n_n_12_4_611.offCoord (ix5 h r w i j) (2 : Fin 3) = C.val
    rw [GatherDims.offCoord_eq_zero _ _ _ (fun h => ((GatherDims.mem_sKept _ _).mp h).1 (by decide))]
    unfold GatherDims.start
    rw [dif_pos (show (2 : Fin 3) ∈ gather_S6x15x31_S128x64x8x16x2_S6x128x64x8x16_0_12_n_n_12_4_611.startIndexMap by decide), hs2, h1, toInt_ofNat _ (by omega)]
    show min C.val 30 + 0 + 0 = C.val
    omega

/-- The row a window position is in. -/
def winRow (r : Fin 128) (i : Fin 8) : Fin 128 := ⟨(rowStart r).val + i.val, by omega⟩

/-- The column a window position is in. -/
def winCol (w : Fin 64) (j : Fin 16) : Fin 64 := ⟨(colStart w).val + j.val, by omega⟩

theorem ref_v55 (x : Vec Ideal S4x8192x384 .bf16) (b : Fin 4) (r : Fin 128) (i : Fin 8) (w : Fin 64) (j : Fin 16) (h : Fin 6) (e : Fin 64) :
    val_main_v55 (F := Ideal) x (ix7 b r i w j h e) = x (ix3 b (tok (winRow r i) (winCol w j)) (feat h e)) := by
  unfold val_main_v55
  rw [gather_pixel _ _ b r i w j h e (winRow r i) (winCol w j) (ref_v54_0 r i w j) (ref_v54_1 r i w j)]
  pointwise [val_main_v5, val_main_v4, tok, feat]
  exact congrArg x (congrArg₂ (ix3 b) (Fin.ext (by dsimp only; omega)) (Fin.ext (by dsimp only; omega)))

theorem ref_v73 (x : Vec Ideal S4x8192x384 .bf16) (b : Fin 4) (r : Fin 128) (i : Fin 8) (w : Fin 64) (j : Fin 16) (h : Fin 6) (e : Fin 64) :
    val_main_v73 (F := Ideal) x (ix7 b r i w j h e) = x (ix3 b (tok (winRow r i) (winCol w j)) (feat h e)) := by
  unfold val_main_v73
  rw [gather_pixel _ _ b r i w j h e (winRow r i) (winCol w j) (ref_v72_0 r i w j) (ref_v72_1 r i w j)]
  pointwise [val_main_v7, val_main_v6, tok, feat]
  exact congrArg x (congrArg₂ (ix3 b) (Fin.ext (by dsimp only; omega)) (Fin.ext (by dsimp only; omega)))

theorem ref_v91 (z : Vec Ideal S6x15x31 .f32) (r : Fin 128) (w : Fin 64) (i : Fin 8) (j : Fin 16) (h : Fin 6) :
    val_main_v91 (F := Ideal) z (ix5 h r w i j) = z (ix3 h ⟨7 - (rowShift r).val + i.val, by omega⟩ ⟨(colStart w).val + j.val + 15 - w.val, by unfold colStart; dsimp only; omega⟩) := by
  unfold val_main_v91
  exact gather_bias _ _ r w i j h _ _ (ref_v90_0 r w i j) (ref_v90_1 r w i j)

/-- The score of a window position, as the reference computes it. -/
def refScore (q k : Vec Ideal S4x8192x384 .bf16) (z : Vec Ideal S6x15x31 .f32) (b : Fin 4) (h : Fin 6) (r : Fin 128) (w : Fin 64) (i : Fin 8) (j : Fin 16) : EReal :=
  (∑ e : Fin 64, q (ix3 b (tok r w) (feat h e)) * Ideal.ofBits FTy.f32 1040187392#32 * k (ix3 b (tok (winRow r i) (winCol w j)) (feat h e)))
    + z (ix3 h ⟨7 - (rowShift r).val + i.val, by omega⟩ ⟨(colStart w).val + j.val + 15 - w.val, by unfold colStart; dsimp only; omega⟩)

theorem ref_v95 (q k : Vec Ideal S4x8192x384 .bf16) (z : Vec Ideal S6x15x31 .f32) (b : Fin 4) (h : Fin 6) (r : Fin 128) (w : Fin 64) (i : Fin 8) (j : Fin 16) :
    val_main_v95 (F := Ideal) q k z (ix6 b h r w i j) = refScore q k z b h r w i j := by
  pointwise [val_main_v95, val_main_v94, val_main_v93, val_main_v92, ref_v91, ref_v55, val_main_v3, val_main_v2, val_main_v1, val_main_v0, val_main_cst]
  unfold refScore
  refine congrArg (· + _) (Finset.sum_congr rfl fun e _ => ?_)
  refine congrArg (fun y => q y * _ * _) (congrArg₂ (ix3 b) (Fin.ext (by dsimp only [tok]; omega)) (Fin.ext (by dsimp only [feat]; omega)))

end Cert.Proof.Attn

end
-- ==== Proof.Attn.Soft.lean ====
/- A softmax average over many positions of which all but a window are masked by minus infinity is the average over the window. -/
module

public import proofs.«01_k».proof.Proof.Attn.Row

@[expose] public section

noncomputable section

namespace Cert.Proof.Attn

open Idealize.ShloMosaic

/-- The pattern of minus infinity. -/
theorem ofBits_bot : Ideal.ofBits FTy.f32 4286578688#32 = (⊥ : EReal) := by
  simp [Ideal.ofBits, Ideal.ieee]

/-- The greatest score, as a supremum. -/
theorem top_eq_sup {n : ℕ} (s : Fin n → EReal) : top s = Finset.univ.sup s := by
  unfold top
  rw [ofBits_bot]
  rfl

/-- A masked position does not raise the greatest score. -/
theorem top_window {n p : ℕ} (s : Fin n → EReal) (f : Fin p → Fin n) (hout : ∀ c, c ∉ Set.range f → s c = ⊥) : top s = top fun c => s (f c) := by
  rw [top_eq_sup, top_eq_sup]
  refine le_antisymm (Finset.sup_le fun c _ => ?_) (Finset.sup_le fun c _ => Finset.le_sup (Finset.mem_univ (f c)))
  by_cases h : c ∈ Set.range f
  · obtain ⟨c', rfl⟩ := h
    exact Finset.le_sup (f := fun c => s (f c)) (Finset.mem_univ c')
  · rw [hout c h]; exact bot_le

/-- The greatest of finitely many reals is a real. -/
theorem top_real {p : ℕ} [NeZero p] (t : Fin p → ℝ) : ∃ m : ℝ, top (fun c => (t c : EReal)) = m := by
  rw [top_eq_sup]
  obtain ⟨c, -, hc⟩ := Finset.exists_mem_eq_sup Finset.univ ⟨(0 : Fin p), Finset.mem_univ _⟩ fun c => (t c : EReal)
  exact ⟨t c, hc⟩

/-- A real factor that is not negative goes into a sum of extended reals. -/
theorem sum_mul_real {ι : Type} (s : Finset ι) (g : ι → EReal) (k : ℝ) (hk : 0 ≤ k) : (∑ i ∈ s, g i) * (k : EReal) = ∑ i ∈ s, g i * (k : EReal) := by
  classical
  induction s using Finset.induction_on with
  | empty => simp
  | insert a s ha ih =>
    rw [Finset.sum_insert ha, Finset.sum_insert ha, ← ih]
    exact EReal.right_distrib_of_nonneg_of_ne_top (EReal.coe_nonneg.2 hk) (EReal.coe_ne_top k) _ _

/-- A finite sum of reals, as an extended real. -/
theorem coe_sum_real {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The average over positions of which all outside a window are masked is the average over the window, each weight divided first. -/
theorem average_window {n p : ℕ} [NeZero p] (s v : Fin n → EReal) (f : Fin p → Fin n) (hf : Function.Injective f) (hout : ∀ c, c ∉ Set.range f → s c = ⊥)
    (t : Fin p → ℝ) (ht : ∀ c, s (f c) = t c) :
    average s v = ∑ c, Ideal.div (Ideal.exp (s (f c) - top fun c => s (f c))) (∑ c, Ideal.exp (s (f c) - top fun c => s (f c))) * v (f c) := by
  obtain ⟨m, hm⟩ := top_real t
  have hm' : (top fun c => s (f c)) = (m : EReal) := by simp only [ht]; exact hm
  have he (c : Fin p) : Ideal.exp (s (f c) - (m : EReal)) = ((Real.exp (t c - m) : ℝ) : EReal) := by
    rw [ht, ← EReal.coe_sub]; rfl
  have hz (c : Fin n) (hc : c ∉ Set.range f) : Ideal.exp (s c - (m : EReal)) = 0 := by
    rw [hout c hc, EReal.bot_sub]; rfl
  have hD : ∑ c, Ideal.exp (s c - (m : EReal)) = ((∑ c, Real.exp (t c - m) : ℝ) : EReal) := by
    rw [← Fintype.sum_of_injective f hf (fun c => ((Real.exp (t c - m) : ℝ) : EReal)) _ hz fun c => (he c).symm]
    exact coe_sum_real _ _
  have hpos : 0 < ∑ c, Real.exp (t c - m) := Finset.sum_pos (fun c _ => Real.exp_pos _) ⟨(0 : Fin p), Finset.mem_univ _⟩
  have hne : ((∑ c, Real.exp (t c - m) : ℝ) : EReal) ≠ 0 := by exact_mod_cast hpos.ne'
  unfold average
  rw [top_window s f hout, hm', hD]
  simp only [he]
  rw [coe_sum_real]
  rw [← Fintype.sum_of_injective f hf (fun c => ((Real.exp (t c - m) : ℝ) : EReal) * v (f c)) (fun c => Ideal.exp (s c - (m : EReal)) * v c)
    (fun c hc => by rw [hz c hc, zero_mul]) fun c => by rw [he]]
  unfold Ideal.div
  simp only [if_neg hne]
  rw [← EReal.coe_inv, sum_mul_real _ _ _ (inv_nonneg.2 hpos.le)]
  exact Finset.sum_congr rfl fun c _ => mul_right_comm _ _ _

end Cert.Proof.Attn

end
-- ==== Proof.Attn.RefOut.lean ====
module

public import proofs.«01_k».proof.Proof.Attn.Ref
public import proofs.«01_k».proof.Proof.Attn.Soft

@[expose] public section

set_option maxRecDepth 16384

noncomputable section

namespace Cert.Proof.Attn

open Cert.AttnRefIdeal Cert.AttnRefIdeal.Gen Cert.AttnRefIdeal.Read Idealize.ShloMosaic Idealize.ShloMosaic.TcCoe Idealize.SL.Sem

/-- The scores of the window's 128 positions. -/
def flat (q k : FVec Ideal S4x8192x384 .bf16) (z : FVec Ideal S6x15x31 .f32) (b : Fin 4) (h : Fin 6) (r : Fin 128) (w : Fin 64) (c : Fin 128) : EReal :=
  refScore q k z b h r w ⟨c.val / 16, by omega⟩ ⟨c.val % 16, by omega⟩

/-- The scores of a window, laid out flat, as the reference computes them. -/
theorem ref_v96 (q k : FVec Ideal S4x8192x384 .bf16) (z : FVec Ideal S6x15x31 .f32) (b : Fin 4) (h : Fin 6) (r : Fin 128) (w : Fin 64) (c : Fin 128) :
    val_main_v96 (F := Ideal) q k z (ix5 b h r w c) = flat q k z b h r w c := by
  pointwise [val_main_v96, ref_v95]
  rfl

/-- The greatest score of a window, as the reference computes it. -/
theorem ref_v97 (q k : FVec Ideal S4x8192x384 .bf16) (z : FVec Ideal S6x15x31 .f32) (b : Fin 4) (h : Fin 6) (r : Fin 128) (w : Fin 64) :
    val_main_v97 (F := Ideal) q k z (ix4 b h r w) = top (flat q k z b h r w) := by
  have e (x : FVec Ideal S4x6x128x64x128 .f32) (y : Fin 128 → EReal) (hx : ∀ c, x (ix5 b h r w c) = y c) :
      (Host.reduce (FloatOps.maximumf (F := Ideal) (φ := .f32)) x (val_main_cst_19 (F := Ideal)) reducesTo_S4x6x128x64x128_S4x6x128x64_d4 h_S_ : FVec Ideal S4x6x128x64 .f32) (ix4 b h r w) = top y := by
    pointwise [hx, val_main_cst_19]
    rfl
  exact e _ _ fun c => ref_v96 q k z b h r w c

/-- The exponential of a score less the greatest, as the reference computes it. -/
theorem ref_v103 (q k : FVec Ideal S4x8192x384 .bf16) (z : FVec Ideal S6x15x31 .f32) (b : Fin 4) (h : Fin 6) (r : Fin 128) (w : Fin 64) (c : Fin 128) :
    val_main_v103 (F := Ideal) q k z (ix5 b h r w c) = Ideal.exp (flat q k z b h r w c - top (flat q k z b h r w)) := by
  have e (x : FVec Ideal S4x6x128x64x128 .f32) (M : FVec Ideal S4x6x128x64 .f32) (y t : EReal) (hx : x (ix5 b h r w c) = y) (hM : M (ix4 b h r w) = t) :
      (Host.exp (subf x (broadcastInDim S4x6x128x64x128 ![0, 1, 2, 3, 4] bcast_S4x6x128x64x1_S4x6x128x64x128_0_1_2_3_4
        (broadcastInDim S4x6x128x64x1 ![0, 1, 2, 3] bcast_S4x6x128x64_S4x6x128x64x1_0_1_2_3 (maximumf (val_main_v98 (F := Ideal)) M)))) : FVec Ideal S4x6x128x64x128 .f32) (ix5 b h r w c)
        = Ideal.exp (y - t) := by
    pointwise [hx, hM, val_main_v98, val_main_cst_20]
    rw [ofBits_bot, max_eq_right bot_le]
  exact e _ _ _ _ (ref_v96 q k z b h r w c) (ref_v97 q k z b h r w)

/-- The sum of those exponentials, as the reference computes it. -/
theorem ref_v104 (q k : FVec Ideal S4x8192x384 .bf16) (z : FVec Ideal S6x15x31 .f32) (b : Fin 4) (h : Fin 6) (r : Fin 128) (w : Fin 64) :
    val_main_v104 (F := Ideal) q k z (ix4 b h r w) = ∑ c, Ideal.exp (flat q k z b h r w c - top (flat q k z b h r w)) := by
  rw [val_main_v104_apply, val_main_cst_21_apply]
  refine (congrArg₂ (· + ·) (by simp [FloatOps.ofBits, Ideal.ofBits, Ideal.ieee]) (Finset.sum_congr rfl fun c _ => ?_)).trans (zero_add _)
  exact (congrArg _ (funext fun a => Fin.ext (by match a with | ⟨0, _⟩ => rfl | ⟨1, _⟩ => rfl | ⟨2, _⟩ => rfl | ⟨3, _⟩ => rfl | ⟨4, _⟩ => rfl))).trans (ref_v103 q k z b h r w c)

theorem ref_v107 (q k : FVec Ideal S4x8192x384 .bf16) (z : FVec Ideal S6x15x31 .f32) (b : Fin 4) (h : Fin 6) (r : Fin 128) (w : Fin 64) (c : Fin 128) :
    val_main_v107 (F := Ideal) q k z (ix5 b h r w c)
      = Ideal.div (Ideal.exp (flat q k z b h r w c - top (flat q k z b h r w))) (∑ c, Ideal.exp (flat q k z b h r w c - top (flat q k z b h r w))) := by
  have e (x : FVec Ideal S4x6x128x64x128 .f32) (D : FVec Ideal S4x6x128x64 .f32) (y t : EReal) (hx : x (ix5 b h r w c) = y) (hD : D (ix4 b h r w) = t) :
      (Host.divf x (broadcastInDim S4x6x128x64x128 ![0, 1, 2, 3, 4] bcast_S4x6x128x64x1_S4x6x128x64x128_0_1_2_3_4
        (broadcastInDim S4x6x128x64x1 ![0, 1, 2, 3] bcast_S4x6x128x64_S4x6x128x64x1_0_1_2_3 D)) : FVec Ideal S4x6x128x64x128 .f32) (ix5 b h r w c)
        = Ideal.div y t := by
    pointwise [hx, hD]
  exact e _ _ _ _ (ref_v103 q k z b h r w c) (ref_v104 q k z b h r w)

theorem ref_v111 (q k v : FVec Ideal S4x8192x384 .bf16) (z : FVec Ideal S6x15x31 .f32) (b : Fin 4) (h : Fin 6) (r : Fin 128) (w : Fin 64) (d : Fin 64) :
    val_main_v111 (F := Ideal) q k v z (ix3 b (tok r w) (feat h d))
      = ∑ c : Fin 128, Ideal.div (Ideal.exp (flat q k z b h r w c - top (flat q k z b h r w))) (∑ c, Ideal.exp (flat q k z b h r w c - top (flat q k z b h r w)))
          * v (ix3 b (tok (winRow r ⟨c.val / 16, by omega⟩) (winCol w ⟨c.val % 16, by omega⟩)) (feat h d)) := by
  have et : (⟨(tok r w).val / 64, by omega⟩ : Fin 128) = r := Fin.ext (by show (64 * r.val + w.val) / 64 = r.val; omega)
  have ew : (⟨(tok r w).val % 64, by omega⟩ : Fin 64) = w := Fin.ext (by show (64 * r.val + w.val) % 64 = w.val; omega)
  have eh : (⟨(feat h d).val / 64, by omega⟩ : Fin 6) = h := Fin.ext (by show (64 * h.val + d.val) / 64 = h.val; omega)
  have ed : (⟨(feat h d).val % 64, by omega⟩ : Fin 64) = d := Fin.ext (by show (64 * h.val + d.val) % 64 = d.val; omega)
  have e (x : FVec Ideal S4x6x128x64x128 .f32) (V : FVec Ideal S4x128x8x64x16x6x64 .f32) (y : Fin 128 → EReal) (t : Fin 8 → Fin 16 → EReal)
      (hx : ∀ c, x (ix5 b h r w c) = y c) (hV : ∀ i j, V (ix7 b r i w j h d) = t i j) :
      (truncf .bf16 (shapeCast S4x8192x384 (Host.dotGeneral dot_S4x6x128x64x8x16_S4x128x8x64x16x6x64_S4x128x64x6x64_45_24_n_6_0231_0135 none
        (shapeCast S4x6x128x64x8x16 x shapeCasts_S4x6x128x64x128_S4x6x128x64x8x16) V) shapeCasts_S4x128x64x6x64_S4x8192x384) bitsLt_bf16_f32 : FVec Ideal S4x8192x384 .bf16) (ix3 b (tok r w) (feat h d))
        = ∑ i : Fin 8, ∑ j : Fin 16, y ⟨i.val * 16 + j.val, by omega⟩ * t i j := by
    pointwise
    simp only [et, ew, eh, ed, hx, hV]
  rw [show val_main_v111 (F := Ideal) q k v z (ix3 b (tok r w) (feat h d)) = _ from e _ _ _ _ (fun c => ref_v107 q k z b h r w c) fun i j => ref_v73 v b r i w j h d]
  refine (Fintype.sum_prod_type' (f := fun (i : Fin 8) (j : Fin 16) => _)).symm.trans ?_
  refine Fintype.sum_equiv (finProdFinEquiv (m := 8) (n := 16)) _ _ fun xy => ?_
  obtain ⟨i, j⟩ := xy
  have ec : finProdFinEquiv (m := 8) (n := 16) (i, j) = (⟨i.val * 16 + j.val, by omega⟩ : Fin 128) := Fin.ext (by show j.val + 16 * i.val = i.val * 16 + j.val; omega)
  rw [ec]
  have e1 : (⟨(i.val * 16 + j.val) / 16, by omega⟩ : Fin 8) = i := Fin.ext (by dsimp only; omega)
  have e2 : (⟨(i.val * 16 + j.val) % 16, by omega⟩ : Fin 16) = j := Fin.ext (by dsimp only; omega)
  simp only [e1, e2]

end Cert.Proof.Attn

end
-- ==== Proof.Attn.Equal.lean ====
/- The kernel's softmax average is the reference's: the 512 positions of the kernel's window that are not among the reference's
   128 have the score −∞, and the others have the reference's scores, real numbers by the precondition. -/
module

public import proofs.«01_k».proof.Proof.Attn.Table
public import proofs.«01_k».proof.Proof.Attn.RefOut
public import proofs.«01_k».proof.Pre_finite

@[expose] public section

set_option maxRecDepth 16384

noncomputable section

namespace Cert.Proof.Attn

open Cert.AttnIdeal Cert.AttnIdeal.Gen Idealize.ShloMosaic Idealize.ShloMosaic.TcCoe Idealize.SL.Sem

/-! ## Real arrays -/

/-- The 16-bit pattern of the infinity. -/
theorem ofBits_top16 : Ideal.ofBits FTy.bf16 0x7F80#16 = (⊤ : EReal) := by
  simp [Ideal.ofBits, Ideal.ieee]

/-- The 32-bit pattern of the infinity. -/
theorem ofBits_top32 : Ideal.ofBits FTy.f32 0x7F800000#32 = (⊤ : EReal) := by
  simp [Ideal.ofBits, Ideal.ieee]

/-- A number whose absolute value is below the infinity is real. -/
theorem real_of_lt (x : EReal) (h : Ideal.cmp .olt (max x (-x)) ⊤ = 1#1) : ∃ y : ℝ, x = y := by
  induction x with
  | bot => simp [Ideal.cmp] at h
  | top => simp [Ideal.cmp] at h
  | coe y => exact ⟨y, rfl⟩

/-- The precondition's first array is all ones only at a real array of queries, and so for the keys and the biases. -/
theorem real_arrays [Cert.Pre_finite.Facts] (q k v : FVec Ideal S4x8192x384 .bf16) (z : FVec Ideal S6x15x31 .f32)
    (h : (Cert.Pre_finite.fn (F := Ideal) q k v z).1 = (fun _ => 1#1) ∧ (Cert.Pre_finite.fn (F := Ideal) q k v z).2.1 = (fun _ => 1#1)
      ∧ (Cert.Pre_finite.fn (F := Ideal) q k v z).2.2 = (fun _ => 1#1)) :
    (∀ i, ∃ y : ℝ, q i = y) ∧ (∀ i, ∃ y : ℝ, k i = y) ∧ (∀ i, ∃ y : ℝ, z i = y) := by
  obtain ⟨h0, h1, h2⟩ := h
  refine ⟨fun i => real_of_lt _ ?_, fun i => real_of_lt _ ?_, fun i => real_of_lt _ ?_⟩
  · rw [← ofBits_top16]; exact congrFun h0 i
  · rw [← ofBits_top16]; exact congrFun h1 i
  · rw [← ofBits_top32]; exact congrFun h2 i

/-! ## The scores -/

/-- The kernel's scale is the reference's, an eighth. -/
theorem scale16 : Ideal.ofBits FTy.bf16 15872#16 = ((1 / 8 : ℝ) : EReal) := by
  simp only [Ideal.ofBits, Ideal.ieee]
  rw [show BitVec.extractLsb' 15 1 15872#16 = 0#1 from rfl, show BitVec.extractLsb' 7 8 15872#16 = 124#8 from rfl, show BitVec.extractLsb' 0 7 15872#16 = 0#7 from rfl]
  norm_num

/-- The reference's scale. -/
theorem scale32 : Ideal.ofBits FTy.f32 1040187392#32 = ((1 / 8 : ℝ) : EReal) := by
  simp only [Ideal.ofBits, Ideal.ieee]
  rw [show BitVec.extractLsb' 31 1 1040187392#32 = 0#1 from rfl, show BitVec.extractLsb' 23 8 1040187392#32 = 124#8 from rfl, show BitVec.extractLsb' 0 23 1040187392#32 = 0#23 from rfl]
  norm_num

/-- The reference's scores are real numbers. -/
theorem flat_real (q k : FVec Ideal S4x8192x384 .bf16) (z : FVec Ideal S6x15x31 .f32) (hq : ∀ i, ∃ y : ℝ, q i = y) (hk : ∀ i, ∃ y : ℝ, k i = y) (hz : ∀ i, ∃ y : ℝ, z i = y)
    (b : Fin 4) (h : Fin 6) (r : Fin 128) (w : Fin 64) (c : Fin 128) : ∃ t : ℝ, flat q k z b h r w c = t := by
  choose q' eq using hq
  choose k' ek using hk
  choose z' ez using hz
  unfold flat refScore
  rw [scale32]
  simp only [eq, ek, ez, ← EReal.coe_mul, coe_sum_real, ← EReal.coe_add]
  exact ⟨_, rfl⟩

/-- The place of the reference's window position among the kernel's 512. -/
def place (w : Fin 64) (c : Fin 128) : Fin 512 := win ⟨c.val / 16, by omega⟩ (winCol w ⟨c.val % 16, by omega⟩)

/-- Different window positions have different places. -/
theorem place_injective (w : Fin 64) : Function.Injective (place w) := fun c c' h => Fin.ext (by
  have h : 64 * (c.val / 16) + ((colStart w).val + c.val % 16) = 64 * (c'.val / 16) + ((colStart w).val + c'.val % 16) := congrArg Fin.val h
  have := (colStart w).isLt
  omega)

/-- A position outside the reference's window is in a column that is not near the query's. -/
theorem not_near (w x : Fin 64) (i : Fin 8) (h : win i x ∉ Set.range (place w)) : ¬ near w x := fun hn => h <| by
  obtain ⟨h1, h2⟩ := hn
  refine ⟨⟨16 * i.val + (x.val - (colStart w).val), by omega⟩, Fin.ext ?_⟩
  show 64 * ((16 * i.val + (x.val - (colStart w).val)) / 16) + ((colStart w).val + (16 * i.val + (x.val - (colStart w).val)) % 16) = 64 * i.val + x.val
  omega

/-- The token at a window position's place is the one at the position's row and column. -/
theorem winTok_place (r : Fin 128) (w : Fin 64) (c : Fin 128) : winTok r (place w c) = tok (winRow r ⟨c.val / 16, by omega⟩) (winCol w ⟨c.val % 16, by omega⟩) :=
  Fin.ext (by
    show 64 * (rowStart r).val + (64 * (c.val / 16) + (winCol w ⟨c.val % 16, by omega⟩).val) = 64 * ((rowStart r).val + c.val / 16) + (winCol w ⟨c.val % 16, by omega⟩).val
    omega)

/-- The kernel's average over its window is the reference's result. -/
theorem attend_eq (m : (ℓ : Loc nD τ sig) → Buf (Elt Ideal) ℓ) (ρ : Dev nD → PrngReg) (c : Dev nD) (q k v : FVec Ideal S4x8192x384 .bf16) (z : FVec Ideal S6x15x31 .f32)
    (ez : z = m ((c : Thread nD τ).loc main_arg3)) (hq : ∀ i, ∃ y : ℝ, q i = y) (hk : ∀ i, ∃ y : ℝ, k i = y) (hz : ∀ i, ∃ y : ℝ, z i = y)
    (b : Fin 4) (r : Fin 128) (w : Fin 64) (h : Fin 6) (d : Fin 64) :
    attend q k v (V3 m ρ c main_v27) b r w h d = Cert.AttnRefIdeal.Read.val_main_v111 (F := Ideal) q k v z (ix3 b (tok r w) (feat h d)) := by
  choose t ht using flat_real q k z hq hk hz b h r w
  have es (a : Fin 128) : (∑ e : Fin 64, q (ix3 b (tok r w) (feat h e)) * Ideal.ofBits FTy.bf16 15872#16 * k (ix3 b (winTok r (place w a)) (feat h e)))
      + V3 m ρ c main_v27 (ix4 h (rowShift r) w (place w a)) = flat q k z b h r w a := by
    have hn : near w (winCol w ⟨a.val % 16, by omega⟩) := ⟨Nat.le_add_right _ _, Nat.add_lt_add_left (Nat.mod_lt _ (by omega)) _⟩
    rw [winTok_place, scale16, ← scale32]
    unfold place
    rw [v27_apply, ← ez]
    unfold bias
    rw [dif_pos hn]
    rfl
  unfold attend
  rw [average_window _ _ (place w) (place_injective w) (fun a ha => ?_) t fun a => (es a).trans (ht a), ref_v111]
  · simp only [es]
    simp only [winTok_place]
  · obtain ⟨i, x, rfl⟩ : ∃ (i : Fin 8) (x : Fin 64), a = win i x := ⟨⟨a.val / 64, by omega⟩, ⟨a.val % 64, by omega⟩, Fin.ext (by show a.val = 64 * (a.val / 64) + a.val % 64; omega)⟩
    rw [v27_apply, bias, dif_neg (not_near w x i ha), EReal.add_bot]

end Cert.Proof.Attn

end
-- ==== Proof.Attn.Value.lean ====
/- The value claim of the attention: the kernel's run and the reference's end with the same result array. -/
module

public import proofs.«01_k».proof.Proof.Attn.Equal
public import proofs.«01_k».proof.Defs

@[expose] public section

set_option maxRecDepth 16384

noncomputable section

namespace Cert.Proof.Attn

open Cert.AttnIdeal Cert.AttnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The kernel's run ends, the result array holding what the pipeline of the second call leaves there and the arguments unchanged. -/
theorem run_value : θ_run (defs (F := Ideal)) (onTc (τ := τ) (main (F := Ideal))) ⟨m, fun _ => 0, ρ⟩ (fun r => ∀ c : Dev nD,
      r.2.mem ((c.tc : Thread nD τ).loc main_v28) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v28 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The result array is the reference's function of the arguments, where queries, keys and biases are real. -/
theorem result_eq [Cert.Pre_finite.Facts] (h : Cert.Pre_AttnIdeal_finite m) (c : Dev nD) : (dat1 (V3 m ρ) c).arrAt 4 cfg1.N
    = Cert.AttnRefIdeal.Read.val_main_v111 (F := Ideal) (m ((c : Thread nD τ).loc main_arg0)) (m ((c : Thread nD τ).loc main_arg1)) (m ((c : Thread nD τ).loc main_arg2))
      (m ((c : Thread nD τ).loc main_arg3)) := by
  obtain ⟨hq, hk, hz⟩ := real_arrays _ _ _ _ (h c)
  rw [final4 (V3 m ρ) c, show V3 m ρ c main_arg0 = _ from W3_args m ρ c main_arg0 (by decide), show V3 m ρ c main_arg1 = _ from W3_args m ρ c main_arg1 (by decide),
    show V3 m ρ c main_arg2 = _ from W3_args m ρ c main_arg2 (by decide)]
  funext i
  obtain ⟨b, r, w, h, d, rfl⟩ : ∃ (b : Fin 4) (r : Fin 128) (w : Fin 64) (h : Fin 6) (d : Fin 64), i = ix3 b (tok r w) (feat h d) := by
    have h1 : (i 1).val < 8192 := (i 1).isLt
    have h2 : (i 2).val < 384 := (i 2).isLt
    refine ⟨i 0, ⟨(i 1).val / 64, by omega⟩, ⟨(i 1).val % 64, by omega⟩, ⟨(i 2).val / 64, by omega⟩, ⟨(i 2).val % 64, by omega⟩, funext fun a => Fin.ext ?_⟩
    match a with
    | ⟨0, _⟩ => rfl
    | ⟨1, _⟩ => show (i 1).val = 64 * ((i 1).val / 64) + (i 1).val % 64; omega
    | ⟨2, _⟩ => show (i 2).val = 64 * ((i 2).val / 64) + (i 2).val % 64; omega
  rw [attendAt_ix]
  exact attend_eq m ρ c _ _ _ _ rfl hq hk hz b r w h d

/-- The kernel's run and the reference's end with the same result array, from memories that agree on the arguments. -/
theorem algebraic [Cert.Pre_finite.Facts] : Cert.algebraic_AttnIdeal_AttnRefIdeal_pre_finite := by
  intro m ρ m' ρ' hm hag
  refine ⟨fun c => Cert.AttnRefIdeal.Read.val_main_v111 (F := Ideal) (m ((c : Thread nD τ).loc main_arg0)) (m ((c : Thread nD τ).loc main_arg1)) (m ((c : Thread nD τ).loc main_arg2)) (m ((c : Thread nD τ).loc main_arg3)),
    (θ_run Cert.AttnIdeal.defs _ _).mono (fun r h c => ⟨(h c).1.trans (result_eq m ρ hm c), (h c).2⟩) (run_value m ρ),
    (θ_run Cert.AttnRefIdeal.defs _ _).mono (fun r h c => ?_) (Cert.AttnRefIdeal.Value.run m' ρ')⟩
  obtain ⟨h1, ha⟩ := h c
  obtain ⟨e0, e1, e2, e3⟩ := hag c
  rw [Cert.AttnRefIdeal.Read.val_main_v111_eq, e0, e1, e2, e3] at h1
  exact ⟨h1, ha⟩

end Cert.Proof.Attn

end
-- ==== Proof.Ffn.Run.lean ====
/-
  The runs of the feed-forward kernel's body, over any float operations: which branches each grid point takes, the
  staging and scratch buffers, and the body executed in its two cases — the first chunk of an expert's columns (which
  clears the accumulator and stages the tokens) and the second (which writes the block of the result, in eight strided
  pieces).
-/
module

public import proofs.«01_k».proof.Proof.Gen.FfnIdeal.Frame
public import proofs.«01_k».proof.Proof.Gen.FfnIdeal.Skeleton

@[expose] public section

set_option maxRecDepth 16384

noncomputable section

namespace Ffn

open Idealize.ShloMosaic Idealize.ShloMosaic.TcCoe Idealize.ShloMosaic.Tactic
open Cert.FfnIdeal Cert.FfnIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first branch, from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_0, e0, e1, e2]
    word_cmp
   : ∀ t : Fin grid0.N, cond0_0 (grid0.coords t) ↔ t.val % 2 = 0)

/-- The condition of the body's second branch, from the grid coordinates. -/
abbrev cond0_1 (i : grid0.Coords) : Prop := k0_cond2 i = 1#1
/-- It holds at the odd points. -/
theorem hcond0_1 : ∀ t : Fin cfg0.N, cond0_1 (grid0.coords t) ↔ t.val % 2 = 1 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 2 % 4 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val % 2 = 1)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At an even point (case A) the result's window is idle: the body stores nothing into it. -/
theorem idleAt0_5_A : ∀ t : Fin cfg0.N, cond0_0 (grid0.coords t) → ¬cond0_1 (grid0.coords t) → cfg0.idle 5 (grid0.coords t) = true := by decide +kernel
/-- At an even point the result's block is not written back. -/
theorem noFlush0_5_A : ∀ t : Fin cfg0.N, cond0_0 (grid0.coords t) → ¬cond0_1 (grid0.coords t) → (cfg0.win 5).flush t = false := by decide +kernel
/-- At an odd point (case B) the body stores into the result's window. -/
theorem liveAt0_5_B : ∀ t : Fin cfg0.N, ¬cond0_0 (grid0.coords t) → cond0_1 (grid0.coords t) → cfg0.idle 5 (grid0.coords t) = false := by decide +kernel

/-! ## The body on any buffers -/

/-- A buffer of the result's window, through which its contents are stated. -/
abbrev VO0_5 : View sig .tc .vmem S1x1x8192x128 .f32 := (Memref.whole cc0_stg5_0 : Memref sig .tc .vmem S1x1x8192x128 .f32).view
/-- Each window's buffer at point `t`, and that it is whole. -/
abbrev ms0_0 (t : Fin cfg0.N) : Memref sig .tc .vmem S1x1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8192x128 .f32 := win0_5.stage (cfg0.slots t 5)
abbrev hs0_5 (t : Fin cfg0.N) : (ms0_5 t).IsWhole := hstage0_5 ((cfg0.slots t 5).cast nbuf0_5)
/-- The scratch buffers, whole. -/
abbrev scM0_0 : Memref sig .tc .vmem S1024x1024 .f32 := Memref.whole cc0_scratch0
abbrev scM0_1 : Memref sig .tc .vmem S1024x1024 .bf16 := Memref.whole cc0_scratch1
/-- The accumulator, as a view: what it holds is stated through it. -/
abbrev VS0_0 : View sig .tc .vmem S1024x1024 .f32 := scM0_0.view
/-- The staged tokens, as a view: what they hold is stated through it. -/
abbrev VS0_1 : View sig .tc .vmem S1024x1024 .bf16 := scM0_1.view

/-- The scratch buffers held at some contents: what the body is given and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave at an even point (case A: the first branch taken, the second not), as pieces, with the proof that from
    operands' buffers at their contents, the result's at any and the scratch at anything the body runs to its end, the operands and
    the result's buffer kept and the scratch with its pieces written. -/
noncomputable def kernelRun0_A (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec F S1x1x8192x128 .f32) (x1 : Vec F S1x1024x1024 .f32) (x2 : Vec F S1x1024x1024 .f32) (x3 : Vec F S1x1024x1024 .f32) (x4 : Vec F S1x1x1024x1 .f32) :
    Σ' (L5 : List (View.Piece (Elt F) S1x1x8192x128 .f32)), Σ' (LS0 : List (View.Piece (Elt F) S1024x1024 .f32)), { LS1 : List (View.Piece (Elt F) S1024x1024 .bf16) //
      ∀ (xi5 : Vec F S1x1x8192x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨[], ?_, ?_, fun xi5 E K => ?run⟩
  case run =>
    simp only [cc0__ffn_kernel_eq_skeleton]; unfold cc0__ffn_kernel_skel
    simp only [k0_part3_eq_skeleton, k0_part1_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexists _; iexact HS1

-- (the run's proof term is large: the definition's epilogue — `abstractNestedProofs` — walks it past the default budget)
set_option maxHeartbeats 1000000 in
/-- What the body's stores leave at an odd point (case B: the first branch not taken, the second taken), as pieces, with the proof that
    from operands' buffers at their contents, the result's at anything and the scratch at what the point before left the body runs to its
    end, the operands kept and the result's buffer and the accumulator with their pieces written. -/
noncomputable def kernelRun0_B (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec F S1x1x8192x128 .f32) (x1 : Vec F S1x1024x1024 .f32) (x2 : Vec F S1x1024x1024 .f32) (x3 : Vec F S1x1024x1024 .f32) (x4 : Vec F S1x1x1024x1 .f32) (xs0 : Vec F S1024x1024 .f32) (xs1 : Vec F S1024x1024 .bf16) :
    Σ' (L5 : List (View.Piece (Elt F) S1x1x8192x128 .f32)), Σ' (LS0 : List (View.Piece (Elt F) S1024x1024 .f32)), { LS1 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ owns (c : Thread nD τ) arg10 fullShare xs1) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, ?_, [], fun E K => ?run⟩
  case run =>
    simp only [cc0__ffn_kernel_eq_skeleton]; unfold cc0__ffn_kernel_skel
    simp only [k0_part3_eq_skeleton, k0_part4_eq_skeleton, k0_part5_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; isplitr; · ipureintro; exact harg10.read_unread _
    iexact HS1

end Ffn

end
-- ==== Proof.Ffn.Frame.lean ====
/-
  The frame of the feed-forward kernel, over any float operations: what the body leaves in the result's block and in the
  two scratch buffers at each grid point, the body's obligation there, and the run of the pipeline. The eight strided
  pieces of the result's block cover it: the token in slot 8r + k lies in piece k, at row r.
-/
module

public import proofs.«01_k».proof.Proof.Ffn.Run
public import Idealize.ShloMosaic.Lib.Claim

@[expose] public section

set_option maxRecDepth 16384

noncomputable section

namespace Ffn

open Idealize.ShloMosaic Idealize.ShloMosaic.TcCoe Idealize.ShloMosaic.Tactic
open Cert.FfnIdeal Cert.FfnIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first point of a pair (case A) stores nothing into the result's block; what is named here is never read. -/
def out0_A_5 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec F S1x1x8192x128 .f32) (x1 : Vec F S1x1024x1024 .f32) (x2 : Vec F S1x1024x1024 .f32) (x3 : Vec F S1x1024x1024 .f32) (x4 : Vec F S1x1x1024x1 .f32) : Vec F S1x1x8192x128 .f32 :=
  VO0_5.read (Elt F) (VO0_5.writes (Elt F) VO0_5.junk (kernelRun0_A c i arg3 harg3 arg4 harg4 arg5 harg5 arg6 harg6 arg7 harg7 arg8 harg8 arg9 harg9 arg10 harg10 hc0 hc1 x0 x1 x2 x3 x4).1)

/-- The pieces case A stores into the accumulator cover it. -/
theorem scover0_A_0 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec F S1x1x8192x128 .f32) (x1 : Vec F S1x1024x1024 .f32) (x2 : Vec F S1x1024x1024 .f32) (x3 : Vec F S1x1024x1024 .f32) (x4 : Vec F S1x1x1024x1 .f32) (y : S1024x1024.Idx) :
    ∃ pc ∈ (kernelRun0_A c i arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.1 S1024x1024.size (by sl_kernel_rfl) y

/-- What case A leaves in the accumulator. -/
def sout0_A_0 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec F S1x1x8192x128 .f32) (x1 : Vec F S1x1024x1024 .f32) (x2 : Vec F S1x1024x1024 .f32) (x3 : Vec F S1x1024x1024 .f32) (x4 : Vec F S1x1x1024x1 .f32) : Vec F S1024x1024 .f32 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4).2.1)

/-- The eight pieces case A stores into the staged tokens cover them. -/
theorem scover0_A_1 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec F S1x1x8192x128 .f32) (x1 : Vec F S1x1024x1024 .f32) (x2 : Vec F S1x1024x1024 .f32) (x3 : Vec F S1x1024x1024 .f32) (x4 : Vec F S1x1x1024x1 .f32) (y : S1024x1024.Idx) :
    ∃ pc ∈ (kernelRun0_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4).2.2.1 S1024x128.size (by sl_kernel_rfl) y

/-- What case A leaves in the staged tokens. -/
def sout0_A_1 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec F S1x1x8192x128 .f32) (x1 : Vec F S1x1024x1024 .f32) (x2 : Vec F S1x1024x1024 .f32) (x3 : Vec F S1x1024x1024 .f32) (x4 : Vec F S1x1x1024x1 .f32) : Vec F S1024x1024 .bf16 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4).2.2.1)

/-- The slots congruent to `k` modulo 8 are those of the strided rectangle that begins at slot `k`. -/
theorem strided_mem (k : ℕ)
    (h : ∀ a, S1x1x1024x128.size a = 0 ∨ (![0, 0, k, 0] : Fin 4 → Nat) a + (![1, 1, 8, 1] : Fin 4 → Nat) a * (S1x1x1024x128.size a - 1) < S1x1x8192x128.size a)
    (hp : ∀ a, 0 < (![1, 1, 8, 1] : Fin 4 → Nat) a) (y : S1x1x8192x128.Idx) (hk : (y 2).val % 8 = k) :
    y ∈ (⟨⟨![0, 0, k, 0], S1x1x1024x128.size, ![1, 1, 8, 1], h⟩, hp⟩ : Rect S1x1x8192x128).set := by
  have y0 : (y 0).val < 1 := (y 0).isLt
  have y1 : (y 1).val < 1 := (y 1).isLt
  have y2 : (y 2).val < 8192 := (y 2).isLt
  have y3 : (y 3).val < 128 := (y 3).isLt
  refine (LoadRect.mem_set _).2 fun a => ?_
  match a with
  | ⟨0, _⟩ => exact ⟨0, Nat.one_pos, show (y 0).val = 0 + 1 * 0 by omega⟩
  | ⟨1, _⟩ => exact ⟨0, Nat.one_pos, show (y 1).val = 0 + 1 * 0 by omega⟩
  | ⟨2, _⟩ => exact ⟨(y 2).val / 8, show (y 2).val / 8 < 1024 by omega, show (y 2).val = k + 8 * ((y 2).val / 8) by omega⟩
  | ⟨3, _⟩ => exact ⟨(y 3).val, y3, show (y 3).val = 0 + 1 * (y 3).val by omega⟩

/-- The pieces the second point of a pair (case B) stores into the result's block cover it: a slot lies in the piece of its remainder modulo 8. -/
theorem cover0_B_5 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec F S1x1x8192x128 .f32) (x1 : Vec F S1x1024x1024 .f32) (x2 : Vec F S1x1024x1024 .f32) (x3 : Vec F S1x1024x1024 .f32) (x4 : Vec F S1x1x1024x1 .f32) (xs0 : Vec F S1024x1024 .f32) (xs1 : Vec F S1024x1024 .bf16) (y : S1x1x8192x128.Idx) :
    ∃ pc ∈ (kernelRun0_B c i arg3 harg3 arg4 harg4 arg5 harg5 arg6 harg6 arg7 harg7 arg8 harg8 arg9 harg9 arg10 harg10 hc0 hc1 x0 x1 x2 x3 x4 xs0 xs1).1, y ∈ pc.1.set := by
  have hy : (y 2).val < 8192 := (y 2).isLt
  have hq : (y 2).val / 8 < 1024 := by omega
  have h0 := strided_mem 0 inb_S1x1x8192x128_S1x1x1024x128_0_0_0_0_s_1_1_8_1 spos_1_1_8_1 y
  have h1 := strided_mem 1 inb_S1x1x8192x128_S1x1x1024x128_0_0_1_0_s_1_1_8_1 spos_1_1_8_1 y
  have h2 := strided_mem 2 inb_S1x1x8192x128_S1x1x1024x128_0_0_2_0_s_1_1_8_1 spos_1_1_8_1 y
  have h3 := strided_mem 3 inb_S1x1x8192x128_S1x1x1024x128_0_0_3_0_s_1_1_8_1 spos_1_1_8_1 y
  have h4 := strided_mem 4 inb_S1x1x8192x128_S1x1x1024x128_0_0_4_0_s_1_1_8_1 spos_1_1_8_1 y
  have h5 := strided_mem 5 inb_S1x1x8192x128_S1x1x1024x128_0_0_5_0_s_1_1_8_1 spos_1_1_8_1 y
  have h6 := strided_mem 6 inb_S1x1x8192x128_S1x1x1024x128_0_0_6_0_s_1_1_8_1 spos_1_1_8_1 y
  have h7 := strided_mem 7 inb_S1x1x8192x128_S1x1x1024x128_0_0_7_0_s_1_1_8_1 spos_1_1_8_1 y
  rcases (by omega : (y 2).val % 8 = 7 ∨ (y 2).val % 8 = 6 ∨ (y 2).val % 8 = 5 ∨ (y 2).val % 8 = 4 ∨ (y 2).val % 8 = 3
    ∨ (y 2).val % 8 = 2 ∨ (y 2).val % 8 = 1 ∨ (y 2).val % 8 = 0) with h | h | h | h | h | h | h | h
  · exact ⟨_, .head _, h7 h⟩
  · exact ⟨_, .tail _ (.head _), h6 h⟩
  · exact ⟨_, .tail _ (.tail _ (.head _)), h5 h⟩
  · exact ⟨_, .tail _ (.tail _ (.tail _ (.head _))), h4 h⟩
  · exact ⟨_, .tail _ (.tail _ (.tail _ (.tail _ (.head _)))), h3 h⟩
  · exact ⟨_, .tail _ (.tail _ (.tail _ (.tail _ (.tail _ (.head _))))), h2 h⟩
  · exact ⟨_, .tail _ (.tail _ (.tail _ (.tail _ (.tail _ (.tail _ (.head _)))))), h1 h⟩
  · exact ⟨_, .tail _ (.tail _ (.tail _ (.tail _ (.tail _ (.tail _ (.tail _ (.head _))))))), h0 h⟩

/-- What case B leaves in the result's block. -/
def out0_B_5 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec F S1x1x8192x128 .f32) (x1 : Vec F S1x1024x1024 .f32) (x2 : Vec F S1x1024x1024 .f32) (x3 : Vec F S1x1024x1024 .f32) (x4 : Vec F S1x1x1024x1 .f32) (xs0 : Vec F S1024x1024 .f32) (xs1 : Vec F S1024x1024 .bf16) : Vec F S1x1x8192x128 .f32 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4 xs0 xs1).1)

/-- The piece case B stores into the accumulator covers it. -/
theorem scover0_B_0 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec F S1x1x8192x128 .f32) (x1 : Vec F S1x1024x1024 .f32) (x2 : Vec F S1x1024x1024 .f32) (x3 : Vec F S1x1024x1024 .f32) (x4 : Vec F S1x1x1024x1 .f32) (xs0 : Vec F S1024x1024 .f32) (xs1 : Vec F S1024x1024 .bf16) (y : S1024x1024.Idx) :
    ∃ pc ∈ (kernelRun0_B c i arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xs0 xs1).2.1 S1024x1024.size (by sl_kernel_rfl) y

/-- What case B leaves in the accumulator. -/
def sout0_B_0 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec F S1x1x8192x128 .f32) (x1 : Vec F S1x1024x1024 .f32) (x2 : Vec F S1x1024x1024 .f32) (x3 : Vec F S1x1024x1024 .f32) (x4 : Vec F S1x1x1024x1 .f32) (xs0 : Vec F S1024x1024 .f32) (xs1 : Vec F S1024x1024 .bf16) : Vec F S1024x1024 .f32 :=
  VS0_0.read (Elt F) (VS0_0.writes (Elt F) VS0_0.junk (kernelRun0_B c i arg3 harg3 arg4 harg4 arg5 harg5 arg6 harg6 arg7 harg7 arg8 harg8 arg9 harg9 arg10 harg10 hc0 hc1 x0 x1 x2 x3 x4 xs0 xs1).2.1)

/-- Case B stores nothing into the staged tokens: they are what the point before left. -/
def sout0_B_1 (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec F S1x1x8192x128 .f32) (x1 : Vec F S1x1024x1024 .f32) (x2 : Vec F S1x1024x1024 .f32) (x3 : Vec F S1x1024x1024 .f32) (x4 : Vec F S1x1x1024x1 .f32) (xs0 : Vec F S1024x1024 .f32) (xs1 : Vec F S1024x1024 .bf16) : Vec F S1024x1024 .bf16 := xs1

/-! ## What the outputs hold after each point -/

/-- What the result's block and the two scratch buffers hold after the body at point `n`: the case that `n` falls in, over that point's
    blocks and, in case B, over what point `n - 1` left in the scratch. -/
def outsAt0 (c : Dev nD) : (n : ℕ) → n < cfg0.N → Vec F S1x1x8192x128 .f32 × Vec F S1024x1024 .f32 × Vec F S1024x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by have hN : n + 1 < 128 := lt_of_lt_of_eq hn (show cfg0.N = 128 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        False.elim (by have hN : n + 1 < 128 := lt_of_lt_of_eq hn (show cfg0.N = 128 from N_0); omega)

/-- At a point of case A: that case's contents. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a point of case B: that case's contents, over what the point before left. -/
theorem outsAt0_B (c : Dev nD) (t : Fin cfg0.N) (h0 : ¬t.val % 2 = 0) (h1 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What holds between the points: before the first the scratch buffers hold anything; before a later one they hold what the
    point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- What the pipeline holds on core `c`: the arrays as they are when it starts; after the body at point `t`, each operand's buffer at
    its block and the result's and the scratch at the contents above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The arrays are those that the host's operations before the pipeline left. -/
theorem A_eq (c : Dev nD) (w : Fin cfg0.W) : (dats m 0 c).A w = V m c (Pipeline.arrRef spec0 w) := by
  dsimp only [dats]

/-- What holds at the start of point `t`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each operand's current buffer holds its block at every point, whether it was fetched there or before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body meets its obligation at any point: the operands' buffers hold their blocks and the scratch what the point before left, so the
    run of the point's case applies, and it leaves the scratch at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold out0_B_5 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _ _ _ _)
    · exfalso; omega

/-- The body at point `t` of the pipeline is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the scratch may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track`'s implicit arguments are found by unifying its conclusion with this one, which takes unfolding plain
-- definitions in a metavariable's type
set_option backward.isDefEq.respectTransparency.types false in
/-- Every run of the whole program ends as the next theorem says, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory with zero counters every fair run of the program ends, each array of the pipeline at what its points leave in
    it, every other array as the host's operations left it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Ffn

end
-- ==== Proof.Ffn.Same.lean ====
/-
  The feed-forward printed for the hardware's floats and printed for the extended reals is the same program, so its frame over
  any float operations holds of the former.
-/
module

public import proofs.«01_k».proof.Defs
public import proofs.«01_k».proof.Proof.Ffn.Frame
public import proofs.«01_k».proof.Proof.Gen.Ffn.Frame

@[expose] public section

set_option maxRecDepth 16384
set_option maxHeartbeats 2000000
set_option backward.isDefEq.respectTransparency.types false

namespace Ffn

open Idealize.ShloMosaic

variable {F : FTy → Type} [FloatOps F]

/-- The two printed programs' bodies are the same. -/
theorem defs₀_eq : (Cert.Ffn.defs₀ (F := F)) = (Cert.FfnIdeal.defs₀ (F := F)) := by
  unfold Cert.Ffn.defs₀ Cert.FfnIdeal.defs₀
  refine congrArg Defs.onTc ?_
  funext l x
  match l, x with
  | ⟨0, _⟩, (t, s) => rfl

/-- So are their bodies with the pipelines in them. -/
theorem defs_eq : (Cert.Ffn.defs (F := F)) = (Cert.FfnIdeal.defs (F := F)) := by
  unfold Cert.Ffn.defs Cert.FfnIdeal.defs
  exact congrArg (Pipeline.defs Cert.FfnIdeal.pcfgs) defs₀_eq

/-- The frame of the program over the hardware's floats. -/
theorem bits_frame : Cert.quiescent_Ffn := fun m ρ _ => by
  have h := Ffn.frame (F := Bits) m ρ
  rw [← defs_eq] at h
  exact h

end Ffn

end
-- ==== Proof.Ffn.Math.lean ====
/-
  The feed-forward's mathematics: what the kernel's operations compute at an index, over the
  extended reals.
-/
module

public import proofs.«01_k».proof.Proof.Gen.FfnIdeal.Skeleton
public import proofs.«01_k».proof.Proof.Gen.FfnIdeal
public import Idealize.ShloMosaic.Lib.Pointwise

@[expose] public section

set_option maxRecDepth 16384

noncomputable section

namespace Ffn

open Cert.FfnIdeal Cert.FfnIdeal.Gen Idealize.ShloMosaic Idealize.ShloMosaic.TcCoe Idealize.SL.Sem

/-! ## The kernel's operations at an index -/

/-- The gated activation: the gate times its logistic, times the up-projection. -/
def gated (g u : EReal) : EReal := g * Ideal.div 1 (1 + Ideal.exp (-g)) * u

/-- Row `r` of the staged tokens times column `j` of a chunk of weights. -/
def chunk {p : Nat} (xb : FVec Ideal S1024x1024 .bf16) (w : FVec Ideal ⟨3, ![1, 1024, p]⟩ .f32) (r : Fin 1024) (j : Fin p) : EReal :=
  ∑ k : Fin 1024, xb (ix2 r k) * w (ix3 0 k j)

/-- The hidden activation `j` of a chunk. -/
def hidden {p : Nat} (xb : FVec Ideal S1024x1024 .bf16) (wg wu : FVec Ideal ⟨3, ![1, 1024, p]⟩ .f32) (r : Fin 1024) (j : Fin p) : EReal :=
  gated (chunk xb wg r j) (chunk xb wu r j)

/-- A sum over the chunk's 1024 columns is the sum of the sums over its four parts of 256. -/
theorem sum_parts (f : Fin 1024 → EReal) :
    ∑ j : Fin 1024, f j = ∑ j : Fin 256, f ⟨j.val, by omega⟩ + ∑ j : Fin 256, f ⟨256 + j.val, by omega⟩
      + ∑ j : Fin 256, f ⟨512 + j.val, by omega⟩ + ∑ j : Fin 256, f ⟨768 + j.val, by omega⟩ := by
  rw [show (∑ j : Fin 1024, f j) = _ from Fin.sum_univ_add (a := 768) (b := 256) f,
    show (∑ j : Fin 768, f (Fin.castAdd 256 j)) = _ from Fin.sum_univ_add (a := 512) (b := 256) (fun j : Fin 768 => f (Fin.castAdd 256 j)),
    show (∑ j : Fin 512, f (Fin.castAdd 256 (Fin.castAdd 256 j))) = _ from
      Fin.sum_univ_add (a := 256) (b := 256) (fun j : Fin 512 => f (Fin.castAdd 256 (Fin.castAdd 256 j)))]
  rfl

theorem pay20_apply (xb : Vec Ideal S1024x1024 .bf16) (w : Vec Ideal S1x1024x256 .f32) (r : Fin 1024) (j : Fin 256) :
    k0_pay20 xb w (ix2 r j) = chunk xb w r j := by
  pointwise [k0_pay20, chunk]

theorem pay28_apply (g u : FVec Ideal S1024x256 .f32) (r : Fin 1024) (j : Fin 256) :
    k0_pay28 g u (ix2 r j) = gated (g (ix2 r j)) (u (ix2 r j)) := by
  pointwise [k0_pay28, gated, zero_sub]

theorem pay31_apply (xb : Vec Ideal S1024x1024 .bf16) (w : Vec Ideal S1x1024x256 .f32) (r : Fin 1024) (j : Fin 256) :
    k0_pay31 xb w (ix2 r j) = Ideal.exp (-(k0_pay26 xb w (ix2 r j))) := by
  pointwise [k0_pay31, zero_sub]

/-- The accumulator's new contents: the old ones plus the four parts' products. -/
theorem pay32_apply (g u : FVec Ideal S1024x256 .f32) (a0 a1 a2 : FVec Ideal S1024x256 .bf16) (e : FVec Ideal S1024x256 .f32)
    (acc : Vec Ideal S1024x1024 .f32) (w0 w1 w2 w3 : Vec Ideal S1x256x1024 .f32) (r : Fin 1024) (d : Fin 1024) :
    k0_pay32 g u a0 a1 a2 e (FloatOps.ofBits FTy.f32 1065353216#32) acc w0 w1 w2 w3 (ix2 r d)
      = acc (ix2 r d) + (∑ j : Fin 256, a0 (ix2 r j) * w0 (ix3 0 j d) + ∑ j : Fin 256, a1 (ix2 r j) * w1 (ix3 0 j d)
        + ∑ j : Fin 256, a2 (ix2 r j) * w2 (ix3 0 j d)
        + ∑ j : Fin 256, (g (ix2 r j) * Ideal.div 1 (1 + e (ix2 r j)) * u (ix2 r j)) * w3 (ix3 0 j d)) := by
  pointwise [k0_pay32, zero_add]

theorem pay21_apply (xb : Vec Ideal S1024x1024 .bf16) (w : Vec Ideal S1x1024x256 .f32) (r : Fin 1024) (j : Fin 256) :
    k0_pay21 xb w (ix2 r j) = chunk xb w r j := pay20_apply xb w r j
theorem pay22_apply (xb : Vec Ideal S1024x1024 .bf16) (w : Vec Ideal S1x1024x256 .f32) (r : Fin 1024) (j : Fin 256) :
    k0_pay22 xb w (ix2 r j) = chunk xb w r j := pay20_apply xb w r j
theorem pay23_apply (xb : Vec Ideal S1024x1024 .bf16) (w : Vec Ideal S1x1024x256 .f32) (r : Fin 1024) (j : Fin 256) :
    k0_pay23 xb w (ix2 r j) = chunk xb w r j := pay20_apply xb w r j
theorem pay24_apply (xb : Vec Ideal S1024x1024 .bf16) (w : Vec Ideal S1x1024x256 .f32) (r : Fin 1024) (j : Fin 256) :
    k0_pay24 xb w (ix2 r j) = chunk xb w r j := pay20_apply xb w r j
theorem pay25_apply (xb : Vec Ideal S1024x1024 .bf16) (w : Vec Ideal S1x1024x256 .f32) (r : Fin 1024) (j : Fin 256) :
    k0_pay25 xb w (ix2 r j) = chunk xb w r j := pay20_apply xb w r j
theorem pay26_apply (xb : Vec Ideal S1024x1024 .bf16) (w : Vec Ideal S1x1024x256 .f32) (r : Fin 1024) (j : Fin 256) :
    k0_pay26 xb w (ix2 r j) = chunk xb w r j := pay20_apply xb w r j
theorem pay27_apply (xb : Vec Ideal S1024x1024 .bf16) (w : Vec Ideal S1x1024x256 .f32) (r : Fin 1024) (j : Fin 256) :
    k0_pay27 xb w (ix2 r j) = chunk xb w r j := pay20_apply xb w r j
theorem pay29_apply (g u : FVec Ideal S1024x256 .f32) (r : Fin 1024) (j : Fin 256) :
    k0_pay29 g u (ix2 r j) = gated (g (ix2 r j)) (u (ix2 r j)) := pay28_apply g u r j
theorem pay30_apply (g u : FVec Ideal S1024x256 .f32) (r : Fin 1024) (j : Fin 256) :
    k0_pay30 g u (ix2 r j) = gated (g (ix2 r j)) (u (ix2 r j)) := pay28_apply g u r j

/-- A chunk's contribution to feature `d` of token `r`: its hidden activations times its rows of the down-projection. -/
def step (xb : FVec Ideal S1024x1024 .bf16) (x1 x2 x3 : FVec Ideal S1x1024x1024 .f32) (r d : Fin 1024) : EReal :=
  ∑ j : Fin 1024, hidden xb x1 x2 r j * x3 (ix3 0 j d)

/-- Columns `o` to `o + 255` of a chunk of a projection's weights. -/
def Cols (x : FVec Ideal S1x1024x1024 .f32) (o : Nat) (w : Vec Ideal S1x1024x256 .f32) : Prop :=
  ∀ (k : Fin 1024) (j : Fin 256) (h : o + j.val < 1024), w (ix3 0 k j) = x (ix3 0 k ⟨o + j.val, h⟩)

/-- Rows `o` to `o + 255` of a chunk of the down-projection's weights. -/
def Rows (x : FVec Ideal S1x1024x1024 .f32) (o : Nat) (w : Vec Ideal S1x256x1024 .f32) : Prop :=
  ∀ (j : Fin 256) (d : Fin 1024) (h : o + j.val < 1024), w (ix3 0 j d) = x (ix3 0 ⟨o + j.val, h⟩ d)

theorem chunk_cols (xb : FVec Ideal S1024x1024 .bf16) (x : FVec Ideal S1x1024x1024 .f32) (o : Nat) (w : Vec Ideal S1x1024x256 .f32)
    (h : Cols x o w) (r : Fin 1024) (j : Fin 256) (hj : o + j.val < 1024) : chunk xb w r j = chunk xb x r ⟨o + j.val, hj⟩ :=
  Finset.sum_congr rfl fun k _ => by rw [h k j hj]

/-- One run of the body adds to the accumulator the contribution of its chunk, whose columns it takes in four parts. -/
theorem step_of_parts (xb : FVec Ideal S1024x1024 .bf16) (x1 x2 x3 : FVec Ideal S1x1024x1024 .f32)
    (g0 g1 g2 g3 u0 u1 u2 u3 : Vec Ideal S1x1024x256 .f32) (w0 w1 w2 w3 : Vec Ideal S1x256x1024 .f32) (acc : Vec Ideal S1024x1024 .f32)
    (hg0 : Cols x1 0 g0) (hg1 : Cols x1 256 g1) (hg2 : Cols x1 512 g2) (hg3 : Cols x1 768 g3)
    (hu0 : Cols x2 0 u0) (hu1 : Cols x2 256 u1) (hu2 : Cols x2 512 u2) (hu3 : Cols x2 768 u3)
    (hw0 : Rows x3 0 w0) (hw1 : Rows x3 256 w1) (hw2 : Rows x3 512 w2) (hw3 : Rows x3 768 w3) (r d : Fin 1024) :
    k0_pay32 (k0_pay26 xb g3) (k0_pay27 xb u3) (k0_pay28 (k0_pay20 xb g0) (k0_pay21 xb u0)) (k0_pay29 (k0_pay22 xb g1) (k0_pay23 xb u1))
        (k0_pay30 (k0_pay24 xb g2) (k0_pay25 xb u2)) (k0_pay31 xb g3) (FloatOps.ofBits FTy.f32 1065353216#32) acc w0 w1 w2 w3 (ix2 r d)
      = acc (ix2 r d) + step xb x1 x2 x3 r d := by
  rw [pay32_apply, step, sum_parts]
  refine congrArg (acc (ix2 r d) + ·) (congrArg₂ (· + ·) (congrArg₂ (· + ·) (congrArg₂ (· + ·) ?_ ?_) ?_) ?_)
  · refine Finset.sum_congr rfl fun j _ => ?_
    have hj : 0 + j.val < 1024 := by omega
    rw [pay28_apply, pay20_apply, pay21_apply, chunk_cols xb x1 0 g0 hg0 r j hj, chunk_cols xb x2 0 u0 hu0 r j hj, hw0 j d hj]
    simp only [Nat.zero_add, hidden]
  · refine Finset.sum_congr rfl fun j _ => ?_
    have hj : 256 + j.val < 1024 := by omega
    rw [pay29_apply, pay22_apply, pay23_apply, chunk_cols xb x1 256 g1 hg1 r j hj, chunk_cols xb x2 256 u1 hu1 r j hj, hw1 j d hj]
    rfl
  · refine Finset.sum_congr rfl fun j _ => ?_
    have hj : 512 + j.val < 1024 := by omega
    rw [pay30_apply, pay24_apply, pay25_apply, chunk_cols xb x1 512 g2 hg2 r j hj, chunk_cols xb x2 512 u2 hu2 r j hj, hw2 j d hj]
    rfl
  · refine Finset.sum_congr rfl fun j _ => ?_
    have hj : 768 + j.val < 1024 := by omega
    rw [pay31_apply, pay26_apply, pay27_apply, chunk_cols xb x1 768 g3 hg3 r j hj, chunk_cols xb x2 768 u3 hu3 r j hj, hw3 j d hj]
    rfl

/-- A strided piece of the tokens, staged: every eighth row, from one of the first eight. -/
theorem pay5_apply (v : Vec Ideal S1x1x1024x128 .f32) (r : Fin 1024) (l : Fin 128) : k0_pay5 v (ix2 r l) = v (ix4 0 0 r l) := by
  pointwise [k0_pay5]
theorem pay6_apply (v : Vec Ideal S1x1x1024x128 .f32) (r : Fin 1024) (l : Fin 128) : k0_pay6 v (ix2 r l) = v (ix4 0 0 r l) := by
  pointwise [k0_pay6]
theorem pay7_apply (v : Vec Ideal S1x1x1024x128 .f32) (r : Fin 1024) (l : Fin 128) : k0_pay7 v (ix2 r l) = v (ix4 0 0 r l) := by
  pointwise [k0_pay7]
theorem pay8_apply (v : Vec Ideal S1x1x1024x128 .f32) (r : Fin 1024) (l : Fin 128) : k0_pay8 v (ix2 r l) = v (ix4 0 0 r l) := by
  pointwise [k0_pay8]
theorem pay16_apply (v : Vec Ideal S1x1x1024x128 .f32) (r : Fin 1024) (l : Fin 128) : k0_pay16 v (ix2 r l) = v (ix4 0 0 r l) := by
  pointwise [k0_pay16]
theorem pay17_apply (v : Vec Ideal S1x1x1024x128 .f32) (r : Fin 1024) (l : Fin 128) : k0_pay17 v (ix2 r l) = v (ix4 0 0 r l) := by
  pointwise [k0_pay17]
theorem pay18_apply (v : Vec Ideal S1x1x1024x128 .f32) (r : Fin 1024) (l : Fin 128) : k0_pay18 v (ix2 r l) = v (ix4 0 0 r l) := by
  pointwise [k0_pay18]
theorem pay19_apply (v : Vec Ideal S1x1x1024x128 .f32) (r : Fin 1024) (l : Fin 128) : k0_pay19 v (ix2 r l) = v (ix4 0 0 r l) := by
  pointwise [k0_pay19]

theorem pay4_apply (r d : Fin 1024) : k0_pay4 (F := Ideal) (ix2 r d) = 0 := by
  pointwise [k0_pay4]

theorem pay9_apply (a : Vec Ideal S1024x1024 .f32) (v : Vec Ideal S1x1x1024x1 .f32) (r d : Fin 1024) :
    k0_pay9 a v (ix2 r d) = a (ix2 r d) * v (ix4 0 0 r 0) := by
  pointwise [k0_pay9]

theorem pay10_apply (a : Vec Ideal S1024x1024 .f32) (v : Vec Ideal S1x1x1024x1 .f32) (r : Fin 1024) (l : Fin 128) :
    k0_pay10 a v (ix4 0 0 r l) = k0_pay9 a v (ix2 r ⟨128 * 0 + l.val, by omega⟩) := by
  pointwise [k0_pay10]
theorem pay11_apply (a : Vec Ideal S1024x1024 .f32) (v : Vec Ideal S1x1x1024x1 .f32) (r : Fin 1024) (l : Fin 128) :
    k0_pay11 a v (ix4 0 0 r l) = k0_pay9 a v (ix2 r ⟨128 * 1 + l.val, by omega⟩) := by
  pointwise [k0_pay11]
theorem pay12_apply (a : Vec Ideal S1024x1024 .f32) (v : Vec Ideal S1x1x1024x1 .f32) (r : Fin 1024) (l : Fin 128) :
    k0_pay12 a v (ix4 0 0 r l) = k0_pay9 a v (ix2 r ⟨128 * 2 + l.val, by omega⟩) := by
  pointwise [k0_pay12]
theorem pay13_apply (a : Vec Ideal S1024x1024 .f32) (v : Vec Ideal S1x1x1024x1 .f32) (r : Fin 1024) (l : Fin 128) :
    k0_pay13 a v (ix4 0 0 r l) = k0_pay9 a v (ix2 r ⟨128 * 3 + l.val, by omega⟩) := by
  pointwise [k0_pay13]
theorem pay14_apply (a : Vec Ideal S1024x1024 .f32) (v : Vec Ideal S1x1x1024x1 .f32) (r : Fin 1024) (l : Fin 128) :
    k0_pay14 a v (ix4 0 0 r l) = k0_pay9 a v (ix2 r ⟨128 * 4 + l.val, by omega⟩) := by
  pointwise [k0_pay14]
theorem pay15_apply (a : Vec Ideal S1024x1024 .f32) (v : Vec Ideal S1x1x1024x1 .f32) (r : Fin 1024) (l : Fin 128) :
    k0_pay1 (k0_pay15 a v) (ix4 0 0 r l) = k0_pay9 a v (ix2 r ⟨128 * 5 + l.val, by omega⟩) := by
  pointwise [k0_pay1, k0_pay15]
theorem pay2_apply (p : FVec Ideal S1024x1024 .f32) (r : Fin 1024) (l : Fin 128) :
    k0_pay2 p (ix4 0 0 r l) = p (ix2 r ⟨128 * 6 + l.val, by omega⟩) := by
  pointwise [k0_pay2]
theorem pay3_apply (p : FVec Ideal S1024x1024 .f32) (r : Fin 1024) (l : Fin 128) :
    k0_pay3 p (ix4 0 0 r l) = p (ix2 r ⟨128 * 7 + l.val, by omega⟩) := by
  pointwise [k0_pay3]

end Ffn

end
-- ==== Proof.Ffn.Body.lean ====
/-
  What the feed-forward's body leaves in the two scratch buffers and in the result's block, at an index, over the extended
  reals. At the first of an expert's two chunks the tokens are staged and the accumulator is that chunk's contribution; at the
  second the result is the accumulator plus that chunk's contribution, times the slot's score.
-/
module

public import proofs.«01_k».proof.Proof.Ffn.Frame
public import proofs.«01_k».proof.Proof.Ffn.Math
public import Idealize.ShloMosaic.Lib.WholeRead
public import Idealize.ShloMosaic.Lib.VecWindow
public import Idealize.ShloMosaic.Lib.Writes

@[expose] public section

set_option maxRecDepth 16384

noncomputable section

namespace Ffn

open Idealize.ShloMosaic Idealize.ShloMosaic.TcCoe Idealize.ShloMosaic.Tactic
open Cert.FfnIdeal Cert.FfnIdeal.Gen
open Idealize.SL.Sem

/-! ## Loads -/

/-- A load of a buffer's whole square reads what it holds. -/
theorem load_square {e : EltTy} (a : Memref sig .tc .vmem S1024x1024 e) (h : a.IsWhole) (x : Vec Ideal S1024x1024 e)
    (inb : ∀ i, (![0, 0] : Fin 2 → Nat) i + S1024x1024.size i ≤ S1024x1024.size i) :
    View.readAt (Elt Ideal) a.view (Rect.unit ![0, 0] S1024x1024.size inb).toLoadRect (h.unread x) = x := by
  funext i
  rw [h.readAt_unread]
  refine congrArg x (funext fun b => Fin.ext ?_)
  match b with
  | ⟨0, _⟩ => show 0 + 1 * (i 0).val = (i 0).val; omega
  | ⟨1, _⟩ => show 0 + 1 * (i 1).val = (i 1).val; omega

/-- A load of 256 columns of a chunk of a projection's weights. -/
theorem load_cols (a : Memref sig .tc .vmem S1x1024x1024 .f32) (h : a.IsWhole) (x : Vec Ideal S1x1024x1024 .f32) (o : Nat)
    (inb : ∀ i, (![0, 0, o] : Fin 3 → Nat) i + S1x1024x256.size i ≤ S1x1024x1024.size i) :
    Cols x o (View.readAt (Elt Ideal) a.view (Rect.unit (s := S1x1024x1024) ![0, 0, o] S1x1024x256.size inb).toLoadRect (h.unread x)) := fun k j hj => by
  rw [h.readAt_unread]
  refine congrArg x (funext fun b => Fin.ext ?_)
  match b with
  | ⟨0, _⟩ => rfl
  | ⟨1, _⟩ => show 0 + 1 * k.val = k.val; omega
  | ⟨2, _⟩ => show o + 1 * j.val = o + j.val; omega

/-- A load of 256 rows of a chunk of the down-projection's weights. -/
theorem load_rows (a : Memref sig .tc .vmem S1x1024x1024 .f32) (h : a.IsWhole) (x : Vec Ideal S1x1024x1024 .f32) (o : Nat)
    (inb : ∀ i, (![0, o, 0] : Fin 3 → Nat) i + S1x256x1024.size i ≤ S1x1024x1024.size i) :
    Rows x o (View.readAt (Elt Ideal) a.view (Rect.unit (s := S1x1024x1024) ![0, o, 0] S1x256x1024.size inb).toLoadRect (h.unread x)) := fun j d hj => by
  rw [h.readAt_unread]
  refine congrArg x (funext fun b => Fin.ext ?_)
  match b with
  | ⟨0, _⟩ => rfl
  | ⟨1, _⟩ => show o + 1 * j.val = o + j.val; omega
  | ⟨2, _⟩ => show 0 + 1 * d.val = d.val; omega

/-- A load of the slots' scores. -/
theorem load_val (a : Memref sig .tc .vmem S1x1x1024x1 .f32) (h : a.IsWhole) (x : Vec Ideal S1x1x1024x1 .f32)
    (inb : ∀ i, (![0, 0, 0, 0] : Fin 4 → Nat) i + S1x1x1024x1.size i ≤ S1x1x1024x1.size i) :
    View.readAt (Elt Ideal) a.view (Rect.unit ![0, 0, 0, 0] S1x1x1024x1.size inb).toLoadRect (h.unread x) = x := by
  funext i
  rw [h.readAt_unread]
  refine congrArg x (funext fun b => Fin.ext ?_)
  match b with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

/-! ## The second chunk -/

/-- What the result's block holds at row `s`, lane `l`. -/
def blockOf (Q : Fin 1024 → Fin 1024 → EReal) : S1x1x8192x128.Idx → EReal := fun y =>
  Q ⟨(y 2).val / 8, by have h : (y 2).val < 8192 := (y 2).isLt; omega⟩
    ⟨128 * ((y 2).val % 8) + (y 3).val, by have h : (y 3).val < 128 := (y 3).isLt; omega⟩

/-- The block at the rows of the strided piece `k`. -/
theorem blockOf_emb (Q : Fin 1024 → Fin 1024 → EReal) (k : Nat) (hk : k < 8)
    (h : ∀ a, S1x1x1024x128.size a = 0 ∨ (![0, 0, k, 0] : Fin 4 → Nat) a + (![1, 1, 8, 1] : Fin 4 → Nat) a * (S1x1x1024x128.size a - 1) < S1x1x8192x128.size a)
    (hp : ∀ a, 0 < (![1, 1, 8, 1] : Fin 4 → Nat) a) (r : Fin 1024) (l : Fin 128) :
    blockOf Q ((⟨⟨![0, 0, k, 0], S1x1x1024x128.size, ![1, 1, 8, 1], h⟩, hp⟩ : Rect S1x1x8192x128).emb (ix4 0 0 r l))
      = Q r ⟨128 * k + l.val, by omega⟩ := by
  refine congrArg₂ Q (Fin.ext ?_) (Fin.ext ?_)
  · show (k + 8 * r.val) / 8 = r.val; omega
  · show 128 * ((k + 8 * r.val) % 8) + (0 + 1 * l.val) = 128 * k + l.val; omega

/-- An index of a piece. -/
theorem piece_ix (x : S1x1x1024x128.Idx) : ∃ (r : Fin 1024) (l : Fin 128), x = ix4 0 0 r l := by
  refine ⟨x 2, x 3, funext fun a => Fin.ext ?_⟩
  have h0 : (x 0).val < 1 := (x 0).isLt
  have h1 : (x 1).val < 1 := (x 1).isLt
  match a with
  | ⟨0, _⟩ => show (x 0).val = 0; omega
  | ⟨1, _⟩ => show (x 1).val = 0; omega
  | ⟨2, _⟩ => rfl
  | ⟨3, _⟩ => rfl

/-- The eight strided stores of the products of `A` with the scores `V`, the last one first. -/
def pieces (A : Vec Ideal S1024x1024 .f32) (V : Vec Ideal S1x1x1024x1 .f32) : List (View.Piece (Elt Ideal) S1x1x8192x128 .f32) :=
  [⟨⟨⟨![0, 0, 7, 0], S1x1x1024x128.size, ![1, 1, 8, 1], inb_S1x1x8192x128_S1x1x1024x128_0_0_7_0_s_1_1_8_1⟩, spos_1_1_8_1⟩, k0_pay3 (k0_pay9 A V)⟩,
    ⟨⟨⟨![0, 0, 6, 0], S1x1x1024x128.size, ![1, 1, 8, 1], inb_S1x1x8192x128_S1x1x1024x128_0_0_6_0_s_1_1_8_1⟩, spos_1_1_8_1⟩, k0_pay2 (k0_pay9 A V)⟩,
    ⟨⟨⟨![0, 0, 5, 0], S1x1x1024x128.size, ![1, 1, 8, 1], inb_S1x1x8192x128_S1x1x1024x128_0_0_5_0_s_1_1_8_1⟩, spos_1_1_8_1⟩, k0_pay1 (k0_pay15 A V)⟩,
    ⟨⟨⟨![0, 0, 4, 0], S1x1x1024x128.size, ![1, 1, 8, 1], inb_S1x1x8192x128_S1x1x1024x128_0_0_4_0_s_1_1_8_1⟩, spos_1_1_8_1⟩, k0_pay14 A V⟩,
    ⟨⟨⟨![0, 0, 3, 0], S1x1x1024x128.size, ![1, 1, 8, 1], inb_S1x1x8192x128_S1x1x1024x128_0_0_3_0_s_1_1_8_1⟩, spos_1_1_8_1⟩, k0_pay13 A V⟩,
    ⟨⟨⟨![0, 0, 2, 0], S1x1x1024x128.size, ![1, 1, 8, 1], inb_S1x1x8192x128_S1x1x1024x128_0_0_2_0_s_1_1_8_1⟩, spos_1_1_8_1⟩, k0_pay12 A V⟩,
    ⟨⟨⟨![0, 0, 1, 0], S1x1x1024x128.size, ![1, 1, 8, 1], inb_S1x1x8192x128_S1x1x1024x128_0_0_1_0_s_1_1_8_1⟩, spos_1_1_8_1⟩, k0_pay11 A V⟩,
    ⟨⟨⟨![0, 0, 0, 0], S1x1x1024x128.size, ![1, 1, 8, 1], inb_S1x1x8192x128_S1x1x1024x128_0_0_0_0_s_1_1_8_1⟩, spos_1_1_8_1⟩, k0_pay10 A V⟩]

/-- Each strided store agrees with the block of the products. -/
theorem pieces_eq (A : Vec Ideal S1024x1024 .f32) (V : Vec Ideal S1x1x1024x1 .f32) (Q : Fin 1024 → Fin 1024 → EReal)
    (h : ∀ r d : Fin 1024, k0_pay9 A V (ix2 r d) = Q r d) :
    ∀ p ∈ pieces A V, ∀ x : p.1.shape.Idx, p.2 x = blockOf Q (p.1.emb x) := by
  intro p hp
  simp only [pieces, List.mem_cons, List.not_mem_nil, or_false] at hp
  rcases hp with rfl | rfl | rfl | rfl | rfl | rfl | rfl | rfl <;> intro x <;> obtain ⟨r, l, rfl⟩ := piece_ix x
  · exact ((pay3_apply (k0_pay9 A V) r l).trans (h r _)).trans (blockOf_emb Q 7 (by omega) inb_S1x1x8192x128_S1x1x1024x128_0_0_7_0_s_1_1_8_1 spos_1_1_8_1 r l).symm
  · exact ((pay2_apply (k0_pay9 A V) r l).trans (h r _)).trans (blockOf_emb Q 6 (by omega) inb_S1x1x8192x128_S1x1x1024x128_0_0_6_0_s_1_1_8_1 spos_1_1_8_1 r l).symm
  · exact ((pay15_apply A V r l).trans (h r _)).trans (blockOf_emb Q 5 (by omega) inb_S1x1x8192x128_S1x1x1024x128_0_0_5_0_s_1_1_8_1 spos_1_1_8_1 r l).symm
  · exact ((pay14_apply A V r l).trans (h r _)).trans (blockOf_emb Q 4 (by omega) inb_S1x1x8192x128_S1x1x1024x128_0_0_4_0_s_1_1_8_1 spos_1_1_8_1 r l).symm
  · exact ((pay13_apply A V r l).trans (h r _)).trans (blockOf_emb Q 3 (by omega) inb_S1x1x8192x128_S1x1x1024x128_0_0_3_0_s_1_1_8_1 spos_1_1_8_1 r l).symm
  · exact ((pay12_apply A V r l).trans (h r _)).trans (blockOf_emb Q 2 (by omega) inb_S1x1x8192x128_S1x1x1024x128_0_0_2_0_s_1_1_8_1 spos_1_1_8_1 r l).symm
  · exact ((pay11_apply A V r l).trans (h r _)).trans (blockOf_emb Q 1 (by omega) inb_S1x1x8192x128_S1x1x1024x128_0_0_1_0_s_1_1_8_1 spos_1_1_8_1 r l).symm
  · exact ((pay10_apply A V r l).trans (h r _)).trans (blockOf_emb Q 0 (by omega) inb_S1x1x8192x128_S1x1x1024x128_0_0_0_0_s_1_1_8_1 spos_1_1_8_1 r l).symm

/-- After the second chunk the accumulator holds what it held plus the chunk's contribution. -/
theorem acc_B (c : Dev nD) (arg4 : Memref sig .tc .vmem S1x1024x1024 .f32) (harg4 : arg4.IsWhole) (arg5 : Memref sig .tc .vmem S1x1024x1024 .f32) (harg5 : arg5.IsWhole)
    (arg6 : Memref sig .tc .vmem S1x1024x1024 .f32) (harg6 : arg6.IsWhole) (arg9 : Memref sig .tc .vmem S1024x1024 .f32) (harg9 : arg9.IsWhole)
    (arg10 : Memref sig .tc .vmem S1024x1024 .bf16) (harg10 : arg10.IsWhole) (x1 x2 x3 : Vec Ideal S1x1024x1024 .f32)
    (xs0 : Vec Ideal S1024x1024 .f32) (xs1 : Vec Ideal S1024x1024 .bf16) (r d : Fin 1024) :
    kernelRun0_B.sl.v105 c arg4 harg4 arg5 harg5 arg6 harg6 arg9 harg9 arg10 harg10 x1 x2 x3 xs0 xs1 (ix2 r d)
      = xs0 (ix2 r d) + step xs1 x1 x2 x3 r d := by
  have h := step_of_parts (View.readAt (Elt Ideal) arg10.view (Rect.unit ![0, 0] S1024x1024.size inb_S1024x1024_S1024x1024_0_0).toLoadRect (harg10.unread xs1))
    x1 x2 x3 _ _ _ _ _ _ _ _ _ _ _ _ (View.readAt (Elt Ideal) arg9.view (Rect.unit ![0, 0] S1024x1024.size inb_S1024x1024_S1024x1024_0_0).toLoadRect (harg9.unread xs0))
    (load_cols arg4 harg4 x1 0 inb_S1x1024x1024_S1x1024x256_0_0_0) (load_cols arg4 harg4 x1 256 inb_S1x1024x1024_S1x1024x256_0_0_256)
    (load_cols arg4 harg4 x1 512 inb_S1x1024x1024_S1x1024x256_0_0_512) (load_cols arg4 harg4 x1 768 inb_S1x1024x1024_S1x1024x256_0_0_768)
    (load_cols arg5 harg5 x2 0 inb_S1x1024x1024_S1x1024x256_0_0_0) (load_cols arg5 harg5 x2 256 inb_S1x1024x1024_S1x1024x256_0_0_256)
    (load_cols arg5 harg5 x2 512 inb_S1x1024x1024_S1x1024x256_0_0_512) (load_cols arg5 harg5 x2 768 inb_S1x1024x1024_S1x1024x256_0_0_768)
    (load_rows arg6 harg6 x3 0 inb_S1x1024x1024_S1x256x1024_0_0_0) (load_rows arg6 harg6 x3 256 inb_S1x1024x1024_S1x256x1024_0_256_0)
    (load_rows arg6 harg6 x3 512 inb_S1x1024x1024_S1x256x1024_0_512_0) (load_rows arg6 harg6 x3 768 inb_S1x1024x1024_S1x256x1024_0_768_0) r d
  refine ((congrFun (View.readCov_full arg9.view inb_S1024x1024_S1024x1024_0_0 inb_S1024x1024_S1024x1024_0_0 _ []) (ix2 r d)).trans h).trans ?_
  rw [load_square, load_square]

/-- At the second chunk the result's block holds the accumulator plus the chunk's contribution, times the slot's score. -/
theorem out_B (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : ¬cond0_0 i) (hc1 : cond0_1 i)
    (x0 : Vec Ideal S1x1x8192x128 .f32) (x1 x2 x3 : Vec Ideal S1x1024x1024 .f32) (x4 : Vec Ideal S1x1x1024x1 .f32) (xs0 : Vec Ideal S1024x1024 .f32) (xs1 : Vec Ideal S1024x1024 .bf16) (y : S1x1x8192x128.Idx) :
    out0_B_5 c i arg3 harg3 arg4 harg4 arg5 harg5 arg6 harg6 arg7 harg7 arg8 harg8 arg9 harg9 arg10 harg10 hc0 hc1 x0 x1 x2 x3 x4 xs0 xs1 y
      = blockOf (fun r d => (xs0 (ix2 r d) + step xs1 x1 x2 x3 r d) * x4 (ix4 0 0 r 0)) y := by
  unfold out0_B_5
  refine View.read_writes_apply_of_pieces VO0_5 _ (blockOf _) _ ?_ y (cover0_B_5 c i arg3 harg3 arg4 harg4 arg5 harg5 arg6 harg6 arg7 harg7 arg8 harg8 arg9 harg9 arg10 harg10 hc0 hc1 x0 x1 x2 x3 x4 xs0 xs1 y)
  intro p hp x
  obtain ⟨A, hA, V, hV, hp'⟩ : ∃ A : Vec Ideal S1024x1024 .f32, (∀ r d : Fin 1024, A (ix2 r d) = xs0 (ix2 r d) + step xs1 x1 x2 x3 r d)
      ∧ ∃ V : Vec Ideal S1x1x1024x1 .f32, V = x4 ∧ p ∈ pieces A V :=
    ⟨_, acc_B c arg4 harg4 arg5 harg5 arg6 harg6 arg9 harg9 arg10 harg10 x1 x2 x3 xs0 xs1, _, load_val arg7 harg7 x4 inb_S1x1x1024x1_S1x1x1024x1_0_0_0_0, hp⟩
  subst hV
  exact pieces_eq A V _ (fun r d => by rw [pay9_apply, hA]) p hp' x

/-! ## The first chunk -/

/-- The staged tokens: feature `k` of token `r` lies in row `8 * r + k / 128`, lane `k % 128`, of the block. -/
def staged (x : Vec Ideal S1x1x8192x128 .f32) : FVec Ideal S1024x1024 .bf16 := fun y =>
  x (ix4 0 0 ⟨8 * (y 0).val + (y 1).val / 128, by have h : (y 0).val < 1024 := (y 0).isLt; have h' : (y 1).val < 1024 := (y 1).isLt; omega⟩
    ⟨(y 1).val % 128, by omega⟩)

/-- The staged tokens at the columns of the strided load `k`. -/
theorem staged_emb (a : Memref sig .tc .vmem S1x1x8192x128 .f32) (h : a.IsWhole) (x : Vec Ideal S1x1x8192x128 .f32) (k : Nat) (hk : k < 8)
    (hl : ∀ a, S1x1x1024x128.size a = 0 ∨ (![0, 0, k, 0] : Fin 4 → Nat) a + (![1, 1, 8, 1] : Fin 4 → Nat) a * (S1x1x1024x128.size a - 1) < S1x1x8192x128.size a)
    (o : Nat) (ho : o = 128 * k) (inb : ∀ i, (![0, o] : Fin 2 → Nat) i + S1024x128.size i ≤ S1024x1024.size i) (r : Fin 1024) (l : Fin 128) :
    View.readAt (Elt Ideal) a.view (⟨![0, 0, k, 0], S1x1x1024x128.size, ![1, 1, 8, 1], hl⟩ : LoadRect S1x1x8192x128) (h.unread x) (ix4 0 0 r l)
      = staged x ((Rect.unit (s := S1024x1024) ![0, o] S1024x128.size inb).emb (ix2 r l)) := by
  subst ho
  rw [h.readAt_unread]
  refine congrArg x (funext fun b => Fin.ext ?_)
  match b with
  | ⟨0, _⟩ => rfl
  | ⟨1, _⟩ => rfl
  | ⟨2, _⟩ => show k + 8 * r.val = 8 * (0 + 1 * r.val) + (128 * k + 1 * l.val) / 128; omega
  | ⟨3, _⟩ => show 0 + 1 * l.val = (128 * k + 1 * l.val) % 128; omega

/-- The eight stores of the staged tokens, the last one first. -/
def stages (a : Memref sig .tc .vmem S1x1x8192x128 .f32) (h : a.IsWhole) (x : Vec Ideal S1x1x8192x128 .f32) :
    List (View.Piece (Elt Ideal) S1024x1024 .bf16) :=
  [⟨Rect.unit ![0, 896] S1024x128.size inb_S1024x1024_S1024x128_0_896, k0_pay19 (View.readAt (Elt Ideal) a.view (⟨![0, 0, 7, 0], S1x1x1024x128.size, ![1, 1, 8, 1], inb_S1x1x8192x128_S1x1x1024x128_0_0_7_0_s_1_1_8_1⟩ : LoadRect S1x1x8192x128) (h.unread x))⟩,
    ⟨Rect.unit ![0, 768] S1024x128.size inb_S1024x1024_S1024x128_0_768, k0_pay18 (View.readAt (Elt Ideal) a.view (⟨![0, 0, 6, 0], S1x1x1024x128.size, ![1, 1, 8, 1], inb_S1x1x8192x128_S1x1x1024x128_0_0_6_0_s_1_1_8_1⟩ : LoadRect S1x1x8192x128) (h.unread x))⟩,
    ⟨Rect.unit ![0, 640] S1024x128.size inb_S1024x1024_S1024x128_0_640, k0_pay17 (View.readAt (Elt Ideal) a.view (⟨![0, 0, 5, 0], S1x1x1024x128.size, ![1, 1, 8, 1], inb_S1x1x8192x128_S1x1x1024x128_0_0_5_0_s_1_1_8_1⟩ : LoadRect S1x1x8192x128) (h.unread x))⟩,
    ⟨Rect.unit ![0, 512] S1024x128.size inb_S1024x1024_S1024x128_0_512, k0_pay16 (View.readAt (Elt Ideal) a.view (⟨![0, 0, 4, 0], S1x1x1024x128.size, ![1, 1, 8, 1], inb_S1x1x8192x128_S1x1x1024x128_0_0_4_0_s_1_1_8_1⟩ : LoadRect S1x1x8192x128) (h.unread x))⟩,
    ⟨Rect.unit ![0, 384] S1024x128.size inb_S1024x1024_S1024x128_0_384, k0_pay8 (View.readAt (Elt Ideal) a.view (⟨![0, 0, 3, 0], S1x1x1024x128.size, ![1, 1, 8, 1], inb_S1x1x8192x128_S1x1x1024x128_0_0_3_0_s_1_1_8_1⟩ : LoadRect S1x1x8192x128) (h.unread x))⟩,
    ⟨Rect.unit ![0, 256] S1024x128.size inb_S1024x1024_S1024x128_0_256, k0_pay7 (View.readAt (Elt Ideal) a.view (⟨![0, 0, 2, 0], S1x1x1024x128.size, ![1, 1, 8, 1], inb_S1x1x8192x128_S1x1x1024x128_0_0_2_0_s_1_1_8_1⟩ : LoadRect S1x1x8192x128) (h.unread x))⟩,
    ⟨Rect.unit ![0, 128] S1024x128.size inb_S1024x1024_S1024x128_0_128, k0_pay6 (View.readAt (Elt Ideal) a.view (⟨![0, 0, 1, 0], S1x1x1024x128.size, ![1, 1, 8, 1], inb_S1x1x8192x128_S1x1x1024x128_0_0_1_0_s_1_1_8_1⟩ : LoadRect S1x1x8192x128) (h.unread x))⟩,
    ⟨Rect.unit ![0, 0] S1024x128.size inb_S1024x1024_S1024x128_0_0, k0_pay5 (View.readAt (Elt Ideal) a.view (⟨![0, 0, 0, 0], S1x1x1024x128.size, ![1, 1, 8, 1], inb_S1x1x8192x128_S1x1x1024x128_0_0_0_0_s_1_1_8_1⟩ : LoadRect S1x1x8192x128) (h.unread x))⟩]

/-- Each of these stores agrees with the staged tokens. -/
theorem stages_eq (a : Memref sig .tc .vmem S1x1x8192x128 .f32) (h : a.IsWhole) (x : Vec Ideal S1x1x8192x128 .f32) :
    ∀ p ∈ stages a h x, ∀ i : p.1.shape.Idx, p.2 i = staged x (p.1.emb i) := by
  intro p hp
  simp only [stages, List.mem_cons, List.not_mem_nil, or_false] at hp
  rcases hp with rfl | rfl | rfl | rfl | rfl | rfl | rfl | rfl <;> intro i <;>
    obtain ⟨r, l, rfl⟩ : ∃ (r : Fin 1024) (l : Fin 128), i = ix2 r l := ⟨i 0, i 1, eq_ix2 i⟩
  · show k0_pay19 _ (ix2 r l) = _
    rw [pay19_apply]
    exact staged_emb a h x 7 (by omega) inb_S1x1x8192x128_S1x1x1024x128_0_0_7_0_s_1_1_8_1 896 rfl inb_S1024x1024_S1024x128_0_896 r l
  · show k0_pay18 _ (ix2 r l) = _
    rw [pay18_apply]
    exact staged_emb a h x 6 (by omega) inb_S1x1x8192x128_S1x1x1024x128_0_0_6_0_s_1_1_8_1 768 rfl inb_S1024x1024_S1024x128_0_768 r l
  · show k0_pay17 _ (ix2 r l) = _
    rw [pay17_apply]
    exact staged_emb a h x 5 (by omega) inb_S1x1x8192x128_S1x1x1024x128_0_0_5_0_s_1_1_8_1 640 rfl inb_S1024x1024_S1024x128_0_640 r l
  · show k0_pay16 _ (ix2 r l) = _
    rw [pay16_apply]
    exact staged_emb a h x 4 (by omega) inb_S1x1x8192x128_S1x1x1024x128_0_0_4_0_s_1_1_8_1 512 rfl inb_S1024x1024_S1024x128_0_512 r l
  · show k0_pay8 _ (ix2 r l) = _
    rw [pay8_apply]
    exact staged_emb a h x 3 (by omega) inb_S1x1x8192x128_S1x1x1024x128_0_0_3_0_s_1_1_8_1 384 rfl inb_S1024x1024_S1024x128_0_384 r l
  · show k0_pay7 _ (ix2 r l) = _
    rw [pay7_apply]
    exact staged_emb a h x 2 (by omega) inb_S1x1x8192x128_S1x1x1024x128_0_0_2_0_s_1_1_8_1 256 rfl inb_S1024x1024_S1024x128_0_256 r l
  · show k0_pay6 _ (ix2 r l) = _
    rw [pay6_apply]
    exact staged_emb a h x 1 (by omega) inb_S1x1x8192x128_S1x1x1024x128_0_0_1_0_s_1_1_8_1 128 rfl inb_S1024x1024_S1024x128_0_128 r l
  · show k0_pay5 _ (ix2 r l) = _
    rw [pay5_apply]
    exact staged_emb a h x 0 (by omega) inb_S1x1x8192x128_S1x1x1024x128_0_0_0_0_s_1_1_8_1 0 rfl inb_S1024x1024_S1024x128_0_0 r l

/-- The first chunk leaves the staged tokens in their buffer. -/
theorem tok_A (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec Ideal S1x1x8192x128 .f32) (x1 x2 x3 : Vec Ideal S1x1024x1024 .f32) (x4 : Vec Ideal S1x1x1024x1 .f32) :
    sout0_A_1 c i arg3 harg3 arg4 harg4 arg5 harg5 arg6 harg6 arg7 harg7 arg8 harg8 arg9 harg9 arg10 harg10 hc0 hc1 x0 x1 x2 x3 x4 = staged x0 := by
  funext y
  unfold sout0_A_1
  exact View.read_writes_apply_of_pieces VS0_1 _ (staged x0) _ (stages_eq arg3 harg3 x0) y (scover0_A_1 c i arg3 harg3 arg4 harg4 arg5 harg5 arg6 harg6 arg7 harg7 arg8 harg8 arg9 harg9 arg10 harg10 hc0 hc1 x0 x1 x2 x3 x4 y)

/-- The body reads the staged tokens back. -/
theorem read_A (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec Ideal S1x1x8192x128 .f32) (x1 x2 x3 : Vec Ideal S1x1024x1024 .f32) (x4 : Vec Ideal S1x1x1024x1 .f32) :
    kernelRun0_A.sl.v3 c arg3 harg3 arg10 x0 = staged x0 := by
  funext y
  refine (congrFun (View.readAt_full arg10.view _ inb_S1024x1024_S1024x1024_0_0) y).trans ?_
  exact View.read_writes_apply_of_pieces arg10.view _ (staged x0) _ (stages_eq arg3 harg3 x0) y (scover0_A_1 c i arg3 harg3 arg4 harg4 arg5 harg5 arg6 harg6 arg7 harg7 arg8 harg8 arg9 harg9 arg10 harg10 hc0 hc1 x0 x1 x2 x3 x4 y)

/-- The first chunk leaves its contribution in the accumulator. -/
theorem acc_A (c : Dev nD) (i : grid0.Coords) (arg3 : Memref sig .tc .vmem S1x1x8192x128 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x1x1024x1 .f32) (harg7 : arg7.IsWhole) (arg8 : Memref sig .tc .vmem S1x1x8192x128 .f32) (harg8 : arg8.IsWhole) (arg9 : Memref sig .tc .vmem S1024x1024 .f32) (harg9 : arg9.IsWhole) (arg10 : Memref sig .tc .vmem S1024x1024 .bf16) (harg10 : arg10.IsWhole) (hc0 : cond0_0 i) (hc1 : ¬cond0_1 i)
    (x0 : Vec Ideal S1x1x8192x128 .f32) (x1 x2 x3 : Vec Ideal S1x1024x1024 .f32) (x4 : Vec Ideal S1x1x1024x1 .f32) (r d : Fin 1024) :
    sout0_A_0 c i arg3 harg3 arg4 harg4 arg5 harg5 arg6 harg6 arg7 harg7 arg8 harg8 arg9 harg9 arg10 harg10 hc0 hc1 x0 x1 x2 x3 x4 (ix2 r d) = step (staged x0) x1 x2 x3 r d := by
  have h := step_of_parts (kernelRun0_A.sl.v3 c arg3 harg3 arg10 x0)
    x1 x2 x3 _ _ _ _ _ _ _ _ _ _ _ _ (kernelRun0_A.sl.v76 c arg9)
    (load_cols arg4 harg4 x1 0 inb_S1x1024x1024_S1x1024x256_0_0_0) (load_cols arg4 harg4 x1 256 inb_S1x1024x1024_S1x1024x256_0_0_256)
    (load_cols arg4 harg4 x1 512 inb_S1x1024x1024_S1x1024x256_0_0_512) (load_cols arg4 harg4 x1 768 inb_S1x1024x1024_S1x1024x256_0_0_768)
    (load_cols arg5 harg5 x2 0 inb_S1x1024x1024_S1x1024x256_0_0_0) (load_cols arg5 harg5 x2 256 inb_S1x1024x1024_S1x1024x256_0_0_256)
    (load_cols arg5 harg5 x2 512 inb_S1x1024x1024_S1x1024x256_0_0_512) (load_cols arg5 harg5 x2 768 inb_S1x1024x1024_S1x1024x256_0_0_768)
    (load_rows arg6 harg6 x3 0 inb_S1x1024x1024_S1x256x1024_0_0_0) (load_rows arg6 harg6 x3 256 inb_S1x1024x1024_S1x256x1024_0_256_0)
    (load_rows arg6 harg6 x3 512 inb_S1x1024x1024_S1x256x1024_0_512_0) (load_rows arg6 harg6 x3 768 inb_S1x1024x1024_S1x256x1024_0_768_0) r d
  unfold sout0_A_0
  refine ((congrFun (View.read_writes_full VS0_0 _ inb_S1024x1024_S1024x1024_0_0 _ _) (ix2 r d)).trans h).trans ?_
  rw [read_A c i arg3 harg3 arg4 harg4 arg5 harg5 arg6 harg6 arg7 harg7 arg8 harg8 arg9 harg9 arg10 harg10 hc0 hc1 x0 x1 x2 x3 x4]
  refine (congrArg (· + step (staged x0) x1 x2 x3 r d) (?_ : _ = (0 : EReal))).trans (zero_add _)
  exact (congrFun (View.readCov_full arg9.view inb_S1024x1024_S1024x1024_0_0 inb_S1024x1024_S1024x1024_0_0 _ []) (ix2 r d)).trans (pay4_apply r d)

end Ffn

end
-- ==== Proof.Ffn.Ref.lean ====
/-
  The feed-forward's reference at an index, over the extended reals: a slot's row of the output is the sum over the 2048
  hidden activations of the expert, each the gated product of its token with the two columns of weights, times the
  slot's score.
-/
module

public import proofs.«01_k».proof.Proof.Ffn.Math
public import proofs.«01_k».proof.Proof.Gen.FfnRefIdeal.Read

@[expose] public section

set_option maxRecDepth 16384

noncomputable section

namespace Ffn

open Cert.FfnRefIdeal Cert.FfnRefIdeal.Gen Cert.FfnRefIdeal.Read Idealize.ShloMosaic Idealize.ShloMosaic.TcCoe Idealize.SL.Sem

/-- Feature `k` of token `r` of batch `b` and expert `e`: a token of 1024 features lies in eight rows of 128. -/
def tok (x0 : FVec Ideal S4x16x8192x128 .f32) (b : Fin 4) (e : Fin 16) (r k : Fin 1024) : EReal :=
  x0 (ix4 b e ⟨8 * r.val + k.val / 128, by omega⟩ ⟨k.val % 128, by omega⟩)

/-- Column `j` of a projection of token `r`. -/
def proj (x0 : FVec Ideal S4x16x8192x128 .f32) (w : FVec Ideal S16x1024x2048 .f32) (b : Fin 4) (e : Fin 16) (r : Fin 1024) (j : Fin 2048) : EReal :=
  ∑ k : Fin 1024, tok x0 b e r k * w (ix3 e k j)

/-- Feature `d` of the expert's output for token `r`. -/
def outv (x0 : FVec Ideal S4x16x8192x128 .f32) (x1 x2 : FVec Ideal S16x1024x2048 .f32) (x3 : FVec Ideal S16x2048x1024 .f32)
    (x4 : FVec Ideal S4x16x1024x1 .f32) (b : Fin 4) (e : Fin 16) (r d : Fin 1024) : EReal :=
  (∑ j : Fin 2048, gated (proj x0 x1 b e r j) (proj x0 x2 b e r j) * x3 (ix3 e j d)) * x4 (ix4 b e r 0)

theorem ref_tok (x0 : FVec Ideal S4x16x8192x128 .f32) (b : Fin 4) (e : Fin 16) (r k : Fin 1024) :
    val_main_v0 (F := Ideal) x0 (ix4 b e r k) = tok x0 b e r k := by
  rw [val_main_v0_apply]
  refine congrArg x0 (funext fun a => Fin.ext ?_)
  have := b.isLt; have := e.isLt; have := r.isLt; have := k.isLt
  match a with
  | ⟨0, _⟩ => show (((b.val * 16 + e.val) * 1024 + r.val) * 1024 + k.val) / 16777216 = b.val; omega
  | ⟨1, _⟩ => show (((b.val * 16 + e.val) * 1024 + r.val) * 1024 + k.val) / 1048576 % 16 = e.val; omega
  | ⟨2, _⟩ => show (((b.val * 16 + e.val) * 1024 + r.val) * 1024 + k.val) / 128 % 8192 = 8 * r.val + k.val / 128; omega
  | ⟨3, _⟩ => show (((b.val * 16 + e.val) * 1024 + r.val) * 1024 + k.val) % 128 = k.val % 128; omega

theorem ref_gate (x0 : FVec Ideal S4x16x8192x128 .f32) (x1 : FVec Ideal S16x1024x2048 .f32) (b : Fin 4) (e : Fin 16) (r : Fin 1024)
    (j : Fin 2048) : val_main_v2 (F := Ideal) x0 x1 (ix4 b e r j) = proj x0 x1 b e r j := by
  rw [val_main_v2_apply, show idx_main_v2 (ix4 b e r j) = ix4 e j b r from eq_ix4 _, val_main_v1_apply]
  refine Finset.sum_congr rfl fun k _ => ?_
  rw [show lidx_main_v1 (ix4 e j b r) k = ix3 e k j from eq_ix3 _, show ridx_main_v1 (ix4 e j b r) k = ix4 b e r k from eq_ix4 _,
    ref_tok, mul_comm]

theorem ref_up (x0 : FVec Ideal S4x16x8192x128 .f32) (x2 : FVec Ideal S16x1024x2048 .f32) (b : Fin 4) (e : Fin 16) (r : Fin 1024)
    (j : Fin 2048) : val_main_v5 (F := Ideal) x0 x2 (ix4 b e r j) = proj x0 x2 b e r j := by
  rw [val_main_v5_apply, show idx_main_v5 (ix4 b e r j) = ix4 e j b r from eq_ix4 _, val_main_v4_apply]
  refine Finset.sum_congr rfl fun k _ => ?_
  rw [show lidx_main_v4 (ix4 e j b r) k = ix3 e k j from eq_ix3 _, show ridx_main_v4 (ix4 e j b r) k = ix4 b e r k from eq_ix4 _,
    ref_tok, mul_comm]

theorem ref_gated (x0 : FVec Ideal S4x16x8192x128 .f32) (x1 x2 : FVec Ideal S16x1024x2048 .f32) (b : Fin 4) (e : Fin 16) (r : Fin 1024)
    (j : Fin 2048) : val_main_v6 (F := Ideal) x0 x1 x2 (ix4 b e r j) = gated (proj x0 x1 b e r j) (proj x0 x2 b e r j) := by
  have one : (FloatOps.ofBits .f32 0x3F800000#32 : Ideal .f32) = 1 := by
    show Ideal.ofBits .f32 _ = _
    simp only [Ideal.ofBits, Ideal.ieee]
    rw [show BitVec.extractLsb' 23 8 0x3F800000#32 = 127#8 from rfl, show BitVec.extractLsb' 0 23 0x3F800000#32 = 0#23 from rfl]
    norm_num
    decide
  rw [val_main_v6_apply, ref_up, val_main_v3_apply, val_main_call0_v5_apply, val_main_call0_v4_apply, val_main_call0_cst_0_apply,
    val_main_call0_v3_apply, val_main_call0_v2_apply, val_main_call0_cst_apply, val_main_call0_v1_apply, val_main_call0_v0_apply,
    ref_gate, one]
  rfl

theorem ref_out (x0 : FVec Ideal S4x16x8192x128 .f32) (x1 x2 : FVec Ideal S16x1024x2048 .f32) (x3 : FVec Ideal S16x2048x1024 .f32)
    (x4 : FVec Ideal S4x16x1024x1 .f32) (b : Fin 4) (e : Fin 16) (r d : Fin 1024) :
    val_main_v10 (F := Ideal) x0 x1 x2 x3 x4 (ix4 b e r d) = outv x0 x1 x2 x3 x4 b e r d := by
  rw [val_main_v10_apply, val_main_v8_apply, show idx_main_v8 (ix4 b e r d) = ix4 e d b r from eq_ix4 _, val_main_v9_apply,
    show idx_main_v9 (ix4 b e r d) = ix4 b e r 0 from eq_ix4 _, val_main_v7_apply]
  refine congrArg (· * x4 (ix4 b e r 0)) (Finset.sum_congr rfl fun j _ => ?_)
  rw [show lidx_main_v7 (ix4 e d b r) j = ix3 e j d from eq_ix3 _, show ridx_main_v7 (ix4 e d b r) j = ix4 b e r j from eq_ix4 _,
    ref_gated, mul_comm]

/-- The reference's result at row `s` of expert `e`: feature `128 * (s % 8) + l` of token `s / 8`. -/
theorem ref_apply (x0 : FVec Ideal S4x16x8192x128 .f32) (x1 x2 : FVec Ideal S16x1024x2048 .f32) (x3 : FVec Ideal S16x2048x1024 .f32)
    (x4 : FVec Ideal S4x16x1024x1 .f32) (b : Fin 4) (e : Fin 16) (s : Fin 8192) (l : Fin 128) :
    val_main_v11 (F := Ideal) x0 x1 x2 x3 x4 (ix4 b e s l)
      = outv x0 x1 x2 x3 x4 b e ⟨s.val / 8, by omega⟩ ⟨128 * (s.val % 8) + l.val, by omega⟩ := by
  rw [val_main_v11_apply, ← ref_out]
  refine congrArg (val_main_v10 (F := Ideal) x0 x1 x2 x3 x4) (funext fun a => Fin.ext ?_)
  have := b.isLt; have := e.isLt; have := s.isLt; have := l.isLt
  match a with
  | ⟨0, _⟩ => show (((b.val * 16 + e.val) * 8192 + s.val) * 128 + l.val) / 16777216 = b.val; omega
  | ⟨1, _⟩ => show (((b.val * 16 + e.val) * 8192 + s.val) * 128 + l.val) / 1048576 % 16 = e.val; omega
  | ⟨2, _⟩ => show (((b.val * 16 + e.val) * 8192 + s.val) * 128 + l.val) / 1024 % 1024 = s.val / 8; omega
  | ⟨3, _⟩ => show (((b.val * 16 + e.val) * 8192 + s.val) * 128 + l.val) % 1024 = 128 * (s.val % 8) + l.val; omega

end Ffn

end
-- ==== Proof.Ffn.Value.lean ====
/-
  The feed-forward's value: after the run the result array holds, at every index, what the reference computes there. A grid
  point's blocks are read off the argument arrays; the two chunks of an expert and a batch add up to the sum over the 2048
  hidden activations; the blocks written back at the second chunks cover the result array.
-/
module

public import proofs.«01_k».proof.Defs
public import proofs.«01_k».proof.Proof.Ffn.Body
public import proofs.«01_k».proof.Proof.Ffn.Ref
public import proofs.«01_k».proof.Proof.Gen.FfnRefIdeal
public import proofs.«01_k».proof.Proof.Gen.FfnRefIdeal.Run

@[expose] public section

set_option maxRecDepth 16384

noncomputable section

namespace Ffn

open Idealize.ShloMosaic Idealize.ShloMosaic.TcCoe
open Cert.FfnIdeal Cert.FfnIdeal.Gen
open Idealize.SL.Sem
open Cert.FfnRefIdeal.Read (val_main_v11 val_main_v11_eq)

/-! ## The blocks -/

/-- The expert, the batch and the chunk of a grid point. -/
def eOf (t : Fin cfg0.N) : Fin 16 := ⟨t.val / 8, by have h := t.isLt; have : cfg0.N = 128 := N_0; omega⟩
def bOf (t : Fin cfg0.N) : Fin 4 := ⟨t.val / 2 % 4, by omega⟩

theorem idx0 : ∀ t : Fin cfg0.N, win0_0.index t (0 : Fin 4) = t.val / 2 % 4 ∧ win0_0.index t (1 : Fin 4) = t.val / 8
    ∧ win0_0.index t (2 : Fin 4) = 0 ∧ win0_0.index t (3 : Fin 4) = 0 := (by decide +kernel : ∀ t : Fin grid0.N, _)
theorem idx1 : ∀ t : Fin cfg0.N, win0_1.index t (0 : Fin 3) = t.val / 8 ∧ win0_1.index t (1 : Fin 3) = 0
    ∧ win0_1.index t (2 : Fin 3) = t.val % 2 := (by decide +kernel : ∀ t : Fin grid0.N, _)
theorem idx2 : ∀ t : Fin cfg0.N, win0_2.index t (0 : Fin 3) = t.val / 8 ∧ win0_2.index t (1 : Fin 3) = 0
    ∧ win0_2.index t (2 : Fin 3) = t.val % 2 := (by decide +kernel : ∀ t : Fin grid0.N, _)
theorem idx3 : ∀ t : Fin cfg0.N, win0_3.index t (0 : Fin 3) = t.val / 8 ∧ win0_3.index t (1 : Fin 3) = t.val % 2
    ∧ win0_3.index t (2 : Fin 3) = 0 := (by decide +kernel : ∀ t : Fin grid0.N, _)
theorem idx4 : ∀ t : Fin cfg0.N, win0_4.index t (0 : Fin 4) = t.val / 2 % 4 ∧ win0_4.index t (1 : Fin 4) = t.val / 8
    ∧ win0_4.index t (2 : Fin 4) = 0 ∧ win0_4.index t (3 : Fin 4) = 0 := (by decide +kernel : ∀ t : Fin grid0.N, _)
theorem idx5 : ∀ t : Fin cfg0.N, win0_5.index t (0 : Fin 4) = t.val / 2 % 4 ∧ win0_5.index t (1 : Fin 4) = t.val / 8
    ∧ win0_5.index t (2 : Fin 4) = 0 ∧ win0_5.index t (3 : Fin 4) = 0 := (by decide +kernel : ∀ t : Fin grid0.N, _)

variable (m : (ℓ : Loc nD τ sig) → Buf (Elt Ideal) ℓ) (ρ : Dev nD → PrngReg)

/-- The tokens' block is the batch's and the expert's. -/
theorem iblk0_apply (c : Dev nD) (t : Fin cfg0.N) (s : Fin 8192) (l : Fin 128) :
    iblk m c 0 t (ix4 0 0 s l) = m ((c : Thread nD τ).loc main_arg0) (ix4 (bOf t) (eOf t) s l) := by
  show V m c main_arg0 (((cfg0.win 0).blk t).view.emb (ix4 0 0 s l)) = _
  rw [V_main_arg0]
  obtain ⟨e0, e1, e2, e3⟩ := idx0 t
  refine congrArg _ (funext fun a => Fin.ext ?_)
  match a with
  | ⟨0, _⟩ => show win0_0.index t (0 : Fin 4) * 1 + 1 * 0 = t.val / 2 % 4; omega
  | ⟨1, _⟩ => show win0_0.index t (1 : Fin 4) * 1 + 1 * 0 = t.val / 8; omega
  | ⟨2, _⟩ => show win0_0.index t (2 : Fin 4) * 8192 + 1 * s.val = s.val; omega
  | ⟨3, _⟩ => show win0_0.index t (3 : Fin 4) * 128 + 1 * l.val = l.val; omega

/-- A projection's block is the expert's weights, the chunk's 1024 columns. -/
theorem iblk1_apply (c : Dev nD) (t : Fin cfg0.N) (k j : Fin 1024) :
    iblk m c 1 t (ix3 0 k j) = m ((c : Thread nD τ).loc main_arg1) (ix3 (eOf t) k ⟨1024 * (t.val % 2) + j.val, by omega⟩) := by
  show V m c main_arg1 (((cfg0.win 1).blk t).view.emb (ix3 0 k j)) = _
  rw [V_main_arg1]
  obtain ⟨e0, e1, e2⟩ := idx1 t
  refine congrArg _ (funext fun a => Fin.ext ?_)
  match a with
  | ⟨0, _⟩ => show win0_1.index t (0 : Fin 3) * 1 + 1 * 0 = t.val / 8; omega
  | ⟨1, _⟩ => show win0_1.index t (1 : Fin 3) * 1024 + 1 * k.val = k.val; omega
  | ⟨2, _⟩ => show win0_1.index t (2 : Fin 3) * 1024 + 1 * j.val = 1024 * (t.val % 2) + j.val; omega

theorem iblk2_apply (c : Dev nD) (t : Fin cfg0.N) (k j : Fin 1024) :
    iblk m c 2 t (ix3 0 k j) = m ((c : Thread nD τ).loc main_arg2) (ix3 (eOf t) k ⟨1024 * (t.val % 2) + j.val, by omega⟩) := by
  show V m c main_arg2 (((cfg0.win 2).blk t).view.emb (ix3 0 k j)) = _
  rw [V_main_arg2]
  obtain ⟨e0, e1, e2⟩ := idx2 t
  refine congrArg _ (funext fun a => Fin.ext ?_)
  match a with
  | ⟨0, _⟩ => show win0_2.index t (0 : Fin 3) * 1 + 1 * 0 = t.val / 8; omega
  | ⟨1, _⟩ => show win0_2.index t (1 : Fin 3) * 1024 + 1 * k.val = k.val; omega
  | ⟨2, _⟩ => show win0_2.index t (2 : Fin 3) * 1024 + 1 * j.val = 1024 * (t.val % 2) + j.val; omega

/-- The down-projection's block is the expert's weights, the chunk's 1024 rows. -/
theorem iblk3_apply (c : Dev nD) (t : Fin cfg0.N) (j d : Fin 1024) :
    iblk m c 3 t (ix3 0 j d) = m ((c : Thread nD τ).loc main_arg3) (ix3 (eOf t) ⟨1024 * (t.val % 2) + j.val, by omega⟩ d) := by
  show V m c main_arg3 (((cfg0.win 3).blk t).view.emb (ix3 0 j d)) = _
  rw [V_main_arg3]
  obtain ⟨e0, e1, e2⟩ := idx3 t
  refine congrArg _ (funext fun a => Fin.ext ?_)
  match a with
  | ⟨0, _⟩ => show win0_3.index t (0 : Fin 3) * 1 + 1 * 0 = t.val / 8; omega
  | ⟨1, _⟩ => show win0_3.index t (1 : Fin 3) * 1024 + 1 * j.val = 1024 * (t.val % 2) + j.val; omega
  | ⟨2, _⟩ => show win0_3.index t (2 : Fin 3) * 1024 + 1 * d.val = d.val; omega

/-- The scores' block is the batch's and the expert's. -/
theorem iblk4_apply (c : Dev nD) (t : Fin cfg0.N) (r : Fin 1024) :
    iblk m c 4 t (ix4 0 0 r 0) = m ((c : Thread nD τ).loc main_arg4) (ix4 (bOf t) (eOf t) r 0) := by
  show V m c main_arg4 (((cfg0.win 4).blk t).view.emb (ix4 0 0 r 0)) = _
  rw [V_main_arg4]
  obtain ⟨e0, e1, e2, e3⟩ := idx4 t
  refine congrArg _ (funext fun a => Fin.ext ?_)
  match a with
  | ⟨0, _⟩ => show win0_4.index t (0 : Fin 4) * 1 + 1 * 0 = t.val / 2 % 4; omega
  | ⟨1, _⟩ => show win0_4.index t (1 : Fin 4) * 1 + 1 * 0 = t.val / 8; omega
  | ⟨2, _⟩ => show win0_4.index t (2 : Fin 4) * 1024 + 1 * r.val = r.val; omega
  | ⟨3, _⟩ => show win0_4.index t (3 : Fin 4) * 1 + 1 * 0 = 0; omega

/-- The result's block is the batch's and the expert's. -/
theorem emb5 (t : Fin cfg0.N) (s : Fin 8192) (l : Fin 128) : ((cfg0.win 5).blk t).view.emb (ix4 0 0 s l) = ix4 (bOf t) (eOf t) s l := by
  obtain ⟨e0, e1, e2, e3⟩ := idx5 t
  refine funext fun a => Fin.ext ?_
  match a with
  | ⟨0, _⟩ => show win0_5.index t (0 : Fin 4) * 1 + 1 * 0 = t.val / 2 % 4; omega
  | ⟨1, _⟩ => show win0_5.index t (1 : Fin 4) * 1 + 1 * 0 = t.val / 8; omega
  | ⟨2, _⟩ => show win0_5.index t (2 : Fin 4) * 8192 + 1 * s.val = s.val; omega
  | ⟨3, _⟩ => show win0_5.index t (3 : Fin 4) * 128 + 1 * l.val = l.val; omega

/-! ## The two chunks -/

/-- The contribution of a chunk to feature `d` of token `r`. -/
def part (c : Dev nD) (b : Fin 4) (e : Fin 16) (r d : Fin 1024) (j : Fin 2048) : EReal :=
  gated (proj (m ((c : Thread nD τ).loc main_arg0)) (m ((c : Thread nD τ).loc main_arg1)) b e r j)
    (proj (m ((c : Thread nD τ).loc main_arg0)) (m ((c : Thread nD τ).loc main_arg2)) b e r j) * m ((c : Thread nD τ).loc main_arg3) (ix3 e j d)

/-- A point's contribution, from the tokens staged at a point of the same expert and batch. -/
theorem step_blk (c : Dev nD) (t t' : Fin cfg0.N) (he : eOf t' = eOf t) (hb : bOf t' = bOf t) (r d : Fin 1024) :
    step (staged (iblk m c 0 t')) (iblk m c 1 t) (iblk m c 2 t) (iblk m c 3 t) r d
      = ∑ j : Fin 1024, part m c (bOf t) (eOf t) r d ⟨1024 * (t.val % 2) + j.val, by omega⟩ := by
  have hs : ∀ k : Fin 1024, staged (iblk m c 0 t') (ix2 r k) = tok (m ((c : Thread nD τ).loc main_arg0)) (bOf t) (eOf t) r k := fun k => by
    rw [← he, ← hb]
    exact iblk0_apply m c t' _ _
  unfold step part hidden chunk proj
  simp only [hs, iblk1_apply, iblk2_apply, iblk3_apply]

/-- A sum over the 2048 hidden activations is the sum of the two chunks'. -/
theorem sum_chunks (f : Fin 2048 → EReal) :
    ∑ j : Fin 2048, f j = ∑ j : Fin 1024, f ⟨1024 * 0 + j.val, by omega⟩ + ∑ j : Fin 1024, f ⟨1024 * 1 + j.val, by omega⟩ := by
  rw [show (∑ j : Fin 2048, f j) = _ from Fin.sum_univ_add (a := 1024) (b := 1024) f]
  exact congrArg₂ (· + ·) (Finset.sum_congr rfl fun j _ => congrArg f (Fin.ext (by show j.val = 1024 * 0 + j.val; omega)))
    (Finset.sum_congr rfl fun j _ => congrArg f (Fin.ext (by show 1024 + j.val = 1024 * 1 + j.val; omega)))

/-- What the result's block holds when it is written back. -/
theorem block_eq (c : Dev nD) (t : Fin cfg0.N) (h1 : t.val % 2 = 1) (s : Fin 8192) (l : Fin 128) :
    (outsAt0 m c t.val t.isLt).1 (ix4 0 0 s l)
      = outv (m ((c : Thread nD τ).loc main_arg0)) (m ((c : Thread nD τ).loc main_arg1)) (m ((c : Thread nD τ).loc main_arg2))
          (m ((c : Thread nD τ).loc main_arg3)) (m ((c : Thread nD τ).loc main_arg4)) (bOf t) (eOf t) ⟨s.val / 8, by omega⟩ ⟨128 * (s.val % 8) + l.val, by omega⟩ := by
  have h0 : ¬t.val % 2 = 0 := by omega
  obtain ⟨t', ht'⟩ : ∃ t' : Fin cfg0.N, t'.val = t.val - 1 := ⟨⟨t.val - 1, Nat.lt_of_le_of_lt (Nat.sub_le _ _) t.isLt⟩, rfl⟩
  have h0' : t'.val % 2 = 0 := by omega
  have h1' : ¬t'.val % 2 = 1 := by omega
  have he : eOf t' = eOf t := Fin.ext (by show t'.val / 8 = t.val / 8; omega)
  have hb : bOf t' = bOf t := Fin.ext (by show t'.val / 2 % 4 = t.val / 2 % 4; omega)
  have hp : outsAt0 m c (t.val - 1) (Nat.lt_of_le_of_lt (Nat.sub_le _ _) t.isLt) = outsAt0 m c t'.val t'.isLt := by
    congr 1
    exact ht'.symm
  rw [outsAt0_B m c t h0 h1]
  dsimp only
  rw [out_B, hp, outsAt0_A m c t' h0' h1']
  dsimp only
  show (_ + _) * _ = _
  rw [acc_A, tok_A, step_blk m c t' t' rfl rfl, step_blk m c t t' he hb, iblk4_apply, he, hb]
  unfold outv
  rw [sum_chunks]
  simp only [h0', h1]
  rfl

/-- An index of a result's block. -/
theorem block_ix (y : S1x1x8192x128.Idx) : ∃ (s : Fin 8192) (l : Fin 128), y = ix4 0 0 s l := by
  refine ⟨y 2, y 3, funext fun a => Fin.ext ?_⟩
  have h0 : (y 0).val < 1 := (y 0).isLt
  have h1 : (y 1).val < 1 := (y 1).isLt
  match a with
  | ⟨0, _⟩ => show (y 0).val = 0; omega
  | ⟨1, _⟩ => show (y 1).val = 0; omega
  | ⟨2, _⟩ => rfl
  | ⟨3, _⟩ => rfl

/-- After the run, the result array is the reference's. -/
theorem final5 (c : Dev nD) : (dats m 0 c).arrAt 5 cfg0.N
    = val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 _ (fun t hf => funext fun i => ?_) fun i => ?_
  · obtain ⟨s, l, rfl⟩ := block_ix i
    show (dats m 0 c).after 5 t (ix4 0 0 s l) = val_main_v11 (F := Ideal) _ _ _ _ _ (((cfg0.win 5).blk t).view.emb (ix4 0 0 s l))
    rw [after0_5, emb5, ref_apply]
    exact block_eq m c t ((flush0_5 t).1 hf) s l
  · obtain ⟨b, e, s, l, rfl⟩ : ∃ (b : Fin 4) (e : Fin 16) (s : Fin 8192) (l : Fin 128), i = ix4 b e s l := ⟨i 0, i 1, i 2, i 3, eq_ix4 i⟩
    obtain ⟨t, ht⟩ : ∃ t : Fin cfg0.N, t.val = 8 * e.val + 2 * b.val + 1 :=
      ⟨⟨8 * e.val + 2 * b.val + 1, by have : cfg0.N = 128 := N_0; omega⟩, rfl⟩
    have hb : bOf t = b := Fin.ext (by show t.val / 2 % 4 = b.val; omega)
    have he : eOf t = e := Fin.ext (by show t.val / 8 = e.val; omega)
    refine ⟨t, (flush0_5 t).2 (by omega), ?_⟩
    have h := emb5 t s l
    rw [hb, he] at h
    exact h ▸ ((cfg0.win 5).blk t).view.emb_mem_set (ix4 0 0 s l)

/-! ## The claim -/

/-- The kernel's run and the reference's end with the same result array, from memories that agree on the arguments. -/
theorem algebraic : Cert.algebraic_FfnIdeal_FfnRefIdeal := by
  intro m ρ m' ρ' _ hag
  refine ⟨fun c => val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    (θ_run Cert.FfnIdeal.defs _ _).mono (fun r h c => ?_) (θ_run_and (run_main m ρ) (unchanged m ρ)),
    (θ_run Cert.FfnRefIdeal.defs _ _).mono (fun r h c => ?_) (Cert.FfnRefIdeal.Value.run m' ρ')⟩
  · exact ⟨((h.1 c).1 5).trans (final5 m c), h.2 c⟩
  · obtain ⟨h5, ha⟩ := h c
    obtain ⟨e0, e1, e2, e3, e4⟩ := hag c
    rw [val_main_v11_eq, e0, e1, e2, e3, e4] at h5
    exact ⟨h5, ha⟩

end Ffn

end
-- ==== Proof.FinalNorm.lean ====
/- The final norm's value: after the run the kernel's result array holds, at every index, what the reference computes there —
   the residual plus the experts' mixture, over the root of its row's mean square, times the gain. The mixture arrives in tiles
   of 128 features; the kernel reads its rows by eight strided loads and lays them side by side. -/
module

public import proofs.«01_k».proof.Defs
public import proofs.«01_k».proof.Proof.Gen.FinalIdeal.Frame
public import proofs.«01_k».proof.Proof.Gen.FinalIdeal.Skeleton
public import proofs.«01_k».proof.Proof.Gen.FinalRefIdeal
public import proofs.«01_k».proof.Proof.Gen.FinalRefIdeal.Run
public import proofs.«01_k».proof.Proof.Gen.FinalRefIdeal.Read
public import Idealize.ShloMosaic.Lib.Pointwise
public import Idealize.ShloMosaic.Lib.WholeRead
public import Idealize.ShloMosaic.Lib.VecWindow
public import Idealize.ShloMosaic.Lib.Writes
public import Idealize.ShloMosaic.Lib.Claim

@[expose] public section

set_option maxRecDepth 16384

noncomputable section

namespace Cert.Proof.FinalNorm

open Cert.FinalIdeal Cert.FinalIdeal.Gen Idealize.ShloMosaic Idealize.ShloMosaic.TcCoe Idealize.SL.Sem
open Cert.FinalRefIdeal.Read

/-! ## The payload and the reference at an index -/

/-- Entry `d` of a row over the root of the row's mean square (plus a small constant), times the gain. -/
def normRow (y : Fin 1024 → EReal) (g : FVec Ideal ⟨2, ![1, 1024]⟩ .f32) (d : Fin 1024) : EReal :=
  y d * Ideal.rsqrt (Ideal.div (∑ l : Fin 1024, y l * y l) (Ideal.ofBits .f32 0x44800000#32) + Ideal.ofBits .f32 0x358637BD#32) * g (ix2 0 d)

/-- Entry `d` of row `r` of the mixture, in its tile. -/
def tile {n p : Nat} (h : p = 8 * n) (t : FVec Ideal ⟨2, ![p, 128]⟩ .f32) (r : Fin n) (d : Fin 1024) : EReal :=
  t (ix2 ⟨8 * r.val + d.val / 128, by omega⟩ ⟨d.val % 128, by omega⟩)

/-- The eight pieces side by side. -/
theorem concat_apply (v : Fin 8 → FVec Ideal S512x128 .f32) (M : Fin 512 → Fin 1024 → EReal)
    (hv : ∀ (n : Fin 8) (r : Fin 512) (l : Fin 128), v n (ix2 r l) = M r ⟨128 * n.val + l.val, by omega⟩) (r : Fin 512) (d : Fin 1024) :
    concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩]
      concatenates_S512x128_S512x128_S512x128_S512x128_S512x128_S512x128_S512x128_S512x128_S512x1024_d1 (ix2 r d) = M r d := by
  refine (concatenate_ofFn_apply (s₁ := S512x128) 1 v concatenates_S512x128_S512x128_S512x128_S512x128_S512x128_S512x128_S512x128_S512x128_S512x1024_d1
    rfl 128 rfl (ix2 r d) ⟨d.val / 128, by omega⟩ rfl (ix2 r ⟨d.val % 128, by omega⟩) rfl (fun b hb => ?_)).trans ?_
  · match b with
    | ⟨0, _⟩ => rfl
    | ⟨1, _⟩ => exact absurd rfl hb
  · rw [hv]
    exact congrArg (M r) (Fin.ext (by show 128 * (d.val / 128) + d.val % 128 = d.val; omega))

/-- The kernel's block, at an index, from eight pieces that hold the mixture's features 128 at a time. -/
theorem pay1_apply (v : Fin 8 → FVec Ideal S512x128 .f32) (M : Fin 512 → Fin 1024 → EReal)
    (hv : ∀ (n : Fin 8) (r : Fin 512) (l : Fin 128), v n (ix2 r l) = M r ⟨128 * n.val + l.val, by omega⟩)
    (x : Vec Ideal S512x1024 .f32) (g : Vec Ideal S1x1024 .f32) (r : Fin 512) (d : Fin 1024) :
    k0_pay1 (v 0) (v 1) (v 2) (v 3) (v 4) (v 5) (v 6) (v 7) x g (ix2 r d) = normRow (fun k => x (ix2 r k) + M r k) g d := by
  simp only [k0_pay1]
  rw [show concatenate S512x1024 1 [⟨S512x128, v 0⟩, ⟨S512x128, v 1⟩, ⟨S512x128, v 2⟩, ⟨S512x128, v 3⟩, ⟨S512x128, v 4⟩, ⟨S512x128, v 5⟩, ⟨S512x128, v 6⟩, ⟨S512x128, v 7⟩]
      concatenates_S512x128_S512x128_S512x128_S512x128_S512x128_S512x128_S512x128_S512x128_S512x1024_d1 = (fun i => M (i 0) (i 1) : FVec Ideal S512x1024 .f32) from
    funext fun i => by
      obtain ⟨r, d, rfl⟩ : ∃ (r : Fin 512) (d : Fin 1024), i = ix2 r d := ⟨i 0, i 1, eq_ix2 i⟩
      exact concat_apply v M hv r d]
  pointwise [normRow]

/-- The reference's result, at an index. -/
theorem ref_apply (x : Vec Ideal S32768x1024 .f32) (t : Vec Ideal S262144x128 .f32) (g : Vec Ideal S1x1024 .f32) (r : Fin 32768) (d : Fin 1024) :
    val_main_v13 (F := Ideal) x t g (ix2 r d) = normRow (fun k => x (ix2 r k) + tile (n := 32768) rfl t r k) g d := by
  have h1 : ∀ k : Fin 1024, val_main_v1 (F := Ideal) x t (ix2 r k) = x (ix2 r k) + tile (n := 32768) rfl t r k := fun k => by
    rw [val_main_v1_apply, val_main_v0_apply]
    refine congrArg (x (ix2 r k) + t ·) (funext fun a => Fin.ext ?_)
    match a with
    | ⟨0, _⟩ => show (r.val * 1024 + k.val) / 128 = 8 * r.val + k.val / 128; omega
    | ⟨1, _⟩ => show (r.val * 1024 + k.val) % 128 = k.val % 128; omega
  pointwise [val_main_v13, val_main_v12, val_main_v11, val_main_v10, val_main_v9, val_main_v8, val_main_v7, val_main_v6, val_main_v5, val_main_v4,
    val_main_v3, val_main_v2, val_main_cst, val_main_cst_0, val_main_cst_1, h1, normRow]

/-! ## The block -/

/-- A strided load of the tiles' block: every eighth row, from row `n`. -/
theorem load_tile (a : Memref sig .tc .vmem S4096x128 .f32) (h : a.IsWhole) (t : Vec Ideal S4096x128 .f32) (n : Fin 8)
    (inb : ∀ i, S512x128.size i = 0 ∨ (![n.val, 0] : Fin 2 → Nat) i + (![8, 1] : Fin 2 → Nat) i * (S512x128.size i - 1) < S4096x128.size i)
    (r : Fin 512) (l : Fin 128) :
    View.readAt (Elt Ideal) a.view (⟨![n.val, 0], S512x128.size, ![8, 1], inb⟩ : LoadRect S4096x128) (h.unread t) (ix2 r l)
      = tile (n := 512) rfl t r ⟨128 * n.val + l.val, by omega⟩ := by
  rw [h.readAt_unread]
  refine congrArg t (funext fun b => Fin.ext ?_)
  match b with
  | ⟨0, _⟩ => show n.val + 8 * r.val = 8 * r.val + (128 * n.val + l.val) / 128; omega
  | ⟨1, _⟩ => show 0 + 1 * l.val = (128 * n.val + l.val) % 128; omega

/-- A load of the residual's whole block, and of the gain, reads what it holds. -/
theorem load_rows (a : Memref sig .tc .vmem S512x1024 .f32) (h : a.IsWhole) (x : Vec Ideal S512x1024 .f32)
    (inb : ∀ i, (![0, 0] : Fin 2 → Nat) i + S512x1024.size i ≤ S512x1024.size i) :
    View.readAt (Elt Ideal) a.view (Rect.unit ![0, 0] S512x1024.size inb).toLoadRect (h.unread x) = x := by
  funext i
  rw [h.readAt_unread]
  refine congrArg x (funext fun b => Fin.ext ?_)
  match b with
  | ⟨0, _⟩ => show 0 + 1 * (i 0).val = (i 0).val; omega
  | ⟨1, _⟩ => show 0 + 1 * (i 1).val = (i 1).val; omega
theorem load_gain (a : Memref sig .tc .vmem S1x1024 .f32) (h : a.IsWhole) (x : Vec Ideal S1x1024 .f32)
    (inb : ∀ i, (![0, 0] : Fin 2 → Nat) i + S1x1024.size i ≤ S1x1024.size i) :
    View.readAt (Elt Ideal) a.view (Rect.unit ![0, 0] S1x1024.size inb).toLoadRect (h.unread x) = x := by
  funext i
  rw [h.readAt_unread]
  refine congrArg x (funext fun b => Fin.ext ?_)
  match b with
  | ⟨0, _⟩ => show 0 + 1 * (i 0).val = (i 0).val; omega
  | ⟨1, _⟩ => show 0 + 1 * (i 1).val = (i 1).val; omega

/-- The eight strided loads. -/
def loads (a : Memref sig .tc .vmem S4096x128 .f32) (h : a.IsWhole) (t : Vec Ideal S4096x128 .f32) (n : Fin 8) : FVec Ideal S512x128 .f32 :=
  View.readAt (Elt Ideal) a.view (⟨![n.val, 0], S512x128.size, ![8, 1], fun i => by
    have hn := n.isLt
    match i with
    | ⟨0, _⟩ => exact .inr (by show n.val + 8 * 511 < 4096; omega)
    | ⟨1, _⟩ => exact .inr (by show 0 + 1 * 127 < 128; omega)⟩ : LoadRect S4096x128) (h.unread t)

/-- What the body leaves in the result's block, at an index. -/
theorem out_apply (c : Dev nD) (i : grid0.Coords) (arg1 : Memref sig .tc .vmem S512x1024 .f32) (harg1 : arg1.IsWhole) (arg2 : Memref sig .tc .vmem S4096x128 .f32) (harg2 : arg2.IsWhole) (arg3 : Memref sig .tc .vmem S1x1024 .f32) (harg3 : arg3.IsWhole) (arg4 : Memref sig .tc .vmem S512x1024 .f32) (harg4 : arg4.IsWhole)
    (x : Vec Ideal S512x1024 .f32) (t : Vec Ideal S4096x128 .f32) (g : Vec Ideal S1x1024 .f32) (r : Fin 512) (d : Fin 1024) :
    out0_A_3 c i arg1 harg1 arg2 harg2 arg3 harg3 arg4 harg4 x t g (ix2 r d) = normRow (fun k => x (ix2 r k) + tile (n := 512) rfl t r k) g d := by
  have hw : out0_A_3 c i arg1 harg1 arg2 harg2 arg3 harg3 arg4 harg4 x t g
      = k0_pay1 (loads arg2 harg2 t 0) (loads arg2 harg2 t 1) (loads arg2 harg2 t 2) (loads arg2 harg2 t 3) (loads arg2 harg2 t 4) (loads arg2 harg2 t 5)
          (loads arg2 harg2 t 6) (loads arg2 harg2 t 7)
          (View.readAt (Elt Ideal) arg1.view (Rect.unit ![0, 0] S512x1024.size inb_S512x1024_S512x1024_0_0).toLoadRect (harg1.unread x))
          (View.readAt (Elt Ideal) arg3.view (Rect.unit ![0, 0] S1x1024.size inb_S1x1024_S1x1024_0_0).toLoadRect (harg3.unread g)) :=
    View.read_writes_full VO0_3 VO0_3.junk _ _ _
  rw [hw, load_rows, load_gain]
  exact pay1_apply (loads arg2 harg2 t) (tile (n := 512) rfl t) (fun n r l => load_tile arg2 harg2 t n _ r l) x g r d

/-- Every window that moves sits, at point `t`, at block row `t` and block column 0; the gain at block (0, 0). -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

/-- Row `r` of point `t`'s block of rows, among all the rows. -/
def row (t : Fin cfg0.N) (r : Fin 512) : Fin 32768 := ⟨t.val * 512 + r.val, by have h := t.isLt; have : cfg0.N = 64 := by decide
                                                                               omega⟩

variable (m : (ℓ : Loc nD τ sig) → Buf (Elt Ideal) ℓ) (ρ : Dev nD → PrngReg)

/-- The residual's block. -/
theorem iblk0_apply (c : Dev nD) (t : Fin cfg0.N) (r : Fin 512) (k : Fin 1024) :
    iblk m c 0 t (ix2 r k) = m ((c : Thread nD τ).loc main_arg0) (ix2 (row t r) k) := by
  show V m c main_arg0 (((cfg0.win 0).blk t).view.emb (ix2 r k)) = _
  rw [V_main_arg0]
  obtain ⟨e0, e1⟩ := idx0 t
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * k.val = k.val; omega

/-- The tiles' block: entry (`r`, `k`) of its rows is the array's at the row. -/
theorem tile_blk (c : Dev nD) (t : Fin cfg0.N) (r : Fin 512) (k : Fin 1024) :
    tile (n := 512) rfl (iblk m c 1 t) r k = tile (n := 32768) rfl (m ((c : Thread nD τ).loc main_arg1)) (row t r) k := by
  unfold tile
  show V m c main_arg1 (((cfg0.win 1).blk t).view.emb (ix2 _ _)) = _
  rw [V_main_arg1]
  obtain ⟨e0, e1⟩ := idx1 t
  refine congrArg _ (funext fun a => Fin.ext ?_)
  match a with
  | ⟨0, _⟩ => show win0_1.index t (0 : Fin 2) * 4096 + 1 * (8 * r.val + k.val / 128) = 8 * (t.val * 512 + r.val) + k.val / 128; omega
  | ⟨1, _⟩ => show win0_1.index t (1 : Fin 2) * 128 + 1 * (k.val % 128) = k.val % 128; omega

/-- The gain's block is the gain. -/
theorem iblk2_apply (c : Dev nD) (t : Fin cfg0.N) (r : Fin 1) (k : Fin 1024) :
    iblk m c 2 t (ix2 r k) = m ((c : Thread nD τ).loc main_arg2) (ix2 r k) := by
  show V m c main_arg2 (((cfg0.win 2).blk t).view.emb (ix2 r k)) = _
  rw [V_main_arg2]
  obtain ⟨e0, e1⟩ := idx2 t
  refine congrArg _ (funext fun a => Fin.ext ?_)
  match a with
  | ⟨0, _⟩ => show win0_2.index t (0 : Fin 2) * 1 + 1 * r.val = r.val; omega
  | ⟨1, _⟩ => show win0_2.index t (1 : Fin 2) * 1024 + 1 * k.val = k.val; omega

/-- The result's block. -/
theorem emb3 (t : Fin cfg0.N) (r : Fin 512) (j : Fin 1024) : ((cfg0.win 3).blk t).view.emb (ix2 r j) = ix2 (row t r) j := by
  obtain ⟨e0, e1⟩ := idx3 t
  refine funext fun a => Fin.ext ?_
  match a with
  | ⟨0, _⟩ => show win0_3.index t (0 : Fin 2) * 512 + 1 * r.val = t.val * 512 + r.val; omega
  | ⟨1, _⟩ => show win0_3.index t (1 : Fin 2) * 1024 + 1 * j.val = j.val; omega

/-- After the run, the result array is the reference's. -/
theorem final3 (c : Dev nD) : (dats m 0 c).arrAt 3 cfg0.N
    = val_main_v13 (F := Ideal) (m ((c : Thread nD τ).loc main_arg0)) (m ((c : Thread nD τ).loc main_arg1)) (m ((c : Thread nD τ).loc main_arg2)) := by
  refine (dats m 0 c).arrAt_eq_of_cover 3 _ (fun t _ => funext fun i => ?_) fun i => ?_
  · obtain ⟨r, d, rfl⟩ : ∃ (r : Fin 512) (d : Fin 1024), i = ix2 r d := ⟨i 0, i 1, eq_ix2 i⟩
    show (dats m 0 c).after 3 t (ix2 r d) = val_main_v13 (F := Ideal) _ _ _ (((cfg0.win 3).blk t).view.emb (ix2 r d))
    rw [after0_3, emb3, ref_apply]
    unfold outsAt0
    rw [out_apply]
    unfold normRow
    simp only [iblk0_apply, tile_blk, iblk2_apply]
  · obtain ⟨R, d, rfl⟩ : ∃ (R : Fin 32768) (d : Fin 1024), i = ix2 R d := ⟨i 0, i 1, eq_ix2 i⟩
    obtain ⟨t, r, rfl⟩ : ∃ (t : Fin cfg0.N) (r : Fin 512), row t r = R :=
      ⟨⟨R.val / 512, by have : cfg0.N = 64 := by decide
                        omega⟩, ⟨R.val % 512, by omega⟩, Fin.ext (by show R.val / 512 * 512 + R.val % 512 = R.val; omega)⟩
    exact ⟨t, flush0_3 t, emb3 t r d ▸ ((cfg0.win 3).blk t).view.emb_mem_set (ix2 r d)⟩

/-! ## The claim -/

/-- The kernel's run and the reference's end with the same result array, from memories that agree on the arguments. -/
theorem algebraic : Cert.algebraic_FinalIdeal_FinalRefIdeal := by
  intro m ρ m' ρ' _ hag
  refine ⟨fun c => val_main_v13 (F := Ideal) (m ((c : Thread nD τ).loc main_arg0)) (m ((c : Thread nD τ).loc main_arg1)) (m ((c : Thread nD τ).loc main_arg2)),
    (θ_run Cert.FinalIdeal.defs _ _).mono (fun r h c => ?_) (θ_run_and (run_main m ρ) (unchanged m ρ)),
    (θ_run Cert.FinalRefIdeal.defs _ _).mono (fun r h c => ?_) (Cert.FinalRefIdeal.Value.run m' ρ')⟩
  · exact ⟨((h.1 c).1 3).trans (final3 m c), h.2 c⟩
  · obtain ⟨h3, ha⟩ := h c
    obtain ⟨e0, e1, e2⟩ := hag c
    have h3' := h3.trans (val_main_v13_eq (F := Ideal) _ _ _)
    rw [e0, e1, e2] at h3'
    exact ⟨h3', ha⟩

end Cert.Proof.FinalNorm

end
-- ==== Proof.MemKv.lean ====
/- The memory's keys and values: after the run each of the kernel's two result arrays holds, at every index, what the reference
   computes there — the first or the last 256 columns of the product of the memory's normalised rows with the weights. One grid
   point handles one batch. -/
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pointwise

@[expose] public section

set_option maxRecDepth 16384

noncomputable section

namespace Cert.Proof.MemKv

open Cert.MemKvIdeal Cert.MemKvIdeal.Gen Cert.MemKvIdeal.Value Idealize.ShloMosaic Idealize.ShloMosaic.TcCoe Idealize.SL.Sem
open Cert.MemKvRefIdeal.Read

/-! ## The payloads and the reference at an index -/

/-- Entry `k` of row `r` of batch `b`, over the root of the row's mean square (plus a small constant), times the gain. -/
def normed {n : Nat} (x : FVec Ideal ⟨3, ![n, 256, 1024]⟩ .f32) (g : FVec Ideal ⟨2, ![1, 1024]⟩ .f32) (b : Fin n) (r : Fin 256) (k : Fin 1024) : EReal :=
  x (ix3 b r k) * Ideal.rsqrt (Ideal.div (∑ l : Fin 1024, x (ix3 b r l) * x (ix3 b r l)) (Ideal.ofBits .f32 0x44800000#32)
    + Ideal.ofBits .f32 0x358637BD#32) * g (ix2 0 k)

/-- Entry (`r`, `j`) of the product of a batch's normalised rows with the weights. -/
def proj {n : Nat} {φ : FTy} (x : FVec Ideal ⟨3, ![n, 256, 1024]⟩ .f32) (g : FVec Ideal ⟨2, ![1, 1024]⟩ .f32) (w : FVec Ideal ⟨2, ![1024, 512]⟩ φ)
    (b : Fin n) (r : Fin 256) (j : Fin 512) : EReal :=
  ∑ k : Fin 1024, normed x g b r k * w (ix2 k j)

/-- The block's product, at an index. -/
theorem pay1_apply (x : Vec Ideal S1x256x1024 .f32) (g : Vec Ideal S1x1024 .f32) (w : Vec Ideal S1024x512 .bf16) (r : Fin 256) (j : Fin 512) :
    k0_pay1 x g w (ix2 r j) = proj (φ := .bf16) x g w 0 r j := by
  pointwise [k0_pay1, proj, normed, zero_add]

/-- The keys' block, at an index, and the values'. -/
theorem pay2_apply (x : Vec Ideal S1x256x1024 .f32) (g : Vec Ideal S1x1024 .f32) (w : Vec Ideal S1024x512 .bf16) (r : Fin 256) (j : Fin 256) :
    k0_pay2 x g w (ix3 0 r j) = proj (φ := .bf16) x g w 0 r ⟨j.val, by omega⟩ := by
  pointwise [k0_pay2, pay1_apply]
theorem pay3_apply (x : Vec Ideal S1x256x1024 .f32) (g : Vec Ideal S1x1024 .f32) (w : Vec Ideal S1024x512 .bf16) (r : Fin 256) (j : Fin 256) :
    k0_pay3 x g w (ix3 0 r j) = proj (φ := .bf16) x g w 0 r ⟨256 + j.val, by omega⟩ := by
  pointwise [k0_pay3, pay1_apply]

/-- The reference's product, at an index. -/
theorem ref_apply (x : Vec Ideal S4x256x1024 .f32) (g : Vec Ideal S1x1024 .f32) (w : Vec Ideal S1024x512 .f32) (b : Fin 4) (r : Fin 256) (j : Fin 512) :
    val_main_v13 (F := Ideal) x g w (ix3 b r j) = proj (φ := .f32) x g w b r j := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, proj, normed]

/-- The reference's two results, at an index. -/
theorem ref16_apply (x : Vec Ideal S4x256x1024 .f32) (g : Vec Ideal S1x1024 .f32) (w : Vec Ideal S1024x512 .f32) (b : Fin 4) (r : Fin 256) (j : Fin 256) :
    val_main_v16 (F := Ideal) x g w (ix3 b r j) = proj (φ := .f32) x g w b r ⟨j.val, by omega⟩ := by
  pointwise [val_main_v16, val_main_v14, ref_apply]
theorem ref17_apply (x : Vec Ideal S4x256x1024 .f32) (g : Vec Ideal S1x1024 .f32) (w : Vec Ideal S1024x512 .f32) (b : Fin 4) (r : Fin 256) (j : Fin 256) :
    val_main_v17 (F := Ideal) x g w (ix3 b r j) = proj (φ := .f32) x g w b r ⟨256 + j.val, by omega⟩ := by
  pointwise [val_main_v17, val_main_v15, ref_apply]

/-! ## The blocks -/

/-- The memory's window, and the results', sit at batch `t` at point `t`; the gain and the weights at block (0, 0). -/
theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 3) = t.val ∧ win0_3.index t (1 : Fin 3) = 0 ∧ win0_3.index t (2 : Fin 3) = 0 := (by decide +kernel : ∀ t : Fin grid0.N, _)
theorem idx4 : ∀ t : Fin cfg0.N, win0_4.index t (0 : Fin 3) = t.val ∧ win0_4.index t (1 : Fin 3) = 0 ∧ win0_4.index t (2 : Fin 3) = 0 := (by decide +kernel : ∀ t : Fin grid0.N, _)

/-- The batch of a point. -/
def batch (t : Fin cfg0.N) : Fin 4 := ⟨t.val, t.isLt⟩

variable (m : (ℓ : Loc nD τ sig) → Buf (Elt Ideal) ℓ) (ρ : Dev nD → PrngReg)

/-- The memory's block is the batch's. -/
theorem iblk0_apply (c : Dev nD) (t : Fin cfg0.N) (r : Fin 256) (k : Fin 1024) :
    iblk m c 0 t (ix3 0 r k) = m ((c : Thread nD τ).loc main_arg0) (ix3 (batch t) r k) := by
  show V m c main_arg0 (((cfg0.win 0).blk t).view.emb (ix3 0 r k)) = _
  rw [V_main_arg0]
  obtain ⟨e0, e1, e2⟩ := idx0 t
  refine congrArg _ (funext fun a => Fin.ext ?_)
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 1024 + 1 * k.val = k.val; omega

/-- The gain's block is the gain. -/
theorem iblk1_apply (c : Dev nD) (t : Fin cfg0.N) (r : Fin 1) (k : Fin 1024) :
    iblk m c 1 t (ix2 r k) = m ((c : Thread nD τ).loc main_arg1) (ix2 r k) := by
  show V m c main_arg1 (((cfg0.win 1).blk t).view.emb (ix2 r k)) = _
  rw [V_main_arg1]
  obtain ⟨e0, e1⟩ := idx1 t
  refine congrArg _ (funext fun a => Fin.ext ?_)
  match a with
  | ⟨0, _⟩ => show win0_1.index t (0 : Fin 2) * 1 + 1 * r.val = r.val; omega
  | ⟨1, _⟩ => show win0_1.index t (1 : Fin 2) * 1024 + 1 * k.val = k.val; omega

/-- The weights in the region are the argument's, rounded on the host: over the extended reals the same. -/
theorem V_v0 (c : Dev nD) : V m c main_v0 = (m ((c : Thread nD τ).loc main_arg2) : Vec Ideal S1024x512 .f32) := by
  unfold V hostOps0
  after_results_simp
  rfl

/-- The weights' block is the weights. -/
theorem iblk2_apply (c : Dev nD) (t : Fin cfg0.N) (k : Fin 1024) (j : Fin 512) :
    iblk m c 2 t (ix2 k j) = m ((c : Thread nD τ).loc main_arg2) (ix2 k j) := by
  show V m c main_v0 (((cfg0.win 2).blk t).view.emb (ix2 k j)) = _
  rw [V_v0]
  obtain ⟨e0, e1⟩ := idx2 t
  refine congrArg _ (funext fun a => Fin.ext ?_)
  match a with
  | ⟨0, _⟩ => show win0_2.index t (0 : Fin 2) * 1024 + 1 * k.val = k.val; omega
  | ⟨1, _⟩ => show win0_2.index t (1 : Fin 2) * 512 + 1 * j.val = j.val; omega

theorem hz3 : (![0, 0, 0] : Fin 3 → Nat) = fun _ => 0 := funext fun a => by fin_cases a <;> rfl
theorem hz : (![0, 0] : Fin 2 → Nat) = fun _ => 0 := funext fun a => by fin_cases a <;> rfl

/-- The product over a point's block is the batch's. -/
theorem proj_block (c : Dev nD) (t : Fin cfg0.N) (r : Fin 256) (j : Fin 512) :
    proj (n := 1) (φ := .bf16) (iblk m c 0 t) (iblk m c 1 t) (iblk m c 2 t) 0 r j
      = proj (n := 4) (φ := .f32) (m ((c : Thread nD τ).loc main_arg0)) (m ((c : Thread nD τ).loc main_arg1)) (m ((c : Thread nD τ).loc main_arg2)) (batch t) r j := by
  unfold proj normed
  simp only [iblk0_apply, iblk1_apply, iblk2_apply]

/-- An index with point `t`'s block row `r` and column `j` is batch `t`'s. -/
theorem eq_batch (t : Fin cfg0.N) (r : Fin 256) (j : Fin 256) (b : Fin 3 → Nat) (hb : b 0 = t.val ∧ b 1 = 0 ∧ b 2 = 0)
    (i : S4x256x256.Idx) (h0 : (i 0).val = b 0 * 1 + 1 * 0) (h1 : (i 1).val = b 1 * 256 + 1 * r.val) (h2 : (i 2).val = b 2 * 256 + 1 * j.val) :
    i = ix3 (batch t) r j := by
  refine funext fun a => Fin.ext ?_
  match a with
  | ⟨0, _⟩ => show (i 0).val = t.val; omega
  | ⟨1, _⟩ => show (i 1).val = r.val; omega
  | ⟨2, _⟩ => show (i 2).val = j.val; omega

/-- An index of a result's block. -/
theorem block_ix (y : S1x256x256.Idx) : ∃ (r : Fin 256) (j : Fin 256), y = ix3 0 r j := by
  refine ⟨y 1, y 2, funext fun a => Fin.ext ?_⟩
  have h0 : (y 0).val < 1 := (y 0).isLt
  match a with
  | ⟨0, _⟩ => show (y 0).val = 0; omega
  | ⟨1, _⟩ => rfl
  | ⟨2, _⟩ => rfl

/-- Block (`r`, `j`) of point `t` in the array of the keys, and in the values'. -/
theorem emb3 (t : Fin cfg0.N) (r : Fin 256) (j : Fin 256) : ((cfg0.win 3).blk t).view.emb (ix3 0 r j) = ix3 (batch t) r j :=
  eq_batch t r j (win0_3.index t) (idx3 t) _ rfl rfl rfl
theorem emb4 (t : Fin cfg0.N) (r : Fin 256) (j : Fin 256) : ((cfg0.win 4).blk t).view.emb (ix3 0 r j) = ix3 (batch t) r j :=
  eq_batch t r j (win0_4.index t) (idx4 t) _ rfl rfl rfl

/-- After the run, the array of the keys is the reference's. -/
theorem final3 (c : Dev nD) : (dats m 0 c).arrAt 3 cfg0.N
    = val_main_v16 (F := Ideal) (m ((c : Thread nD τ).loc main_arg0)) (m ((c : Thread nD τ).loc main_arg1)) (m ((c : Thread nD τ).loc main_arg2)) := by
  refine (dats m 0 c).arrAt_eq_of_cover 3 _ (fun t _ => funext fun i => ?_) fun i => ?_
  · obtain ⟨r, j, rfl⟩ := block_ix i
    rw [flushed3]
    show out0_3 (iblk m c 0 t) (iblk m c 1 t) (iblk m c 2 t) (ix3 0 r j) = val_main_v16 (F := Ideal) _ _ _ (((cfg0.win 3).blk t).view.emb (ix3 0 r j))
    rw [emb3, ref16_apply]
    unfold out0_3
    rw [View.canon_unit_zero hz3, View.ld_unit_zero hz3, View.ld_unit_zero hz, View.ld_unit_zero hz, pay2_apply]
    exact proj_block m c t r _
  · obtain ⟨b, r, j, rfl⟩ : ∃ (b : Fin 4) (r : Fin 256) (j : Fin 256), i = ix3 b r j := ⟨i 0, i 1, i 2, eq_ix3 i⟩
    exact ⟨⟨b.val, b.isLt⟩, flush0_3 _, emb3 ⟨b.val, b.isLt⟩ r j ▸ ((cfg0.win 3).blk ⟨b.val, b.isLt⟩).view.emb_mem_set (ix3 0 r j)⟩

/-- After the run, the array of the values is the reference's. -/
theorem final4 (c : Dev nD) : (dats m 0 c).arrAt 4 cfg0.N
    = val_main_v17 (F := Ideal) (m ((c : Thread nD τ).loc main_arg0)) (m ((c : Thread nD τ).loc main_arg1)) (m ((c : Thread nD τ).loc main_arg2)) := by
  refine (dats m 0 c).arrAt_eq_of_cover 4 _ (fun t _ => funext fun i => ?_) fun i => ?_
  · obtain ⟨r, j, rfl⟩ := block_ix i
    rw [flushed4]
    show out0_4 (iblk m c 0 t) (iblk m c 1 t) (iblk m c 2 t) (ix3 0 r j) = val_main_v17 (F := Ideal) _ _ _ (((cfg0.win 4).blk t).view.emb (ix3 0 r j))
    rw [emb4, ref17_apply]
    unfold out0_4
    rw [View.canon_unit_zero hz3, View.ld_unit_zero hz3, View.ld_unit_zero hz, View.ld_unit_zero hz, pay3_apply]
    exact proj_block m c t r _
  · obtain ⟨b, r, j, rfl⟩ : ∃ (b : Fin 4) (r : Fin 256) (j : Fin 256), i = ix3 b r j := ⟨i 0, i 1, i 2, eq_ix3 i⟩
    exact ⟨⟨b.val, b.isLt⟩, flush0_4 _, emb4 ⟨b.val, b.isLt⟩ r j ▸ ((cfg0.win 4).blk ⟨b.val, b.isLt⟩).view.emb_mem_set (ix3 0 r j)⟩

/-! ## The claim -/

/-- The kernel's run and the reference's end with the same two result arrays, from memories that agree on the arguments. -/
theorem algebraic : Cert.algebraic_MemKvIdeal_MemKvRefIdeal := by
  intro m ρ m' ρ' _ hag
  refine ⟨fun c => val_main_v16 (F := Ideal) (m ((c : Thread nD τ).loc main_arg0)) (m ((c : Thread nD τ).loc main_arg1)) (m ((c : Thread nD τ).loc main_arg2)),
    fun c => val_main_v17 (F := Ideal) (m ((c : Thread nD τ).loc main_arg0)) (m ((c : Thread nD τ).loc main_arg1)) (m ((c : Thread nD τ).loc main_arg2)),
    (θ_run Cert.MemKvIdeal.defs _ _).mono (fun r h c => ?_) (run_blocks m ρ), (θ_run Cert.MemKvRefIdeal.defs _ _).mono (fun r h c => ?_) (Cert.MemKvRefIdeal.Value.run m' ρ')⟩
  · obtain ⟨h3, h4, ha⟩ := h c
    exact ⟨h3.trans (final3 m c), h4.trans (final4 m c), ha⟩
  · obtain ⟨h3, h4, ha⟩ := h c
    obtain ⟨e0, e1, e2⟩ := hag c
    rw [val_main_v16_eq, e0, e1, e2] at h3
    rw [val_main_v17_eq, e0, e1, e2] at h4
    exact ⟨h3, h4, ha⟩

end Cert.Proof.MemKv

end
-- ==== Proof.Merge.Frame.lean ====
/-
  The frame of the kernel that merges the three branches, over any float operations: what the body leaves in the
  blocks of its three results at each grid point, the body's obligation there, and the run of the pipeline. The
  eight strided pieces of the second result's block cover it: the place 8r + k lies in piece k, at row r.
-/
module

public import proofs.«01_k».proof.Proof.Gen.MergeIdeal.Frame
public import proofs.«01_k».proof.Proof.Gen.MergeIdeal.Skeleton
public import Idealize.ShloMosaic.Lib.Claim

@[expose] public section

set_option maxRecDepth 16384
set_option maxHeartbeats 2000000

noncomputable section

namespace Merge

open Idealize.ShloMosaic Idealize.ShloMosaic.TcCoe Idealize.ShloMosaic.Tactic
open Cert.MergeIdeal Cert.MergeIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1x256x3072 := Rect.unit (s := S1x256x3072) ![0, 0, 0] S1x256x3072.size inb_S1x256x3072_S1x256x3072_0_0_0
abbrev r0_1 : Rect S1x256x384 := Rect.unit (s := S1x256x384) ![0, 0, 0] S1x256x384.size inb_S1x256x384_S1x256x384_0_0_0
abbrev r0_2 : Rect S384x384 := Rect.unit (s := S384x384) ![0, 0] S384x384.size inb_S384x384_S384x384_0_0
abbrev r0_3 : Rect S1x256x256 := Rect.unit (s := S1x256x256) ![0, 0, 0] S1x256x256.size inb_S1x256x256_S1x256x256_0_0_0
abbrev r0_4 : Rect S1x256x128 := Rect.unit (s := S1x256x128) ![0, 0, 0] S1x256x128.size inb_S1x256x128_S1x256x128_0_0_0
abbrev r0_5 : Rect S128x384 := Rect.unit (s := S128x384) ![0, 0] S128x384.size inb_S128x384_S128x384_0_0
abbrev r0_6 : Rect S384x1024 := Rect.unit (s := S384x1024) ![0, 0] S384x1024.size inb_S384x1024_S384x1024_0_0
abbrev r0_7 : Rect S1x384 := Rect.unit (s := S1x384) ![0, 0] S1x384.size inb_S1x384_S1x384_0_0
abbrev r0_8 : Rect S256x1024 := Rect.unit (s := S256x1024) ![0, 0] S256x1024.size inb_S256x1024_S256x1024_0_0
abbrev r0_9 : Rect S1x256x1024 := Rect.unit (s := S1x256x1024) ![0, 0, 0] S1x256x1024.size inb_S1x256x1024_S1x256x1024_0_0_0
abbrev r0_10 : Rect S1024x1024 := Rect.unit (s := S1024x1024) ![0, 0] S1024x1024.size inb_S1024x1024_S1024x1024_0_0
abbrev r0_11 : Rect S1x1024 := Rect.unit (s := S1x1024) ![0, 0] S1x1024.size inb_S1x1024_S1x1024_0_0
abbrev r0_12 : Rect S1x2048x128 := ⟨(⟨![0, 0, 0], S1x256x128.size, ![1, 8, 1], inb_S1x2048x128_S1x256x128_0_0_0_s_1_8_1⟩ : LoadRect S1x2048x128), spos_1_8_1⟩
abbrev r0_13 : Rect S1x2048x128 := ⟨(⟨![0, 1, 0], S1x256x128.size, ![1, 8, 1], inb_S1x2048x128_S1x256x128_0_1_0_s_1_8_1⟩ : LoadRect S1x2048x128), spos_1_8_1⟩
abbrev r0_14 : Rect S1x2048x128 := ⟨(⟨![0, 2, 0], S1x256x128.size, ![1, 8, 1], inb_S1x2048x128_S1x256x128_0_2_0_s_1_8_1⟩ : LoadRect S1x2048x128), spos_1_8_1⟩
abbrev r0_15 : Rect S1x2048x128 := ⟨(⟨![0, 3, 0], S1x256x128.size, ![1, 8, 1], inb_S1x2048x128_S1x256x128_0_3_0_s_1_8_1⟩ : LoadRect S1x2048x128), spos_1_8_1⟩
abbrev r0_16 : Rect S1x2048x128 := ⟨(⟨![0, 4, 0], S1x256x128.size, ![1, 8, 1], inb_S1x2048x128_S1x256x128_0_4_0_s_1_8_1⟩ : LoadRect S1x2048x128), spos_1_8_1⟩
abbrev r0_17 : Rect S1x2048x128 := ⟨(⟨![0, 5, 0], S1x256x128.size, ![1, 8, 1], inb_S1x2048x128_S1x256x128_0_5_0_s_1_8_1⟩ : LoadRect S1x2048x128), spos_1_8_1⟩
abbrev r0_18 : Rect S1x2048x128 := ⟨(⟨![0, 6, 0], S1x256x128.size, ![1, 8, 1], inb_S1x2048x128_S1x256x128_0_6_0_s_1_8_1⟩ : LoadRect S1x2048x128), spos_1_8_1⟩
abbrev r0_19 : Rect S1x2048x128 := ⟨(⟨![0, 7, 0], S1x256x128.size, ![1, 8, 1], inb_S1x2048x128_S1x256x128_0_7_0_s_1_8_1⟩ : LoadRect S1x2048x128), spos_1_8_1⟩
abbrev r0_20 : Rect S1024x128 := Rect.unit (s := S1024x128) ![0, 0] S1024x128.size inb_S1024x128_S1024x128_0_0
abbrev r0_21 : Rect S1x16x256 := Rect.unit (s := S1x16x256) ![0, 0, 0] S1x16x256.size inb_S1x16x256_S1x16x256_0_0_0

/-! ## What the body leaves in each output window's buffer -/

/-! ### Values the body uses more than once

    Each is a vector the body binds, as a function of the blocks of the operands. -/

def vMask (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : IVec S256x128 1 :=
  k0_pay2
def vGates (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x3072 .bf16 :=
  k0_pay3 (View.ld x10 r0_0)
def vSum (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x384 .f32 :=
  k0_pay4 (View.ld x2 r0_1) (View.ld x3 r0_1)
def vMean (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x384 .f32 :=
  k0_pay6 (View.ld x2 r0_1) (View.ld x3 r0_1) (View.ld x14 r0_2)
def vMv (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x256 .bf16 :=
  k0_pay9 (View.ld x9 r0_3)
def vScore (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S512x256 .f32 :=
  k0_pay10 (View.ld x7 r0_3) (View.ld x8 r0_3)
def vZero (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x1024 .f32 :=
  constant S256x1024 .f32 0x00000000#32
def vMem (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x256 .f32 :=
  k0_pay21 (vMask x0 x1 x2 x3 x4 x5 x6 x7 x8 x9 x10 x11 x12 x13 x14 x15 x16 x17 x18 x19 x20 x21) (vMv x0 x1 x2 x3 x4 x5 x6 x7 x8 x9 x10 x11 x12 x13 x14 x15 x16 x17 x18 x19 x20 x21) (k0_pay18 (vScore x0 x1 x2 x3 x4 x5 x6 x7 x8 x9 x10 x11 x12 x13 x14 x15 x16 x17 x18 x19 x20 x21)) (k0_pay19 (vMask x0 x1 x2 x3 x4 x5 x6 x7 x8 x9 x10 x11 x12 x13 x14 x15 x16 x17 x18 x19 x20 x21) (k0_pay8 (View.ld x8 r0_3)) (k0_pay11 (View.ld x7 r0_3)) (k0_pay12 (F := F)) (k0_pay13 (View.ld x7 r0_3))) (k0_pay20 (vMv x0 x1 x2 x3 x4 x5 x6 x7 x8 x9 x10 x11 x12 x13 x14 x15 x16 x17 x18 x19 x20 x21) (vScore x0 x1 x2 x3 x4 x5 x6 x7 x8 x9 x10 x11 x12 x13 x14 x15 x16 x17 x18 x19 x20 x21))
def vNa (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x1024 .f32 :=
  k0_pay22 (vGates x0 x1 x2 x3 x4 x5 x6 x7 x8 x9 x10 x11 x12 x13 x14 x15 x16 x17 x18 x19 x20 x21) (k0_pay15 (View.ld x1 r0_1) (View.ld x15 r0_6))
def vGate (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x1024 .bf16 :=
  k0_pay23 (vGates x0 x1 x2 x3 x4 x5 x6 x7 x8 x9 x10 x11 x12 x13 x14 x15 x16 x17 x18 x19 x20 x21)
def vRw (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x384 .bf16 :=
  k0_pay24 (k0_pay14 (View.ld x6 r0_4) (View.ld x13 r0_5)) (k0_pay16 (vSum x0 x1 x2 x3 x4 x5 x6 x7 x8 x9 x10 x11 x12 x13 x14 x15 x16 x17 x18 x19 x20 x21) (vMean x0 x1 x2 x3 x4 x5 x6 x7 x8 x9 x10 x11 x12 x13 x14 x15 x16 x17 x18 x19 x20 x21)) (k0_pay17 (vSum x0 x1 x2 x3 x4 x5 x6 x7 x8 x9 x10 x11 x12 x13 x14 x15 x16 x17 x18 x19 x20 x21) (k0_pay5 (View.ld x14 r0_2)) (vMean x0 x1 x2 x3 x4 x5 x6 x7 x8 x9 x10 x11 x12 x13 x14 x15 x16 x17 x18 x19 x20 x21)) (View.ld x11 r0_7) (View.ld x12 r0_7) (View.ld x4 r0_1) (View.ld x5 r0_1)
def vWrw (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S384x1024 .bf16 :=
  k0_pay25 (View.ld x16 r0_6)
def vH (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : FVec F S256x1024 .f32 :=
  k0_pay28 (vGates x0 x1 x2 x3 x4 x5 x6 x7 x8 x9 x10 x11 x12 x13 x14 x15 x16 x17 x18 x19 x20 x21) (vMem x0 x1 x2 x3 x4 x5 x6 x7 x8 x9 x10 x11 x12 x13 x14 x15 x16 x17 x18 x19 x20 x21) (vNa x0 x1 x2 x3 x4 x5 x6 x7 x8 x9 x10 x11 x12 x13 x14 x15 x16 x17 x18 x19 x20 x21) (vGate x0 x1 x2 x3 x4 x5 x6 x7 x8 x9 x10 x11 x12 x13 x14 x15 x16 x17 x18 x19 x20 x21) (vRw x0 x1 x2 x3 x4 x5 x6 x7 x8 x9 x10 x11 x12 x13 x14 x15 x16 x17 x18 x19 x20 x21) (vWrw x0 x1 x2 x3 x4 x5 x6 x7 x8 x9 x10 x11 x12 x13 x14 x15 x16 x17 x18 x19 x20 x21) (vZero x0 x1 x2 x3 x4 x5 x6 x7 x8 x9 x10 x11 x12 x13 x14 x15 x16 x17 x18 x19 x20 x21) (View.ld x17 r0_8) (View.ld x0 r0_9) (View.ld x18 r0_10) (View.ld x19 r0_11)

/-- The block of the residual row after the body: one store fills it. -/
def out0_22 (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : Vec F S1x256x1024 .f32 :=
  View.canon [⟨r0_9, k0_pay27 (vGates x0 x1 x2 x3 x4 x5 x6 x7 x8 x9 x10 x11 x12 x13 x14 x15 x16 x17 x18 x19 x20 x21) (vMem x0 x1 x2 x3 x4 x5 x6 x7 x8 x9 x10 x11 x12 x13 x14 x15 x16 x17 x18 x19 x20 x21) (vNa x0 x1 x2 x3 x4 x5 x6 x7 x8 x9 x10 x11 x12 x13 x14 x15 x16 x17 x18 x19 x20 x21) (vGate x0 x1 x2 x3 x4 x5 x6 x7 x8 x9 x10 x11 x12 x13 x14 x15 x16 x17 x18 x19 x20 x21) (vRw x0 x1 x2 x3 x4 x5 x6 x7 x8 x9 x10 x11 x12 x13 x14 x15 x16 x17 x18 x19 x20 x21) (vWrw x0 x1 x2 x3 x4 x5 x6 x7 x8 x9 x10 x11 x12 x13 x14 x15 x16 x17 x18 x19 x20 x21) (vZero x0 x1 x2 x3 x4 x5 x6 x7 x8 x9 x10 x11 x12 x13 x14 x15 x16 x17 x18 x19 x20 x21) (View.ld x17 r0_8) (View.ld x0 r0_9) (View.ld x18 r0_10)⟩]

/-- That store covers the block. -/
theorem cover0_22 (p0 : Vec F S1x256x1024 .f32) (y : S1x256x1024.Idx) :
    ∃ pc ∈ ([⟨r0_9, p0⟩] : List (View.Piece (Elt F) S1x256x1024 .f32)), y ∈ pc.1.set :=
  View.cover_of_tiled [⟨r0_9, p0⟩] S1x256x1024.size (by rfl) y

/-- The block of the normed rows after the body: eight strided stores fill it, the last of them written first here. -/
def out0_23 (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : Vec F S1x2048x128 .f32 :=
  View.canon [⟨r0_19, k0_pay36 (vH x0 x1 x2 x3 x4 x5 x6 x7 x8 x9 x10 x11 x12 x13 x14 x15 x16 x17 x18 x19 x20 x21)⟩,
    ⟨r0_18, k0_pay35 (vH x0 x1 x2 x3 x4 x5 x6 x7 x8 x9 x10 x11 x12 x13 x14 x15 x16 x17 x18 x19 x20 x21)⟩,
    ⟨r0_17, k0_pay34 (vH x0 x1 x2 x3 x4 x5 x6 x7 x8 x9 x10 x11 x12 x13 x14 x15 x16 x17 x18 x19 x20 x21)⟩,
    ⟨r0_16, k0_pay33 (vH x0 x1 x2 x3 x4 x5 x6 x7 x8 x9 x10 x11 x12 x13 x14 x15 x16 x17 x18 x19 x20 x21)⟩,
    ⟨r0_15, k0_pay32 (vH x0 x1 x2 x3 x4 x5 x6 x7 x8 x9 x10 x11 x12 x13 x14 x15 x16 x17 x18 x19 x20 x21)⟩,
    ⟨r0_14, k0_pay31 (vH x0 x1 x2 x3 x4 x5 x6 x7 x8 x9 x10 x11 x12 x13 x14 x15 x16 x17 x18 x19 x20 x21)⟩,
    ⟨r0_13, k0_pay30 (vH x0 x1 x2 x3 x4 x5 x6 x7 x8 x9 x10 x11 x12 x13 x14 x15 x16 x17 x18 x19 x20 x21)⟩,
    ⟨r0_12, k0_pay29 (vGates x0 x1 x2 x3 x4 x5 x6 x7 x8 x9 x10 x11 x12 x13 x14 x15 x16 x17 x18 x19 x20 x21) (vMem x0 x1 x2 x3 x4 x5 x6 x7 x8 x9 x10 x11 x12 x13 x14 x15 x16 x17 x18 x19 x20 x21) (vNa x0 x1 x2 x3 x4 x5 x6 x7 x8 x9 x10 x11 x12 x13 x14 x15 x16 x17 x18 x19 x20 x21) (vGate x0 x1 x2 x3 x4 x5 x6 x7 x8 x9 x10 x11 x12 x13 x14 x15 x16 x17 x18 x19 x20 x21) (vRw x0 x1 x2 x3 x4 x5 x6 x7 x8 x9 x10 x11 x12 x13 x14 x15 x16 x17 x18 x19 x20 x21) (vWrw x0 x1 x2 x3 x4 x5 x6 x7 x8 x9 x10 x11 x12 x13 x14 x15 x16 x17 x18 x19 x20 x21) (vZero x0 x1 x2 x3 x4 x5 x6 x7 x8 x9 x10 x11 x12 x13 x14 x15 x16 x17 x18 x19 x20 x21) (View.ld x17 r0_8) (View.ld x0 r0_9) (View.ld x18 r0_10) (View.ld x19 r0_11)⟩]

/-- The strided piece from place `k` holds the places that leave `k` modulo 8. -/
theorem strided_mem (k : ℕ)
    (h : ∀ a, S1x256x128.size a = 0 ∨ (![0, k, 0] : Fin 3 → Nat) a + (![1, 8, 1] : Fin 3 → Nat) a * (S1x256x128.size a - 1) < S1x2048x128.size a)
    (hp : ∀ a, 0 < (![1, 8, 1] : Fin 3 → Nat) a) (y : S1x2048x128.Idx) (hk : (y 1).val % 8 = k) :
    y ∈ (⟨⟨![0, k, 0], S1x256x128.size, ![1, 8, 1], h⟩, hp⟩ : Rect S1x2048x128).set := by
  have y0 : (y 0).val < 1 := (y 0).isLt
  have y1 : (y 1).val < 2048 := (y 1).isLt
  have y2 : (y 2).val < 128 := (y 2).isLt
  refine (LoadRect.mem_set _).2 fun a => ?_
  match a with
  | ⟨0, _⟩ => exact ⟨0, Nat.one_pos, show (y 0).val = 0 + 1 * 0 by omega⟩
  | ⟨1, _⟩ => exact ⟨(y 1).val / 8, show (y 1).val / 8 < 256 by omega, show (y 1).val = k + 8 * ((y 1).val / 8) by omega⟩
  | ⟨2, _⟩ => exact ⟨(y 2).val, y2, show (y 2).val = 0 + 1 * (y 2).val by omega⟩

/-- The eight strided pieces cover the block: a place lies in the piece of its remainder modulo 8. -/
theorem cover0_23 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (y : S1x2048x128.Idx) :
    ∃ pc ∈ ([⟨r0_19, p0⟩, ⟨r0_18, p1⟩, ⟨r0_17, p2⟩, ⟨r0_16, p3⟩, ⟨r0_15, p4⟩, ⟨r0_14, p5⟩, ⟨r0_13, p6⟩, ⟨r0_12, p7⟩] : List (View.Piece (Elt F) S1x2048x128 .f32)), y ∈ pc.1.set := by
  have hy : (y 1).val < 2048 := (y 1).isLt
  rcases (by omega : (y 1).val % 8 = 7 ∨ (y 1).val % 8 = 6 ∨ (y 1).val % 8 = 5 ∨ (y 1).val % 8 = 4 ∨ (y 1).val % 8 = 3
    ∨ (y 1).val % 8 = 2 ∨ (y 1).val % 8 = 1 ∨ (y 1).val % 8 = 0) with h | h | h | h | h | h | h | h
  · exact ⟨_, .head _, strided_mem 7 inb_S1x2048x128_S1x256x128_0_7_0_s_1_8_1 spos_1_8_1 y h⟩
  · exact ⟨_, .tail _ (.head _), strided_mem 6 inb_S1x2048x128_S1x256x128_0_6_0_s_1_8_1 spos_1_8_1 y h⟩
  · exact ⟨_, .tail _ (.tail _ (.head _)), strided_mem 5 inb_S1x2048x128_S1x256x128_0_5_0_s_1_8_1 spos_1_8_1 y h⟩
  · exact ⟨_, .tail _ (.tail _ (.tail _ (.head _))), strided_mem 4 inb_S1x2048x128_S1x256x128_0_4_0_s_1_8_1 spos_1_8_1 y h⟩
  · exact ⟨_, .tail _ (.tail _ (.tail _ (.tail _ (.head _)))), strided_mem 3 inb_S1x2048x128_S1x256x128_0_3_0_s_1_8_1 spos_1_8_1 y h⟩
  · exact ⟨_, .tail _ (.tail _ (.tail _ (.tail _ (.tail _ (.head _))))), strided_mem 2 inb_S1x2048x128_S1x256x128_0_2_0_s_1_8_1 spos_1_8_1 y h⟩
  · exact ⟨_, .tail _ (.tail _ (.tail _ (.tail _ (.tail _ (.tail _ (.head _)))))), strided_mem 1 inb_S1x2048x128_S1x256x128_0_1_0_s_1_8_1 spos_1_8_1 y h⟩
  · exact ⟨_, .tail _ (.tail _ (.tail _ (.tail _ (.tail _ (.tail _ (.tail _ (.head _))))))), strided_mem 0 inb_S1x2048x128_S1x256x128_0_0_0_s_1_8_1 spos_1_8_1 y h⟩

/-- The block of the router's probabilities after the body: one store fills it. -/
def out0_24 (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) : Vec F S1x16x256 .f32 :=
  View.canon [⟨r0_21, k0_pay1 (iota .tc S256x128 32 [1] iota_S256x128_d1_w32) (k0_pay37 (vH x0 x1 x2 x3 x4 x5 x6 x7 x8 x9 x10 x11 x12 x13 x14 x15 x16 x17 x18 x19 x20 x21)) (k0_pay38 (vH x0 x1 x2 x3 x4 x5 x6 x7 x8 x9 x10 x11 x12 x13 x14 x15 x16 x17 x18 x19 x20 x21)) (View.ld x20 r0_20) (View.ld x21 r0_20)⟩]

/-- That store covers the block. -/
theorem cover0_24 (p0 : Vec F S1x16x256 .f32) (y : S1x16x256.Idx) :
    ∃ pc ∈ ([⟨r0_21, p0⟩] : List (View.Piece (Elt F) S1x16x256 .f32)), y ∈ pc.1.set :=
  View.cover_of_tiled [⟨r0_21, p0⟩] S1x16x256.size (by rfl) y

/-! ## The body's triple -/

set_option maxHeartbeats 1000000 in
/-- From buffers that hold the blocks of the operands, and result buffers that hold anything, the body runs to its end, keeps the
    operands and leaves in each result's buffer the value stated above. -/
theorem sound_kernel (c : Dev nD) (E : Set ℕ) (i : grid0.Coords) (arg2 : Memref sig .tc .vmem S1x256x1024 .f32) (harg2 : arg2.IsWhole) (arg3 : Memref sig .tc .vmem S1x256x384 .bf16) (harg3 : arg3.IsWhole) (arg4 : Memref sig .tc .vmem S1x256x384 .f32) (harg4 : arg4.IsWhole) (arg5 : Memref sig .tc .vmem S1x256x384 .f32) (harg5 : arg5.IsWhole) (arg6 : Memref sig .tc .vmem S1x256x384 .f32) (harg6 : arg6.IsWhole) (arg7 : Memref sig .tc .vmem S1x256x384 .f32) (harg7 : arg7.IsWhole) (arg8 : Memref sig .tc .vmem S1x256x128 .f32) (harg8 : arg8.IsWhole) (arg9 : Memref sig .tc .vmem S1x256x256 .bf16) (harg9 : arg9.IsWhole) (arg10 : Memref sig .tc .vmem S1x256x256 .bf16) (harg10 : arg10.IsWhole) (arg11 : Memref sig .tc .vmem S1x256x256 .bf16) (harg11 : arg11.IsWhole) (arg12 : Memref sig .tc .vmem S1x256x3072 .bf16) (harg12 : arg12.IsWhole) (arg13 : Memref sig .tc .vmem S1x384 .f32) (harg13 : arg13.IsWhole) (arg14 : Memref sig .tc .vmem S1x384 .f32) (harg14 : arg14.IsWhole) (arg15 : Memref sig .tc .vmem S128x384 .bf16) (harg15 : arg15.IsWhole) (arg16 : Memref sig .tc .vmem S384x384 .bf16) (harg16 : arg16.IsWhole) (arg17 : Memref sig .tc .vmem S384x1024 .bf16) (harg17 : arg17.IsWhole) (arg18 : Memref sig .tc .vmem S384x1024 .bf16) (harg18 : arg18.IsWhole) (arg19 : Memref sig .tc .vmem S256x1024 .bf16) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1024x128 .bf16) (harg22 : arg22.IsWhole) (arg23 : Memref sig .tc .vmem S1024x128 .bf16) (harg23 : arg23.IsWhole) (arg24 : Memref sig .tc .vmem S1x256x1024 .f32) (harg24 : arg24.IsWhole) (arg25 : Memref sig .tc .vmem S1x2048x128 .f32) (harg25 : arg25.IsWhole) (arg26 : Memref sig .tc .vmem S1x16x256 .f32) (harg26 : arg26.IsWhole)
    (x0 : Vec F S1x256x1024 .f32) (x1 : Vec F S1x256x384 .bf16) (x2 : Vec F S1x256x384 .f32) (x3 : Vec F S1x256x384 .f32) (x4 : Vec F S1x256x384 .f32) (x5 : Vec F S1x256x384 .f32) (x6 : Vec F S1x256x128 .f32) (x7 : Vec F S1x256x256 .bf16) (x8 : Vec F S1x256x256 .bf16) (x9 : Vec F S1x256x256 .bf16) (x10 : Vec F S1x256x3072 .bf16) (x11 : Vec F S1x384 .f32) (x12 : Vec F S1x384 .f32) (x13 : Vec F S128x384 .bf16) (x14 : Vec F S384x384 .bf16) (x15 : Vec F S384x1024 .bf16) (x16 : Vec F S384x1024 .bf16) (x17 : Vec F S256x1024 .bf16) (x18 : Vec F S1024x1024 .bf16) (x19 : Vec F S1x1024 .f32) (x20 : Vec F S1024x128 .bf16) (x21 : Vec F S1024x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare (out0_22 x0 x1 x2 x3 x4 x5 x6 x7 x8 x9 x10 x11 x12 x13 x14 x15 x16 x17 x18 x19 x20 x21) ∗ owns (c : Thread nD τ) arg25 fullShare (out0_23 x0 x1 x2 x3 x4 x5 x6 x7 x8 x9 x10 x11 x12 x13 x14 x15 x16 x17 x18 x19 x20 x21) ∗ owns (c : Thread nD τ) arg26 fullShare (out0_24 x0 x1 x2 x3 x4 x5 x6 x7 x8 x9 x10 x11 x12 x13 x14 x15 x16 x17 x18 x19 x20 x21)) -∗ K ⟨⟩))
      ⊢ wp frame (wpE (defs₀ (F := F)) Variants.none c none) E (cc0__merge_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__merge_kernel_eq_skeleton]; unfold cc0__merge_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _ _ _ _ _ _ _ _)).trans ?_
    rfl
  iexists _; isplitr
  swap; · iexact H24
  ipureintro
  refine (View.read_writes_eq_canon _ _ _ (cover0_24 _)).trans ?_
  rfl

/-! ## The pipeline's proof data -/

/-- What the pipeline holds on core `c`: the arrays as they are when it starts; after the body at point `t`, each operand's
    buffer at its block and each result's at its value of the operands' blocks; the scratch and the generator's register
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 25, h⟩ => absurd h (Nat.not_lt.2 (Nat.le_add_left _ _))
  Φ _ := Pipeline.ΦA spec0 c
  q _ := fullShare
  owed _ := 0

/-- The arrays are those that the host's operations before the pipeline left. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

/-- Each operand's current buffer holds its block at every point, whether it was fetched there or before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body meets its obligation at any point: the operands' buffers hold their blocks, so its triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body at point `t` of the pipeline is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- Every run of the whole program ends as the next theorem says, with every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every fair run of the program ends, each array of the pipeline at what its points leave in
    it, every other array as the host's operations left it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The frame: every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Merge

end
-- ==== Proof.Merge.Same.lean ====
/-
  The merge printed for the hardware's floats is the program printed for the extended reals when the named constant is read as
  the pattern it stands for, so its frame over any float operations holds of the former.
-/
module

public import proofs.«01_k».proof.Defs
public import proofs.«01_k».proof.Proof.Merge.Frame
public import proofs.«01_k».proof.Proof.Gen.Merge.Launch

@[expose] public section

set_option maxRecDepth 16384
set_option maxHeartbeats 2000000
set_option backward.isDefEq.respectTransparency.types false

namespace Merge

open Idealize.ShloMosaic

/-- A named constant read as its pattern. -/
@[reducible] def asPattern : Named Bits := ⟨fun _ _ {φ} b => Scalar.ofBits φ b⟩

/-- The two printed programs' bodies are the same. -/
theorem defs₀_eq : Cert.Merge.defs₀ (F := Bits) = @Cert.MergeIdeal.defs₀ Bits _ asPattern _ := by
  unfold Cert.Merge.defs₀ Cert.MergeIdeal.defs₀
  refine congrArg Defs.onTc ?_
  funext l x
  match l, x with
  | ⟨0, _⟩, (t, s) => rfl

/-- So are their bodies with the pipelines in them. -/
theorem defs_eq : Cert.Merge.defs (F := Bits) = @Cert.MergeIdeal.defs Bits _ asPattern _ := by
  unfold Cert.Merge.defs Cert.MergeIdeal.defs
  exact congrArg (Pipeline.defs Cert.MergeIdeal.pcfgs) defs₀_eq

/-- The frame of the program over the hardware's floats. -/
theorem bits_frame : Cert.quiescent_Merge := fun m ρ _ => by
  have h := @Merge.frame Bits _ asPattern m ρ
  rw [← defs_eq] at h
  exact h

end Merge

end
-- ==== Proof.Merge.Spec.lean ====
/- What the merge computes for one token, as a function of that token's operands, and which parts of it are real. -/
module

public import proofs.«01_k».proof.Proof.Attn.Soft

@[expose] public section

noncomputable section

namespace Merge

open Idealize.ShloMosaic Cert.Proof.Attn

/-- One token's operands: the residual row, the two directions' sum of the time mix and of its bonus, the group norm's gain and offset, the row of the gate's
    latent and the gate's second matrix, the memory's query, keys and values, the branch gates, the attention's row, the three branch matrices, the output
    matrix, the gain of the norm and the router's matrix. -/
structure Tok where
  x : Fin 1024 → EReal
  y : Fin 384 → EReal
  bon : Fin 384 → EReal
  lng : Fin 384 → EReal
  lnb : Fin 384 → EReal
  lat : Fin 128 → EReal
  g2 : Fin 128 → Fin 384 → EReal
  q : Fin 256 → EReal
  K : Fin 256 → Fin 256 → EReal
  V : Fin 256 → Fin 256 → EReal
  g : Fin 3072 → EReal
  yna : Fin 384 → EReal
  wna : Fin 384 → Fin 1024 → EReal
  wrw : Fin 384 → Fin 1024 → EReal
  wmem : Fin 256 → Fin 1024 → EReal
  wout : Fin 1024 → Fin 1024 → EReal
  gffn : Fin 1024 → EReal
  wr : Fin 1024 → Fin 16 → EReal

/-- Feature `j` of head `h`. -/
def col (h : Fin 6) (j : Fin 64) : Fin 384 := ⟨h.val * 64 + j.val, by omega⟩

/-- The mean of the 64 features of head `h`. -/
def headMean (f : Fin 384 → EReal) (h : Fin 6) : EReal := Ideal.div (∑ j : Fin 64, f (col h j)) (Ideal.ofBits .f32 0x42800000#32)

/-- The mean of the 64 features of the head that feature `c` is in. -/
def mean (f : Fin 384 → EReal) (c : Fin 384) : EReal := headMean f ⟨c.val / 64, by omega⟩

/-- A feature of head `h` is in head `h`. -/
theorem mean_col (f : Fin 384 → EReal) (h : Fin 6) (j : Fin 64) : mean f (col h j) = headMean f h :=
  congrArg (headMean f) (Fin.ext (by show (h.val * 64 + j.val) / 64 = h.val; omega))

/-- The logistic function. -/
def sigma (s : EReal) : EReal := Ideal.div 1 (1 + Ideal.exp (-s))

/-- A softmax weight. -/
def weight {n : ℕ} (s : Fin n → EReal) (c : Fin n) : EReal := Ideal.div (Ideal.exp (s c - top s)) (∑ c, Ideal.exp (s c - top s))

namespace Tok

/-- The time mix less its head's mean. -/
def cen (T : Tok) (c : Fin 384) : EReal := T.y c - mean T.y c

/-- The head's variance. -/
def var (T : Tok) (c : Fin 384) : EReal := mean (fun c => T.cen c * T.cen c) c

/-- The time mix, normed by head, with the bonus, times its gate. -/
def yrw (T : Tok) (c : Fin 384) : EReal :=
  (T.cen c * Ideal.rsqrt (T.var c + Ideal.ofBits .f32 0x3A27C5AC#32) * T.lng c + T.lnb c + T.bon c) * ∑ k : Fin 128, sigma (T.lat k) * T.g2 k c

/-- The score of memory slot `m` in head `h`. -/
def score (T : Tok) (h : Fin 4) (m : Fin 256) : EReal :=
  ∑ d : Fin 64, T.q ⟨64 * h.val + d.val, by omega⟩ * Ideal.ofBits .f32 0x3E000000#32 * T.K m ⟨64 * h.val + d.val, by omega⟩

/-- Feature `c` read from the memory. -/
def mem (T : Tok) (c : Fin 256) : EReal := ∑ m : Fin 256, weight (T.score ⟨c.val / 64, by omega⟩) m * T.V m c

/-- The three branches, gated and added. -/
def merged (T : Tok) (d : Fin 1024) : EReal :=
  T.g ⟨d.val, by omega⟩ * (∑ c : Fin 384, T.yna c * T.wna c d) + T.g ⟨1024 + d.val, by omega⟩ * (∑ c : Fin 384, T.yrw c * T.wrw c d)
    + T.g ⟨2048 + d.val, by omega⟩ * (∑ c : Fin 256, T.mem c * T.wmem c d)

/-- The residual row after the merge. -/
def x1 (T : Tok) (d : Fin 1024) : EReal := T.x d + ∑ k : Fin 1024, T.merged k * T.wout k d

/-- That row over the root of its mean square, times the gain. -/
def h2 (T : Tok) (d : Fin 1024) : EReal :=
  T.x1 d * Ideal.rsqrt (Ideal.div (∑ k : Fin 1024, T.x1 k * T.x1 k) (Ideal.ofBits .f32 0x44800000#32) + Ideal.ofBits .f32 0x358637BD#32) * T.gffn d

/-- The router's score of expert `e`. -/
def logit (T : Tok) (e : Fin 16) : EReal := ∑ k : Fin 1024, T.h2 k * T.wr k e

/-- The memory's query and keys, the gain of the norm and the router's matrix are real numbers. -/
structure Real (T : Tok) : Prop where
  q : ∀ c, ∃ r : ℝ, T.q c = r
  K : ∀ m c, ∃ r : ℝ, T.K m c = r
  gffn : ∀ c, ∃ r : ℝ, T.gffn c = r
  wr : ∀ k c, ∃ r : ℝ, T.wr k c = r

end Tok

/-! ## Real numbers are kept -/

/-- A product of two reals. -/
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A finite sum of reals. -/
theorem real_sum {n : ℕ} {f : Fin n → EReal} (h : ∀ i, ∃ r : ℝ, f i = r) : ∃ r : ℝ, ∑ i, f i = r := by
  choose g hg using h
  exact ⟨∑ i, g i, by simp only [hg]; exact coe_sum_real _ _⟩

/-- A real over a real that is not zero. -/
theorem real_div {a b : EReal} (ha : ∃ r : ℝ, a = r) (hb : ∃ r : ℝ, r ≠ 0 ∧ b = r) : ∃ r : ℝ, Ideal.div a b = r := by
  obtain ⟨r, rfl⟩ := ha
  obtain ⟨s, hs, rfl⟩ := hb
  refine ⟨r * s⁻¹, ?_⟩
  unfold Ideal.div
  rw [if_neg (by exact_mod_cast hs), ← EReal.coe_inv, EReal.coe_mul]

/-- The reciprocal root of a positive real. -/
theorem real_rsqrt {a : EReal} (ha : ∃ r : ℝ, 0 < r ∧ a = r) : ∃ r : ℝ, Ideal.rsqrt a = r := by
  obtain ⟨r, hr, rfl⟩ := ha
  refine ⟨(Real.sqrt r)⁻¹, ?_⟩
  show (if r < 0 then (⊥ : EReal) else if r = 0 then ⊤ else ((Real.sqrt r)⁻¹ : ℝ)) = _
  rw [if_neg hr.le.not_gt, if_neg hr.ne']

/-- The pattern of 64. -/
theorem bits_64 : Ideal.ofBits .f32 0x42800000#32 = ((64 : ℝ) : EReal) := by
  simp only [Ideal.ofBits, Ideal.ieee]
  rw [show BitVec.extractLsb' 31 1 0x42800000#32 = 0#1 from rfl, show BitVec.extractLsb' 23 8 0x42800000#32 = 133#8 from rfl, show BitVec.extractLsb' 0 23 0x42800000#32 = 0#23 from rfl]
  norm_num

/-- The pattern of 1024. -/
theorem bits_1024 : Ideal.ofBits .f32 0x44800000#32 = ((1024 : ℝ) : EReal) := by
  simp only [Ideal.ofBits, Ideal.ieee]
  rw [show BitVec.extractLsb' 31 1 0x44800000#32 = 0#1 from rfl, show BitVec.extractLsb' 23 8 0x44800000#32 = 137#8 from rfl, show BitVec.extractLsb' 0 23 0x44800000#32 = 0#23 from rfl]
  norm_num

/-- The pattern of an eighth. -/
theorem bits_eighth : Ideal.ofBits .f32 0x3E000000#32 = ((1 / 8 : ℝ) : EReal) := by
  simp only [Ideal.ofBits, Ideal.ieee]
  rw [show BitVec.extractLsb' 31 1 0x3E000000#32 = 0#1 from rfl, show BitVec.extractLsb' 23 8 0x3E000000#32 = 124#8 from rfl, show BitVec.extractLsb' 0 23 0x3E000000#32 = 0#23 from rfl]
  norm_num

/-- The pattern of an eighth in sixteen bits. -/
theorem bits_eighth16 : Ideal.ofBits .bf16 0x3E00#16 = ((1 / 8 : ℝ) : EReal) := by
  simp only [Ideal.ofBits, Ideal.ieee]
  rw [show BitVec.extractLsb' 15 1 0x3E00#16 = 0#1 from rfl, show BitVec.extractLsb' 7 8 0x3E00#16 = 124#8 from rfl, show BitVec.extractLsb' 0 7 0x3E00#16 = 0#7 from rfl]
  norm_num

/-- The row norm's small constant is positive. -/
theorem bits_eps2 : ∃ r : ℝ, 0 < r ∧ Ideal.ofBits .f32 0x358637BD#32 = ((r : ℝ) : EReal) := by
  simp only [Ideal.ofBits, Ideal.ieee]
  rw [show BitVec.extractLsb' 31 1 0x358637BD#32 = 0#1 from rfl, show BitVec.extractLsb' 23 8 0x358637BD#32 = 107#8 from rfl, show BitVec.extractLsb' 0 23 0x358637BD#32 = 407485#23 from rfl]
  norm_num

/-- The mean square of reals, with a positive constant added, is a positive real. -/
theorem real_square {n : ℕ} {f : Fin n → EReal} (h : ∀ i, ∃ r : ℝ, f i = r) {D e : EReal} (hD : ∃ r : ℝ, 0 < r ∧ D = r) (he : ∃ r : ℝ, 0 < r ∧ e = r) :
    ∃ r : ℝ, 0 < r ∧ Ideal.div (∑ i, f i * f i) D + e = r := by
  choose g hg using h
  obtain ⟨s, hs, rfl⟩ := hD
  obtain ⟨u, hu, rfl⟩ := he
  refine ⟨(∑ i, g i * g i) * s⁻¹ + u, add_pos_of_nonneg_of_pos (mul_nonneg (Finset.sum_nonneg fun i _ => mul_self_nonneg _) (inv_nonneg.2 hs.le)) hu, ?_⟩
  simp only [hg, ← EReal.coe_mul]
  unfold Ideal.div
  rw [if_neg (by exact_mod_cast hs.ne'), coe_sum_real, ← EReal.coe_inv, ← EReal.coe_mul, ← EReal.coe_add]

/-- A sum of squares of which one is of an infinite number is infinite. -/
theorem sum_square_top {n : ℕ} (f : Fin n → EReal) (k : Fin n) (hk : f k = ⊤ ∨ f k = ⊥) : ∑ i, f i * f i = ⊤ := by
  have h0 (i : Fin n) : 0 ≤ f i * f i := by
    rcases le_total 0 (f i) with h | h
    · exact mul_nonneg h h
    · rw [← neg_mul_neg]
      exact mul_nonneg (EReal.neg_nonneg.2 h) (EReal.neg_nonneg.2 h)
  have ek : f k * f k = ⊤ := by rcases hk with h | h <;> rw [h] <;> rfl
  exact top_le_iff.1 (ek ▸ Finset.single_le_sum (f := fun i => f i * f i) (fun i _ => h0 i) (Finset.mem_univ k))

/-- A row over the root of its mean square is real: where an entry is infinite the root is, and the quotient is zero. -/
theorem real_normed (f : Fin 1024 → EReal) (d : Fin 1024) :
    ∃ r : ℝ, f d * Ideal.rsqrt (Ideal.div (∑ k : Fin 1024, f k * f k) (Ideal.ofBits .f32 0x44800000#32) + Ideal.ofBits .f32 0x358637BD#32) = r := by
  by_cases h : ∀ i, ∃ r : ℝ, f i = r
  · exact real_mul (h d) (real_rsqrt (real_square h ⟨1024, by norm_num, bits_1024⟩ bits_eps2))
  · obtain ⟨k, hk⟩ := not_forall.1 h
    have hk' : f k = ⊤ ∨ f k = ⊥ := by
      induction e : f k using EReal.rec with
      | bot => exact .inr rfl
      | top => exact .inl rfl
      | coe r => exact absurd ⟨r, e⟩ hk
    obtain ⟨u, -, hu⟩ := bits_eps2
    rw [sum_square_top f k hk', bits_1024, hu]
    refine ⟨0, ?_⟩
    unfold Ideal.div
    rw [if_neg (by norm_num), ← EReal.coe_inv, EReal.top_mul_coe_of_pos (by norm_num), EReal.top_add_coe]
    show f d * (0 : EReal) = _
    rw [mul_zero, EReal.coe_zero]

namespace Tok

variable {T : Tok} (h : T.Real)
include h

/-- The memory's scores are real. -/
theorem score_real (a : Fin 4) (m : Fin 256) : ∃ r : ℝ, T.score a m = r :=
  real_sum fun _ => real_mul (real_mul (h.q _) ⟨_, bits_eighth⟩) (h.K _ _)

/-- The normed row is real, whatever the residual row is. -/
theorem h2_real (d : Fin 1024) : ∃ r : ℝ, T.h2 d = r := real_mul (real_normed T.x1 d) (h.gffn d)

/-- The router's scores are real. -/
theorem logit_real (e : Fin 16) : ∃ r : ℝ, T.logit e = r := real_sum fun k => real_mul (h2_real h k) (h.wr k e)

/-- The average over the memory, divided last, is the average divided first. -/
theorem mem_average (c : Fin 256) : average (T.score ⟨c.val / 64, by omega⟩) (fun m => T.V m c) = T.mem c := by
  choose t ht using fun m => score_real h ⟨c.val / 64, by omega⟩ m
  exact average_window _ _ id Function.injective_id (fun c hc => absurd ⟨c, rfl⟩ hc) t ht

end Tok

end Merge

end
-- ==== Proof.Merge.KMem.lean ====
/- The reading from the memory: what the body computes on two pairs of heads is the average of the values, head by head. -/
module

public import proofs.«01_k».proof.Proof.Merge.Spec
public import proofs.«01_k».proof.Proof.Gen.MergeIdeal.Skeleton
public import Idealize.ShloMosaic.Lib.Pointwise

@[expose] public section

set_option maxRecDepth 16384

noncomputable section

namespace Merge

open Cert.MergeIdeal Cert.MergeIdeal.Gen Idealize.ShloMosaic Idealize.ShloMosaic.TcCoe Cert.Proof.Attn

set_option maxHeartbeats 4000000 in
/-- Feature `c` of what the body reads from the memory for row `r`: the average of that feature of the values. -/
theorem pay21_apply (q k v : Vec Ideal S1x256x256 .bf16) (r : Fin 256) (h : Fin 4) (d : Fin 64) (c : Fin 256) (hc : c.val = 64 * h.val + d.val) :
    k0_pay21 k0_pay2 (k0_pay9 v) (k0_pay18 (k0_pay10 q k)) (k0_pay19 k0_pay2 (k0_pay8 k) (k0_pay11 q) k0_pay12 (k0_pay13 q)) (k0_pay20 (k0_pay9 v) (k0_pay10 q k)) (ix2 r c)
      = average (fun m => ∑ d : Fin 64, q (ix3 0 r ⟨64 * h.val + d.val, by omega⟩) * Ideal.ofBits .bf16 0x3E00#16 * k (ix3 0 m ⟨64 * h.val + d.val, by omega⟩))
          (fun m => v (ix3 0 m c)) := by
  have hd : d.val < 64 := d.isLt
  pointwise [k0_pay21, k0_pay2]
  fin_cases h <;> (
    simp only [Nat.reduceMul, Nat.zero_add] at hc
    simp (discharger := omega) only [dif_pos, dif_neg, lane_low, lane_high, select_one, select_zero]
    pointwise [k0_pay9, k0_pay18, k0_pay10, k0_pay19, k0_pay8, k0_pay11, k0_pay12, k0_pay13, k0_pay20, k0_pay7, k0_pay2]
    try simp (discharger := omega) only [dif_pos, dif_neg]
    simp only [lanes_lo, lanes_hi]
    try simp (discharger := omega) only [back_128, Fin.eta]
    simp only [average, top, hc, Fin.coe_ofNat_eq_mod, Nat.reduceMod, ← Nat.add_assoc, Nat.reduceAdd, Nat.reduceMul, Nat.zero_add])

end Merge

end
-- ==== Proof.Merge.KRow.lean ====
/- The body's values for one row, entry by entry: the time mix with its norm, the merged row, the norm of the row and the router's probabilities. -/
module

public import proofs.«01_k».proof.Proof.Merge.Spec
public import proofs.«01_k».proof.Proof.Gen.MergeIdeal.Skeleton
public import Idealize.ShloMosaic.Lib.Pointwise

@[expose] public section

set_option maxRecDepth 16384
set_option maxHeartbeats 2000000

noncomputable section

namespace Merge

open Cert.MergeIdeal Cert.MergeIdeal.Gen Idealize.ShloMosaic Idealize.ShloMosaic.TcCoe Cert.Proof.Attn

/-- The sum of a row's features times the entries of a matrix that is 1/64 within a head and zero elsewhere is the head's mean. -/
theorem sum_mask (f : Fin 384 → EReal) (w : Fin 384 → Fin 384 → EReal)
    (hw : ∀ k c, w k c = if k.val / 64 = c.val / 64 then Ideal.div 1 (Ideal.ofBits .f32 0x42800000#32) else 0) (c : Fin 384) : ∑ k, f k * w k c = mean f c := by
  have e : Ideal.div 1 (Ideal.ofBits .f32 0x42800000#32) = (((64 : ℝ)⁻¹ : ℝ) : EReal) := by
    rw [bits_64]; unfold Ideal.div
    rw [if_neg (by exact_mod_cast (by norm_num : (64 : ℝ) ≠ 0)), one_mul, EReal.coe_inv]
  unfold mean headMean
  rw [bits_64]; unfold Ideal.div
  rw [if_neg (by exact_mod_cast (by norm_num : (64 : ℝ) ≠ 0)), ← EReal.coe_inv, sum_mul_real _ _ _ (by norm_num)]
  refine (Fintype.sum_of_injective (col ⟨c.val / 64, by omega⟩) (fun a b h => Fin.ext ?_) _ _ (fun k hk => ?_) fun j => ?_).symm
  · have : c.val / 64 * 64 + a.val = c.val / 64 * 64 + b.val := congrArg Fin.val h
    omega
  · rw [hw, if_neg, mul_zero]
    intro hkc
    exact hk ⟨⟨k.val % 64, by omega⟩, Fin.ext (by show c.val / 64 * 64 + k.val % 64 = k.val; omega)⟩
  · rw [hw, if_pos (by show (c.val / 64 * 64 + j.val) / 64 = c.val / 64; omega), e]

/-- The sum of the two directions' time mix. -/
theorem pay4_apply (a b : Vec Ideal S1x256x384 .f32) (r : Fin 256) (c : Fin 384) : k0_pay4 a b (ix2 r c) = a (ix3 0 r c) + b (ix3 0 r c) := by
  pointwise [k0_pay4]

/-- The matrix product that stands for the mean of the time mix. -/
theorem pay6_apply (a b : Vec Ideal S1x256x384 .f32) (w : Vec Ideal S384x384 .bf16) (r : Fin 256) (c : Fin 384) :
    k0_pay6 a b w (ix2 r c) = ∑ k : Fin 384, (a (ix3 0 r k) + b (ix3 0 r k)) * w (ix2 k c) := by
  pointwise [k0_pay6, k0_pay4, k0_pay5]

/-- The matrix product that stands for the variance. -/
theorem pay17_apply (s m : FVec Ideal S256x384 .f32) (w : Vec Ideal S384x384 .bf16) (r : Fin 256) (c : Fin 384) :
    k0_pay17 s (k0_pay5 w) m (ix2 r c) = ∑ k : Fin 384, (s (ix2 r k) - m (ix2 r k)) * (s (ix2 r k) - m (ix2 r k)) * w (ix2 k c) := by
  pointwise [k0_pay17, k0_pay16, k0_pay5]

/-- The time mix's gate. -/
theorem pay14_apply (l : Vec Ideal S1x256x128 .f32) (w : Vec Ideal S128x384 .bf16) (r : Fin 256) (c : Fin 384) :
    k0_pay14 l w (ix2 r c) = ∑ k : Fin 128, sigma (l (ix3 0 r k)) * w (ix2 k c) := by
  pointwise [k0_pay14, zero_sub]
  rfl

/-- The normed and gated time mix from its parts. -/
theorem pay24_apply (g : FVec Ideal S256x384 .f32) (e v : FVec Ideal S256x384 .f32) (a b : Vec Ideal S1x384 .f32) (p q : Vec Ideal S1x256x384 .f32) (r : Fin 256) (c : Fin 384) :
    k0_pay24 g e v a b p q (ix2 r c)
      = (e (ix2 r c) * Ideal.rsqrt (v (ix2 r c) + Ideal.ofBits .f32 0x3A27C5AC#32) * a (ix2 0 c) + b (ix2 0 c) + (p (ix3 0 r c) + q (ix3 0 r c))) * g (ix2 r c) := by
  pointwise [k0_pay24]

/-- The centred time mix. -/
theorem pay16_apply (s m : FVec Ideal S256x384 .f32) (r : Fin 256) (c : Fin 384) : k0_pay16 s m (ix2 r c) = s (ix2 r c) - m (ix2 r c) := by
  pointwise [k0_pay16]

/-- The residual row after the merge from its parts. -/
theorem pay26_apply (g : Vec Ideal S1x256x3072 .bf16) (u : FVec Ideal S256x256 .f32) (y : Vec Ideal S1x256x384 .bf16) (wna : Vec Ideal S384x1024 .bf16) (z : FVec Ideal S256x384 .bf16)
    (wrw : Vec Ideal S384x1024 .bf16) (wm : Vec Ideal S256x1024 .bf16) (x : Vec Ideal S1x256x1024 .f32) (wo : Vec Ideal S1024x1024 .bf16) (r : Fin 256) (d : Fin 1024) :
    k0_pay26 (k0_pay3 g) u (k0_pay22 (k0_pay3 g) (k0_pay15 y wna)) (k0_pay23 (k0_pay3 g)) z (k0_pay25 wrw) (constant S256x1024 .f32 0x00000000#32) wm x wo (ix2 r d)
      = x (ix3 0 r d) + ∑ k : Fin 1024, (g (ix3 0 r ⟨k.val, by omega⟩) * (∑ c : Fin 384, y (ix3 0 r c) * wna (ix2 c k))
          + g (ix3 0 r ⟨1024 + k.val, by omega⟩) * (∑ c : Fin 384, z (ix2 r c) * wrw (ix2 c k))
          + g (ix3 0 r ⟨2048 + k.val, by omega⟩) * (∑ c : Fin 256, u (ix2 r c) * wm (ix2 c k))) * wo (ix2 k d) := by
  pointwise [k0_pay26, k0_pay3, k0_pay22, k0_pay15, k0_pay23, k0_pay25]

/-- The normed row from the row. -/
theorem pay28_apply (v4 : FVec Ideal S256x3072 .bf16) (v88 : FVec Ideal S256x256 .f32) (v110 : FVec Ideal S256x1024 .f32) (v111 : FVec Ideal S256x1024 .bf16) (v112 : FVec Ideal S256x384 .bf16)
    (v114 : FVec Ideal S384x1024 .bf16) (z : FVec Ideal S256x1024 .f32) (v121 : Vec Ideal S256x1024 .bf16) (v127 : Vec Ideal S1x256x1024 .f32) (v130 : Vec Ideal S1024x1024 .bf16)
    (v147 : Vec Ideal S1x1024 .f32) (r : Fin 256) (y : Fin 1024 → EReal) (hy : ∀ d, k0_pay26 v4 v88 v110 v111 v112 v114 z v121 v127 v130 (ix2 r d) = y d) (d : Fin 1024) :
    k0_pay28 v4 v88 v110 v111 v112 v114 z v121 v127 v130 v147 (ix2 r d)
      = y d * Ideal.rsqrt (Ideal.div (∑ k : Fin 1024, y k * y k) (Ideal.ofBits .f32 0x44800000#32) + Ideal.ofBits .f32 0x358637BD#32) * v147 (ix2 0 d) := by
  have e (p : FVec Ideal S256x1024 .f32) (hp : ∀ d, p (ix2 r d) = y d) :
      (mulf (mulf p (broadcastTo S256x1024 (rsqrt (addf (divf (shapeCast S256x1 (multiReduction .add [1] S256 (mulf p p) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
        (broadcastTo S256x1024 v147 broadcasts_S1x1024_S256x1024) : FVec Ideal S256x1024 .f32) (ix2 r d)
      = y d * Ideal.rsqrt (Ideal.div (∑ k : Fin 1024, y k * y k) (Ideal.ofBits .f32 0x44800000#32) + Ideal.ofBits .f32 0x358637BD#32) * v147 (ix2 0 d) := by
    pointwise [hp]
  exact e _ hy

/-- A lane below 16 is below 16 as a signed word. -/
theorem lane_expert (n : ℕ) (h : n < 16) : IntOp.cmpi CmpIPredicate.slt (BitVec.ofNat 32 n) 16#32 = 1#1 :=
  (by decide +kernel : ∀ n : Fin 16, IntOp.cmpi CmpIPredicate.slt (BitVec.ofNat 32 n.val) 16#32 = 1#1) ⟨n, h⟩

/-- A lane from 16 on is not below 16 as a signed word. -/
theorem lane_spare (n : ℕ) (h : 16 ≤ n ∧ n < 128) : IntOp.cmpi CmpIPredicate.slt (BitVec.ofNat 32 n) 16#32 = 0#1 := by
  obtain ⟨m, rfl⟩ := Nat.exists_eq_add_of_le h.1
  exact (by decide +kernel : ∀ n : Fin 112, IntOp.cmpi CmpIPredicate.slt (BitVec.ofNat 32 (16 + n.val)) 16#32 = 0#1) ⟨m, by omega⟩

/-- The router's scores on 128 lanes, those past the sixteenth masked. -/
def lanes (s : Fin 16 → EReal) (l : Fin 128) : EReal := if h : l.val < 16 then s ⟨l.val, h⟩ else ⊥

/-- The router's mask is read as minus infinity. -/
theorem mask_bot : (Named.named κ "mask" (F := Ideal) (φ := .f32) 0xF149F2CA#32 : EReal) = ⊥ := rfl

/-- The stored probabilities from the normed row, where the row's remainder and the matrix's remainder vanish. -/
theorem pay1_apply (hh : FVec Ideal S256x1024 .f32) (wh wl : Vec Ideal S1024x128 .bf16) (r : Fin 256) (y : Fin 1024 → EReal) (hy : ∀ d, hh (ix2 r d) = y d)
    (hz : ∀ d, y d - y d = 0) (w : Fin 1024 → Fin 16 → EReal) (hw : ∀ k l (h : l.val < 16), wh (ix2 k l) = w k ⟨l.val, h⟩) (hl : ∀ k l, wl (ix2 k l) = 0) (e : Fin 16) :
    k0_pay1 (iota .tc S256x128 32 [1] iota_S256x128_d1_w32) (k0_pay37 hh) (k0_pay38 hh) wh wl (ix3 0 e r)
      = weight (lanes fun e => ∑ k : Fin 1024, y k * w k e) ⟨e.val, by omega⟩ := by
  have es (l : Fin 128) : Scalar.select (IntOp.cmpi CmpIPredicate.slt (BitVec.ofNat 32 l.val) 16#32) (∑ k, y k * wh (ix2 k l)) (⊥ : EReal)
      = lanes (fun e => ∑ k : Fin 1024, y k * w k e) l := by
    unfold lanes
    by_cases h : l.val < 16
    · rw [lane_expert _ h, select_one, dif_pos h]
      exact Finset.sum_congr rfl fun k _ => by rw [hw k l h]
    · rw [lane_spare _ ⟨by omega, l.isLt⟩, select_zero, dif_neg h]
  pointwise [k0_pay1, k0_pay37, k0_pay38]
  pointwise [k0_pay37, k0_pay38, hy, hz, hl, zero_mul, mul_zero, add_zero, Finset.sum_const_zero]
  simp only [mask_bot, es]
  have e1 := es ⟨e.val, by omega⟩
  dsimp only at e1
  rw [e1]
  rfl

/-- The weights on the masked lanes are the weights of the scores. -/
theorem weight_lanes (s : Fin 16 → EReal) (t : Fin 16 → ℝ) (ht : ∀ e, s e = t e) (e : Fin 16) : weight (lanes s) ⟨e.val, by omega⟩ = weight s e := by
  let f : Fin 16 → Fin 128 := fun e => ⟨e.val, by omega⟩
  have hf : Function.Injective f := fun a b h => Fin.ext (show a.val = b.val from congrArg (fun x : Fin 128 => x.val) h)
  have hs (a : Fin 16) : lanes s (f a) = s a := by
    unfold lanes
    exact dif_pos a.isLt
  have hout : ∀ c, c ∉ Set.range f → lanes s c = ⊥ := fun c hc => by
    unfold lanes
    exact dif_neg fun h => hc ⟨⟨c.val, h⟩, rfl⟩
  obtain ⟨m, hm⟩ := top_real t
  have hm' : top s = (m : EReal) := by rw [show s = fun c => (t c : EReal) from funext ht]; exact hm
  have htop : top (lanes s) = top s := (top_window _ f hout).trans (congrArg top (funext hs))
  unfold weight
  rw [htop, show lanes s ⟨e.val, by omega⟩ = s e from hs e]
  refine congrArg _ (Fintype.sum_of_injective f hf _ _ (fun c hc => ?_) fun a => by rw [hs]).symm
  rw [hout c hc, hm', EReal.bot_sub]
  rfl

end Merge

end
-- ==== Proof.Merge.Block.lean ====
/- What the body leaves in the three results' blocks, entry by entry, from blocks that hold the operands of 256 tokens. -/
module

public import proofs.«01_k».proof.Proof.Merge.KMem
public import proofs.«01_k».proof.Proof.Merge.KRow
public import proofs.«01_k».proof.Proof.Merge.Frame

@[expose] public section

set_option maxRecDepth 16384
set_option maxHeartbeats 2000000

noncomputable section

namespace Merge

open Cert.MergeIdeal Cert.MergeIdeal.Gen Idealize.ShloMosaic Idealize.ShloMosaic.TcCoe Idealize.SL.Sem Cert.Proof.Attn

/-! ## The second result's block -/

/-- Row `8 * r + n` of the second result's block holds features `128 * n` to `128 * n + 127` of row `r`. -/
def tiles (Q : Fin 256 → Fin 1024 → EReal) : S1x2048x128.Idx → EReal := fun y =>
  Q ⟨(y 1).val / 8, by have h : (y 1).val < 2048 := (y 1).isLt; omega⟩
    ⟨128 * ((y 1).val % 8) + (y 2).val, by have h : (y 2).val < 128 := (y 2).isLt; omega⟩

/-- The block at the rows of the strided piece `k`. -/
theorem tiles_emb (Q : Fin 256 → Fin 1024 → EReal) (k : Nat) (hk : k < 8)
    (h : ∀ a, S1x256x128.size a = 0 ∨ (![0, k, 0] : Fin 3 → Nat) a + (![1, 8, 1] : Fin 3 → Nat) a * (S1x256x128.size a - 1) < S1x2048x128.size a)
    (hp : ∀ a, 0 < (![1, 8, 1] : Fin 3 → Nat) a) (r : Fin 256) (l : Fin 128) :
    tiles Q ((⟨⟨![0, k, 0], S1x256x128.size, ![1, 8, 1], h⟩, hp⟩ : Rect S1x2048x128).emb (ix3 0 r l)) = Q r ⟨128 * k + l.val, by omega⟩ := by
  refine congrArg₂ Q (Fin.ext ?_) (Fin.ext ?_)
  · show (k + 8 * r.val) / 8 = r.val; omega
  · show 128 * ((k + 8 * r.val) % 8) + (0 + 1 * l.val) = 128 * k + l.val; omega

/-- An index of a piece. -/
theorem piece_ix (x : S1x256x128.Idx) : ∃ (r : Fin 256) (l : Fin 128), x = ix3 0 r l := by
  refine ⟨x 1, x 2, funext fun a => Fin.ext ?_⟩
  have h0 : (x 0).val < 1 := (x 0).isLt
  match a with
  | ⟨0, _⟩ => show (x 0).val = 0; omega
  | ⟨1, _⟩ => rfl
  | ⟨2, _⟩ => rfl

/-- A 128-lane band of the normed rows. -/
theorem band_apply (hh : FVec Ideal S256x1024 .f32) (r : Fin 256) (l : Fin 128) :
    k0_pay30 hh (ix3 0 r l) = hh (ix2 r ⟨128 + l.val, by omega⟩)
      ∧ k0_pay31 hh (ix3 0 r l) = hh (ix2 r ⟨256 + l.val, by omega⟩)
      ∧ k0_pay32 hh (ix3 0 r l) = hh (ix2 r ⟨384 + l.val, by omega⟩)
      ∧ k0_pay33 hh (ix3 0 r l) = hh (ix2 r ⟨512 + l.val, by omega⟩)
      ∧ k0_pay34 hh (ix3 0 r l) = hh (ix2 r ⟨640 + l.val, by omega⟩)
      ∧ k0_pay35 hh (ix3 0 r l) = hh (ix2 r ⟨768 + l.val, by omega⟩)
      ∧ k0_pay36 hh (ix3 0 r l) = hh (ix2 r ⟨896 + l.val, by omega⟩) := by
  refine ⟨?_, ?_, ?_, ?_, ?_, ?_, ?_⟩
  · pointwise [k0_pay30]
  · pointwise [k0_pay31]
  · pointwise [k0_pay32]
  · pointwise [k0_pay33]
  · pointwise [k0_pay34]
  · pointwise [k0_pay35]
  · pointwise [k0_pay36]

/-- The first band, from the row's parts. -/
theorem first_apply (v4 : FVec Ideal S256x3072 .bf16) (v88 : FVec Ideal S256x256 .f32) (v110 : FVec Ideal S256x1024 .f32) (v111 : FVec Ideal S256x1024 .bf16) (v112 : FVec Ideal S256x384 .bf16)
    (v114 : FVec Ideal S384x1024 .bf16) (z : FVec Ideal S256x1024 .f32) (v121 : Vec Ideal S256x1024 .bf16) (v127 : Vec Ideal S1x256x1024 .f32) (v130 : Vec Ideal S1024x1024 .bf16)
    (v147 : Vec Ideal S1x1024 .f32) (r : Fin 256) (l : Fin 128) :
    k0_pay29 v4 v88 v110 v111 v112 v114 z v121 v127 v130 v147 (ix3 0 r l) = k0_pay28 v4 v88 v110 v111 v112 v114 z v121 v127 v130 v147 (ix2 r ⟨0 + l.val, by omega⟩) := by
  unfold k0_pay29
  generalize k0_pay28 v4 v88 v110 v111 v112 v114 z v121 v127 v130 v147 = y
  pointwise

/-- Row `r` of the blocks holds the token's operands; the mask is 1/64 within a head and zero elsewhere; the router's matrix fills the first sixteen lanes, and
    its remainder is zero. -/
structure Holds (T : Tok) (r : Fin 256) (x0 : Vec Ideal S1x256x1024 .f32) (x1 : Vec Ideal S1x256x384 .bf16) (x2 x3 x4 x5 : Vec Ideal S1x256x384 .f32) (x6 : Vec Ideal S1x256x128 .f32)
  (x7 x8 x9 : Vec Ideal S1x256x256 .bf16) (x10 : Vec Ideal S1x256x3072 .bf16) (x11 x12 : Vec Ideal S1x384 .f32) (x13 : Vec Ideal S128x384 .bf16) (x14 : Vec Ideal S384x384 .bf16)
  (x15 x16 : Vec Ideal S384x1024 .bf16) (x17 : Vec Ideal S256x1024 .bf16) (x18 : Vec Ideal S1024x1024 .bf16) (x19 : Vec Ideal S1x1024 .f32) (x20 x21 : Vec Ideal S1024x128 .bf16) : Prop where
  x : ∀ d, x0 (ix3 0 r d) = T.x d
  yna : ∀ c, x1 (ix3 0 r c) = T.yna c
  y : ∀ c, x2 (ix3 0 r c) + x3 (ix3 0 r c) = T.y c
  bon : ∀ c, x4 (ix3 0 r c) + x5 (ix3 0 r c) = T.bon c
  lat : ∀ k, x6 (ix3 0 r k) = T.lat k
  q : ∀ c, x7 (ix3 0 r c) = T.q c
  K : ∀ m c, x8 (ix3 0 m c) = T.K m c
  V : ∀ m c, x9 (ix3 0 m c) = T.V m c
  g : ∀ c, x10 (ix3 0 r c) = T.g c
  lng : ∀ c, x11 (ix2 0 c) = T.lng c
  lnb : ∀ c, x12 (ix2 0 c) = T.lnb c
  g2 : ∀ k c, x13 (ix2 k c) = T.g2 k c
  mask : ∀ k c, x14 (ix2 k c) = if k.val / 64 = c.val / 64 then Ideal.div 1 (Ideal.ofBits .f32 0x42800000#32) else 0
  wna : ∀ c d, x15 (ix2 c d) = T.wna c d
  wrw : ∀ c d, x16 (ix2 c d) = T.wrw c d
  wmem : ∀ c d, x17 (ix2 c d) = T.wmem c d
  wout : ∀ k d, x18 (ix2 k d) = T.wout k d
  gffn : ∀ d, x19 (ix2 0 d) = T.gffn d
  wr : ∀ k (l : Fin 128) (h : l.val < 16), x20 (ix2 k l) = T.wr k ⟨l.val, h⟩
  low : ∀ k l, x21 (ix2 k l) = 0

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole block reads it. -/
theorem ld_0 {e : EltTy} (x : Vec Ideal S1x256x3072 e) : View.ld x r0_0 = x := View.ld_unit_zero hz3 _ x
theorem ld_1 {e : EltTy} (x : Vec Ideal S1x256x384 e) : View.ld x r0_1 = x := View.ld_unit_zero hz3 _ x
theorem ld_2 {e : EltTy} (x : Vec Ideal S384x384 e) : View.ld x r0_2 = x := View.ld_unit_zero hz2 _ x
theorem ld_3 {e : EltTy} (x : Vec Ideal S1x256x256 e) : View.ld x r0_3 = x := View.ld_unit_zero hz3 _ x
theorem ld_4 {e : EltTy} (x : Vec Ideal S1x256x128 e) : View.ld x r0_4 = x := View.ld_unit_zero hz3 _ x
theorem ld_5 {e : EltTy} (x : Vec Ideal S128x384 e) : View.ld x r0_5 = x := View.ld_unit_zero hz2 _ x
theorem ld_6 {e : EltTy} (x : Vec Ideal S384x1024 e) : View.ld x r0_6 = x := View.ld_unit_zero hz2 _ x
theorem ld_7 {e : EltTy} (x : Vec Ideal S1x384 e) : View.ld x r0_7 = x := View.ld_unit_zero hz2 _ x
theorem ld_8 {e : EltTy} (x : Vec Ideal S256x1024 e) : View.ld x r0_8 = x := View.ld_unit_zero hz2 _ x
theorem ld_9 {e : EltTy} (x : Vec Ideal S1x256x1024 e) : View.ld x r0_9 = x := View.ld_unit_zero hz3 _ x
theorem ld_10 {e : EltTy} (x : Vec Ideal S1024x1024 e) : View.ld x r0_10 = x := View.ld_unit_zero hz2 _ x
theorem ld_11 {e : EltTy} (x : Vec Ideal S1x1024 e) : View.ld x r0_11 = x := View.ld_unit_zero hz2 _ x
theorem ld_20 {e : EltTy} (x : Vec Ideal S1024x128 e) : View.ld x r0_20 = x := View.ld_unit_zero hz2 _ x

variable {x0 : Vec Ideal S1x256x1024 .f32} {x1 : Vec Ideal S1x256x384 .bf16} {x2 x3 x4 x5 : Vec Ideal S1x256x384 .f32} {x6 : Vec Ideal S1x256x128 .f32}
  {x7 x8 x9 : Vec Ideal S1x256x256 .bf16} {x10 : Vec Ideal S1x256x3072 .bf16} {x11 x12 : Vec Ideal S1x384 .f32} {x13 : Vec Ideal S128x384 .bf16} {x14 : Vec Ideal S384x384 .bf16}
  {x15 x16 : Vec Ideal S384x1024 .bf16} {x17 : Vec Ideal S256x1024 .bf16} {x18 : Vec Ideal S1024x1024 .bf16} {x19 : Vec Ideal S1x1024 .f32} {x20 x21 : Vec Ideal S1024x128 .bf16}
  {T : Tok} {r : Fin 256} (H : Holds T r x0 x1 x2 x3 x4 x5 x6 x7 x8 x9 x10 x11 x12 x13 x14 x15 x16 x17 x18 x19 x20 x21) (hT : T.Real)
include H

/-- The normed and gated time mix. -/
theorem vRw_apply (c : Fin 384) : vRw x0 x1 x2 x3 x4 x5 x6 x7 x8 x9 x10 x11 x12 x13 x14 x15 x16 x17 x18 x19 x20 x21 (ix2 r c) = T.yrw c := by
  unfold vRw vSum vMean
  rw [ld_1, ld_1, ld_1, ld_1, ld_2, ld_4, ld_5, ld_7, ld_7]
  rw [pay24_apply, pay14_apply, pay16_apply, pay17_apply, pay4_apply, pay6_apply]
  have hm (c : Fin 384) : k0_pay4 x2 x3 (ix2 r c) - k0_pay6 x2 x3 x14 (ix2 r c) = T.cen c := by
    rw [pay4_apply, pay6_apply, H.y, sum_mask (fun k => x2 (ix3 0 r k) + x3 (ix3 0 r k)) (fun k c => x14 (ix2 k c)) H.mask c]
    simp only [H.y]
    rfl
  have hm' := hm c
  rw [pay4_apply, pay6_apply] at hm'
  simp only [hm, hm']
  rw [sum_mask (fun k => T.cen k * T.cen k) (fun k c => x14 (ix2 k c)) H.mask c]
  simp only [H.lng, H.lnb, H.bon, H.lat, H.g2]
  rfl

include hT

/-- What is read from the memory. -/
theorem vMem_apply (c : Fin 256) : vMem x0 x1 x2 x3 x4 x5 x6 x7 x8 x9 x10 x11 x12 x13 x14 x15 x16 x17 x18 x19 x20 x21 (ix2 r c) = T.mem c := by
  unfold vMem vMask vMv vScore
  rw [ld_3, ld_3, ld_3]
  rw [pay21_apply x7 x8 x9 r ⟨c.val / 64, by omega⟩ ⟨c.val % 64, by omega⟩ c (by show c.val = 64 * (c.val / 64) + c.val % 64; omega), ← Tok.mem_average hT c]
  simp only [H.q, H.K, H.V, bits_eighth16]
  unfold Tok.score
  simp only [bits_eighth]

/-- The residual row after the merge. -/
theorem x1_apply (d : Fin 1024) :
    k0_pay26 (vGates x0 x1 x2 x3 x4 x5 x6 x7 x8 x9 x10 x11 x12 x13 x14 x15 x16 x17 x18 x19 x20 x21) (vMem x0 x1 x2 x3 x4 x5 x6 x7 x8 x9 x10 x11 x12 x13 x14 x15 x16 x17 x18 x19 x20 x21) (vNa x0 x1 x2 x3 x4 x5 x6 x7 x8 x9 x10 x11 x12 x13 x14 x15 x16 x17 x18 x19 x20 x21) (vGate x0 x1 x2 x3 x4 x5 x6 x7 x8 x9 x10 x11 x12 x13 x14 x15 x16 x17 x18 x19 x20 x21)
      (vRw x0 x1 x2 x3 x4 x5 x6 x7 x8 x9 x10 x11 x12 x13 x14 x15 x16 x17 x18 x19 x20 x21) (vWrw x0 x1 x2 x3 x4 x5 x6 x7 x8 x9 x10 x11 x12 x13 x14 x15 x16 x17 x18 x19 x20 x21) (vZero x0 x1 x2 x3 x4 x5 x6 x7 x8 x9 x10 x11 x12 x13 x14 x15 x16 x17 x18 x19 x20 x21) (View.ld x17 r0_8) (View.ld x0 r0_9) (View.ld x18 r0_10) (ix2 r d) = T.x1 d := by
  have e1 := vMem_apply H hT
  have e2 := vRw_apply H
  generalize vMem x0 x1 x2 x3 x4 x5 x6 x7 x8 x9 x10 x11 x12 x13 x14 x15 x16 x17 x18 x19 x20 x21 = u at e1 ⊢
  generalize vRw x0 x1 x2 x3 x4 x5 x6 x7 x8 x9 x10 x11 x12 x13 x14 x15 x16 x17 x18 x19 x20 x21 = z at e2 ⊢
  unfold vNa vGate vWrw vZero vGates
  rw [ld_0, ld_1, ld_6, ld_6, ld_8, ld_9, ld_10]
  rw [pay26_apply]
  simp only [e1, e2, H.x, H.g, H.yna, H.wna, H.wrw, H.wmem, H.wout]
  rfl

/-- The normed row. -/
theorem vH_apply (d : Fin 1024) : vH x0 x1 x2 x3 x4 x5 x6 x7 x8 x9 x10 x11 x12 x13 x14 x15 x16 x17 x18 x19 x20 x21 (ix2 r d) = T.h2 d := by
  unfold vH
  rw [pay28_apply _ _ _ _ _ _ _ _ _ _ _ r T.x1 (x1_apply H hT) d, ld_11, H.gffn]
  rfl

/-- The first result's block. -/
theorem out22_apply (d : Fin 1024) : out0_22 x0 x1 x2 x3 x4 x5 x6 x7 x8 x9 x10 x11 x12 x13 x14 x15 x16 x17 x18 x19 x20 x21 (ix3 0 r d) = T.x1 d := by
  have e := x1_apply H hT d
  unfold out0_22
  rw [View.canon_unit_zero hz3]
  unfold k0_pay27
  rw [← e]
  pointwise

/-- The third result's block: the probabilities, expert by expert. -/
theorem out24_apply (a : Fin 16) : out0_24 x0 x1 x2 x3 x4 x5 x6 x7 x8 x9 x10 x11 x12 x13 x14 x15 x16 x17 x18 x19 x20 x21 (ix3 0 a r) = weight T.logit a := by
  have e := vH_apply H hT
  choose t ht using Tok.logit_real hT
  have hz (d : Fin 1024) : T.h2 d - T.h2 d = 0 := by
    obtain ⟨s, hs⟩ := Tok.h2_real hT d
    rw [hs, ← EReal.coe_sub, sub_self, EReal.coe_zero]
  unfold out0_24
  rw [View.canon_unit_zero hz3, ld_20, ld_20]
  rw [pay1_apply _ _ _ r T.h2 e hz T.wr H.wr H.low a]
  exact weight_lanes T.logit t ht a

omit hT H in
/-- The second result's block: the normed rows, a row in eight bands of 128 lanes. -/
theorem out23_apply (r : Fin 256) (n : Fin 8) (l : Fin 128) (p : Fin 2048) (hp : p.val = 8 * r.val + n.val) :
    out0_23 x0 x1 x2 x3 x4 x5 x6 x7 x8 x9 x10 x11 x12 x13 x14 x15 x16 x17 x18 x19 x20 x21 (ix3 0 p l) = vH x0 x1 x2 x3 x4 x5 x6 x7 x8 x9 x10 x11 x12 x13 x14 x15 x16 x17 x18 x19 x20 x21 (ix2 r ⟨128 * n.val + l.val, by omega⟩) := by
  unfold out0_23
  refine (View.canon_apply_of_pieces (tiles fun r d => vH x0 x1 x2 x3 x4 x5 x6 x7 x8 x9 x10 x11 x12 x13 x14 x15 x16 x17 x18 x19 x20 x21 (ix2 r d)) _ (fun p hp x => ?_) _ (cover0_23 _ _ _ _ _ _ _ _ _)).trans ?_
  · simp only [List.mem_cons, List.not_mem_nil, or_false] at hp
    rcases hp with rfl | rfl | rfl | rfl | rfl | rfl | rfl | rfl <;> obtain ⟨r, l, rfl⟩ := piece_ix x
    · exact (band_apply _ r l).2.2.2.2.2.2.trans (tiles_emb (fun r d => vH x0 x1 x2 x3 x4 x5 x6 x7 x8 x9 x10 x11 x12 x13 x14 x15 x16 x17 x18 x19 x20 x21 (ix2 r d)) 7 (by omega) inb_S1x2048x128_S1x256x128_0_7_0_s_1_8_1 spos_1_8_1 r l).symm
    · exact (band_apply _ r l).2.2.2.2.2.1.trans (tiles_emb (fun r d => vH x0 x1 x2 x3 x4 x5 x6 x7 x8 x9 x10 x11 x12 x13 x14 x15 x16 x17 x18 x19 x20 x21 (ix2 r d)) 6 (by omega) inb_S1x2048x128_S1x256x128_0_6_0_s_1_8_1 spos_1_8_1 r l).symm
    · exact (band_apply _ r l).2.2.2.2.1.trans (tiles_emb (fun r d => vH x0 x1 x2 x3 x4 x5 x6 x7 x8 x9 x10 x11 x12 x13 x14 x15 x16 x17 x18 x19 x20 x21 (ix2 r d)) 5 (by omega) inb_S1x2048x128_S1x256x128_0_5_0_s_1_8_1 spos_1_8_1 r l).symm
    · exact (band_apply _ r l).2.2.2.1.trans (tiles_emb (fun r d => vH x0 x1 x2 x3 x4 x5 x6 x7 x8 x9 x10 x11 x12 x13 x14 x15 x16 x17 x18 x19 x20 x21 (ix2 r d)) 4 (by omega) inb_S1x2048x128_S1x256x128_0_4_0_s_1_8_1 spos_1_8_1 r l).symm
    · exact (band_apply _ r l).2.2.1.trans (tiles_emb (fun r d => vH x0 x1 x2 x3 x4 x5 x6 x7 x8 x9 x10 x11 x12 x13 x14 x15 x16 x17 x18 x19 x20 x21 (ix2 r d)) 3 (by omega) inb_S1x2048x128_S1x256x128_0_3_0_s_1_8_1 spos_1_8_1 r l).symm
    · exact (band_apply _ r l).2.1.trans (tiles_emb (fun r d => vH x0 x1 x2 x3 x4 x5 x6 x7 x8 x9 x10 x11 x12 x13 x14 x15 x16 x17 x18 x19 x20 x21 (ix2 r d)) 2 (by omega) inb_S1x2048x128_S1x256x128_0_2_0_s_1_8_1 spos_1_8_1 r l).symm
    · exact (band_apply _ r l).1.trans (tiles_emb (fun r d => vH x0 x1 x2 x3 x4 x5 x6 x7 x8 x9 x10 x11 x12 x13 x14 x15 x16 x17 x18 x19 x20 x21 (ix2 r d)) 1 (by omega) inb_S1x2048x128_S1x256x128_0_1_0_s_1_8_1 spos_1_8_1 r l).symm
    · exact (first_apply _ _ _ _ _ _ _ _ _ _ _ r l).trans (tiles_emb (fun r d => vH x0 x1 x2 x3 x4 x5 x6 x7 x8 x9 x10 x11 x12 x13 x14 x15 x16 x17 x18 x19 x20 x21 (ix2 r d)) 0 (by omega) inb_S1x2048x128_S1x256x128_0_0_0_s_1_8_1 spos_1_8_1 r l).symm
  · have hn := n.isLt
    refine congrArg (vH x0 x1 x2 x3 x4 x5 x6 x7 x8 x9 x10 x11 x12 x13 x14 x15 x16 x17 x18 x19 x20 x21) (congrArg₂ ix2 (Fin.ext ?_) (Fin.ext ?_))
    · show p.val / 8 = r.val; omega
    · show 128 * (p.val % 8) + l.val = 128 * n.val + l.val; omega

end Merge

end
-- ==== Proof.Merge.Host.lean ====
/- What the host prepares for the kernel: the rounded matrices, the mask that averages within a head, and the router's matrix in 128 lanes. -/
module

public import proofs.«01_k».proof.Proof.Merge.Frame
public import proofs.«01_k».proof.Proof.Merge.Spec
public import Idealize.ShloMosaic.Lib.Pointwise
public import Idealize.ShloMosaic.Lib.Routing.OpsSet

@[expose] public section

set_option maxRecDepth 16384
set_option maxHeartbeats 2000000

noncomputable section

namespace Merge

open Cert.MergeIdeal Cert.MergeIdeal.Gen Idealize.ShloMosaic Idealize.ShloMosaic.TcCoe Idealize.SL.Sem

/-! ## The mask -/

/-- The number of the head of each of the 384 features, as the host divides. -/
def heads : IVec S384 32 :=
  let z : IVec S384 32 := iotaInDim S384 32 0
  let c : IVec S_ 32 := constantI S_ 32 64#32
  let q : IVec S384 32 := Host.divsi z (broadcastInDim S384 ![] bcast_S_S384 c)
  let s : IVec S384 1 := cmpi .ne (signi z) (broadcastInDim S384 ![] bcast_S_S384 (signi c))
  let u : IVec S384 1 := cmpi .ne (Host.remsi z (broadcastInDim S384 ![] bcast_S_S384 c)) (broadcastInDim S384 ![] bcast_S_S384 (constantI S_ 32 0#32))
  select (andi s u) (subi q (broadcastInDim S384 ![] bcast_S_S384 (constantI S_ 32 1#32))) q

/-- Feature `c` is in head `c / 64`. -/
theorem heads_apply (c : Fin 384) : heads (ix1 c) = BitVec.ofNat 32 (c.val / 64) := by
  revert c
  decide +kernel

/-- The mask. -/
def maskOf (h : IVec S384 32) : FVec Ideal S384x384 .bf16 :=
  truncf .bf16 (Host.divf (uitofp .f32 (cmpi .eq (broadcastInDim S384x384 ![0, 1] bcast_S384x1_S384x384_0_1 (broadcastInDim S384x1 ![0] bcast_S384_S384x1_0 h))
    (broadcastInDim S384x384 ![0, 1] bcast_S1x384_S384x384_0_1 (broadcastInDim S1x384 ![1] bcast_S384_S1x384_1 h))) : FVec Ideal S384x384 .f32)
    (broadcastInDim S384x384 ![] bcast_S_S384x384 (constant S_ .f32 0x42800000#32))) bitsLt_bf16_f32

/-- The mask is 1/64 within a head and zero elsewhere. -/
theorem mask_apply (k c : Fin 384) : maskOf heads (ix2 k c) = if k.val / 64 = c.val / 64 then Ideal.div 1 (Ideal.ofBits .f32 0x42800000#32) else 0 := by
  have e1 := heads_apply k
  have e2 := heads_apply c
  generalize heads = h at e1 e2 ⊢
  pointwise [maskOf, e1, e2]
  have hc (a b : BitVec 32) : (FloatOps.uitofp (F := Ideal) FTy.f32 (IntOp.cmpi CmpIPredicate.eq a b) : EReal) = if a = b then 1 else 0 := by
    show ((BitVec.toNat (IntOp.cmpi CmpIPredicate.eq a b) : ℝ) : EReal) = _
    by_cases h : a = b
    · rw [if_pos h, h]; simp [IntOp.cmpi]
    · rw [if_neg h]; simp [IntOp.cmpi, h]
  rw [hc]
  by_cases hk : k.val / 64 = c.val / 64
  · rw [if_pos (congrArg _ hk), if_pos hk]
  · have hn : ¬ BitVec.ofNat 32 (k.val / 64) = BitVec.ofNat 32 (c.val / 64) := fun he => by
      have e := congrArg BitVec.toNat he
      rw [BitVec.toNat_ofNat, BitVec.toNat_ofNat] at e
      omega
    rw [if_neg hn, if_neg hk]
    unfold Ideal.div
    rw [bits_64, if_neg (by norm_num), zero_mul]

/-! ## The router's matrix in 128 lanes -/

/-- The router's matrix in the first 16 of 128 lanes. -/
def lanesOf (w : FVec Ideal S1024x16 .f32) : FVec Ideal S1024x128 .f32 :=
  Host.scatter scatter_S1024x128_S1_S1024x16_01_n_1_0 (fun _ b => b) (broadcastInDim S1024x128 ![] bcast_S_S1024x128 (constant S_ .f32 0x00000000#32))
    (broadcastInDim S1 ![] bcast_S_S1 (constantI S_ 32 0#32)) w

/-- Entry `(k, e)` of the router's matrix lands on itself. -/
theorem lands (idx : IVec S1 32) (h0 : idx (ix1 0) = 0#32) (k : Fin 1024) (e : Fin 16) (k' : Fin 1024) (l : Fin 128) :
    scatter_S1024x128_S1_S1024x16_01_n_1_0.resultIdx? (ix2 k e) idx = some (ix2 k' l) ↔ k = k' ∧ e.val = l.val := by
  have hkept : scatter_S1024x128_S1_S1024x16_01_n_1_0.sKept = [0, 1] := rfl
  have hwin0 : scatter_S1024x128_S1_S1024x16_01_n_1_0.window (ix2 k e) 0 = k.val := rfl
  have hwin1 : scatter_S1024x128_S1_S1024x16_01_n_1_0.window (ix2 k e) 1 = e.val := rfl
  have hstart0 : scatter_S1024x128_S1_S1024x16_01_n_1_0.start (ix2 k e) idx 0 = 0 := rfl
  have hstart1 : scatter_S1024x128_S1_S1024x16_01_n_1_0.start (ix2 k e) idx 1 = 0 := by
    have e : scatter_S1024x128_S1_S1024x16_01_n_1_0.start (ix2 k e) idx 1 = (idx (ix1 0)).toInt := by
      refine congrArg (fun i => (idx i).toInt) (funext fun b => ?_)
      match b with
      | ⟨0, _⟩ => exact Subsingleton.elim (α := Fin 1) _ _
    rw [e, h0]
    rfl
  rw [Fin.ext_iff]
  refine (Routing.resultIdx?_ix2 ..).trans ?_
  rw [hstart0, hwin0, hstart1, hwin1]
  omega

/-- The lanes below 16 hold the router's matrix. -/
theorem lanesOf_low (w : FVec Ideal S1024x16 .f32) (k : Fin 1024) (l : Fin 128) (h : l.val < 16) : lanesOf w (ix2 k l) = w (ix2 k ⟨l.val, h⟩) := by
  refine Routing.scatter_set_hit _ _ _ _ _ _ (fun j hj => ?_) (ix2 k ⟨l.val, h⟩) ((lands _ rfl k ⟨l.val, h⟩ k l).2 ⟨rfl, rfl⟩)
  obtain ⟨k', e, rfl⟩ : ∃ (k' : Fin 1024) (e : Fin 16), j = ix2 k' e := ⟨j 0, j 1, eq_ix2 j⟩
  obtain ⟨rfl, he⟩ := (lands _ rfl k' e k l).1 hj
  exact congrArg w (congrArg (ix2 k') (Fin.ext he))

/-- The other lanes are zero. -/
theorem lanesOf_high (w : FVec Ideal S1024x16 .f32) (k : Fin 1024) (l : Fin 128) (h : ¬ l.val < 16) : lanesOf w (ix2 k l) = 0 := by
  refine (Routing.scatter_set_miss _ _ _ _ _ fun j hj => ?_).trans ?_
  · obtain ⟨k', e, rfl⟩ : ∃ (k' : Fin 1024) (e : Fin 16), j = ix2 k' e := ⟨j 0, j 1, eq_ix2 j⟩
    have he := ((lands _ rfl k' e k l).1 hj).2
    have := e.isLt
    omega
  · pointwise

/-- The remainder of the router's matrix is zero where the matrix is real. -/
theorem rest_apply (w : FVec Ideal S1024x16 .f32) (hw : ∀ i, ∃ r : ℝ, w i = r) (k : Fin 1024) (l : Fin 128) : lanesOf w (ix2 k l) - lanesOf w (ix2 k l) = 0 := by
  by_cases h : l.val < 16
  · obtain ⟨r, hr⟩ := hw (ix2 k ⟨l.val, h⟩)
    rw [lanesOf_low w k l h, hr, ← EReal.coe_sub, sub_self, EReal.coe_zero]
  · rw [lanesOf_high w k l h, sub_zero]

/-! ## The host's arrays -/

variable (m : (ℓ : Loc nD τ sig) → Buf (Elt Ideal) ℓ)

/-- The five rounded matrices. -/
theorem V_v0 (c : Dev nD) : V m c main_v0 = (m ((c : Thread nD τ).loc main_arg14) : FVec Ideal S384x1024 .f32) := by
  unfold V hostOps0 hostOps0_1 hostOps0_2
  after_results_simp
  rfl
theorem V_v1 (c : Dev nD) : V m c main_v1 = (m ((c : Thread nD τ).loc main_arg15) : FVec Ideal S384x1024 .f32) := by
  unfold V hostOps0 hostOps0_1 hostOps0_2
  after_results_simp
  rfl
theorem V_v2 (c : Dev nD) : V m c main_v2 = (m ((c : Thread nD τ).loc main_arg16) : FVec Ideal S256x1024 .f32) := by
  unfold V hostOps0 hostOps0_1 hostOps0_2
  after_results_simp
  rfl
theorem V_v3 (c : Dev nD) : V m c main_v3 = (m ((c : Thread nD τ).loc main_arg17) : FVec Ideal S1024x1024 .f32) := by
  unfold V hostOps0 hostOps0_1 hostOps0_2
  after_results_simp
  rfl
theorem V_v24 (c : Dev nD) : V m c main_v24 = (m ((c : Thread nD τ).loc main_arg13) : FVec Ideal S128x384 .f32) := by
  unfold V hostOps0 hostOps0_1 hostOps0_2
  after_results_simp
  rfl
/-- The mask. -/
theorem V_v14 (c : Dev nD) : V m c main_v14 = maskOf heads := by
  unfold V hostOps0 hostOps0_1 hostOps0_2
  after_results_simp
  rfl
/-- The router's matrix. -/
theorem V_v18 (c : Dev nD) : V m c main_v18 = truncf (F := Ideal) .bf16 (lanesOf (m ((c : Thread nD τ).loc main_arg19))) bitsLt_bf16_f32 := by
  unfold lanesOf V hostOps0 hostOps0_1 hostOps0_2
  simp only [List.flatten_cons, List.flatten_nil, List.append_nil, List.cons_append, List.nil_append]
  after_results_simp
/-- Its remainder. -/
theorem V_v21 (c : Dev nD) : V m c main_v21 = truncf (F := Ideal) .bf16 (subf (lanesOf (m ((c : Thread nD τ).loc main_arg19)))
      (extf .f32 (truncf (F := Ideal) .bf16 (lanesOf (m ((c : Thread nD τ).loc main_arg19))) bitsLt_bf16_f32) bitsLt_bf16_f32)) bitsLt_bf16_f32 := by
  unfold lanesOf V hostOps0 hostOps0_1 hostOps0_2
  simp only [List.flatten_cons, List.flatten_nil, List.append_nil, List.cons_append, List.nil_append]
  after_results_simp
/-- The group norm's gain and offset as rows. -/
theorem V_v22 (c : Dev nD) : V m c main_v22 = shapeCast S1x384 (m ((c : Thread nD τ).loc main_arg11)) shapeCasts_S384_S1x384 := by
  unfold V hostOps0 hostOps0_1 hostOps0_2
  after_results_simp
  rfl
theorem V_v23 (c : Dev nD) : V m c main_v23 = shapeCast S1x384 (m ((c : Thread nD τ).loc main_arg12)) shapeCasts_S384_S1x384 := by
  unfold V hostOps0 hostOps0_1 hostOps0_2
  after_results_simp
  rfl

end Merge

end
-- ==== Proof.Merge.Ref.lean ====
/- The reference's three results, entry by entry. -/
module

public import proofs.«01_k».proof.Proof.Merge.Spec
public import proofs.«01_k».proof.Proof.Gen.MergeRefIdeal.Read
public import Idealize.ShloMosaic.Lib.Pointwise

@[expose] public section

set_option maxRecDepth 16384
set_option maxHeartbeats 2000000

noncomputable section

namespace Merge.Ref

open Cert.MergeRefIdeal Cert.MergeRefIdeal.Gen Cert.MergeRefIdeal.Read Idealize.ShloMosaic Idealize.ShloMosaic.TcCoe Cert.Proof.Attn

/-- Token `t` of batch row `b`: its operands, read from the whole arrays. -/
def tok (x0 : FVec Ideal S4x8192x1024 .f32) (x1 : FVec Ideal S4x8192x384 .bf16) (x2 x3 x4 x5 : FVec Ideal S4x8192x384 .f32) (x6 : FVec Ideal S4x8192x1408 .f32)
    (x7 : FVec Ideal S4x8192x256 .bf16) (x8 x9 : FVec Ideal S4x256x256 .bf16) (x10 : FVec Ideal S4x8192x3072 .bf16) (x11 x12 : FVec Ideal S384 .f32) (x13 : FVec Ideal S128x384 .f32)
    (x14 x15 : FVec Ideal S384x1024 .f32) (x16 : FVec Ideal S256x1024 .f32) (x17 : FVec Ideal S1024x1024 .f32) (x18 : FVec Ideal S1x1024 .f32) (x19 : FVec Ideal S1024x16 .f32)
    (b : Fin 4) (t : Fin 8192) : Tok where
  x := fun d => x0 (ix3 b t d)
  y := fun c => x2 (ix3 b t c) + x3 (ix3 b t c)
  bon := fun c => x4 (ix3 b t c) + x5 (ix3 b t c)
  lng := fun c => x11 (ix1 c)
  lnb := fun c => x12 (ix1 c)
  lat := fun k => x6 (ix3 b t ⟨1280 + k.val, by omega⟩)
  g2 := fun k c => x13 (ix2 k c)
  q := fun c => x7 (ix3 b t c)
  K := fun m c => x8 (ix3 b m c)
  V := fun m c => x9 (ix3 b m c)
  g := fun c => x10 (ix3 b t c)
  yna := fun c => x1 (ix3 b t c)
  wna := fun c d => x14 (ix2 c d)
  wrw := fun c d => x15 (ix2 c d)
  wmem := fun c d => x16 (ix2 c d)
  wout := fun k d => x17 (ix2 k d)
  gffn := fun d => x18 (ix2 0 d)
  wr := fun k e => x19 (ix2 k e)

variable {x0 : FVec Ideal S4x8192x1024 .f32} {x1 : FVec Ideal S4x8192x384 .bf16} {x2 x3 x4 x5 : FVec Ideal S4x8192x384 .f32} {x6 : FVec Ideal S4x8192x1408 .f32}
  {x7 : FVec Ideal S4x8192x256 .bf16} {x8 x9 : FVec Ideal S4x256x256 .bf16} {x10 : FVec Ideal S4x8192x3072 .bf16} {x11 x12 : FVec Ideal S384 .f32} {x13 : FVec Ideal S128x384 .f32}
  {x14 x15 : FVec Ideal S384x1024 .f32} {x16 : FVec Ideal S256x1024 .f32} {x17 : FVec Ideal S1024x1024 .f32} {x18 : FVec Ideal S1x1024 .f32} {x19 : FVec Ideal S1024x16 .f32}
  {b : Fin 4} {t : Fin 8192}
  {T : Tok} (hT : tok x0 x1 x2 x3 x4 x5 x6 x7 x8 x9 x10 x11 x12 x13 x14 x15 x16 x17 x18 x19 b t = T)
include hT

/-- The centred time mix. -/
theorem v7 (h : Fin 6) (j : Fin 64) : val_main_v7 (F := Ideal) x2 x3 (ix4 b t h j) = T.cen (col h j) := by
  subst hT
  unfold Tok.cen
  rw [mean_col]
  pointwise [val_main_v7, val_main_v6, val_main_v5, val_main_v4, val_main_v3, val_main_v2, val_main_v1, val_main_v0, val_main_cst, val_main_cst_0, zero_add]
  rfl

/-- A head's variance. -/
theorem v12 (h : Fin 6) : val_main_v12 (F := Ideal) x2 x3 (ix4 b t h 0) = headMean (fun c => T.cen c * T.cen c) h := by
  have e := v7 hT h
  pointwise [val_main_v12, val_main_v11, val_main_v10, val_main_v9, val_main_v8, val_main_cst_1, val_main_cst_2, zero_add, e]
  rfl

/-- The normed time mix of one head. -/
theorem v17 (h : Fin 6) (j : Fin 64) : val_main_v17 (F := Ideal) x2 x3 (ix4 b t h j)
    = T.cen (col h j) * Ideal.rsqrt (T.var (col h j) + Ideal.ofBits .f32 0x3A27C5AC#32) := by
  have e := v7 hT h j
  have e2 := v12 hT h
  unfold Tok.var
  rw [mean_col]
  pointwise [val_main_v17, val_main_v16, val_main_v15, val_main_v14, val_main_v13, val_main_cst_3, e, e2]

/-- The normed and gated time mix. -/
theorem v35 (c : Fin 384) : val_main_v35 (F := Ideal) x2 x3 x4 x5 x6 x11 x12 x13 (ix3 b t c) = T.yrw c := by
  have e := v17 hT ⟨c.val / 64, by omega⟩ ⟨c.val % 64, by omega⟩
  have ec : col ⟨c.val / 64, by omega⟩ ⟨c.val % 64, by omega⟩ = c := Fin.ext (by show c.val / 64 * 64 + c.val % 64 = c.val; omega)
  rw [ec] at e
  unfold Tok.yrw
  pointwise [val_main_v35, val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_cst_4, val_main_cst_5, e]
  subst hT
  rfl

/-- The memory's scores. -/
theorem v44 (h : Fin 4) (m : Fin 256) : val_main_v44 (F := Ideal) x7 x8 (ix4 b h t m) = T.score h m := by
  subst hT
  pointwise [val_main_v44, val_main_v41, val_main_v40, val_main_v39, val_main_v38, val_main_v37, val_main_v36, val_main_cst_6]
  unfold Tok.score
  simp only [Nat.mul_comm 64]
  rfl

/-- The greatest of a head's scores. -/
theorem v45 (h : Fin 4) : val_main_v45 (F := Ideal) x7 x8 (ix3 b h t) = top (T.score h) := by
  have e (x : FVec Ideal S4x4x8192x256 .f32) (y : Fin 256 → EReal) (hx : ∀ m, x (ix4 b h t m) = y m) :
      (Host.reduce (FloatOps.maximumf (F := Ideal) (φ := .f32)) x (val_main_cst_7 (F := Ideal)) reducesTo_S4x4x8192x256_S4x4x8192_d3 h_S_ : FVec Ideal S4x4x8192 .f32) (ix3 b h t) = top y := by
    pointwise [hx, val_main_cst_7]
    rfl
  exact e _ _ fun m => v44 hT h m

/-- The exponential of a score less the greatest. -/
theorem v51 (h : Fin 4) (m : Fin 256) : val_main_v51 (F := Ideal) x7 x8 (ix4 b h t m) = Ideal.exp (T.score h m - top (T.score h)) := by
  have e (x : FVec Ideal S4x4x8192x256 .f32) (M : FVec Ideal S4x4x8192 .f32) (y u : EReal) (hx : x (ix4 b h t m) = y) (hM : M (ix3 b h t) = u) :
      (Host.exp (subf x (broadcastInDim S4x4x8192x256 ![0, 1, 2, 3] bcast_S4x4x8192x1_S4x4x8192x256_0_1_2_3
        (broadcastInDim S4x4x8192x1 ![0, 1, 2] bcast_S4x4x8192_S4x4x8192x1_0_1_2 (maximumf (val_main_v46 (F := Ideal)) M)))) : FVec Ideal S4x4x8192x256 .f32) (ix4 b h t m)
        = Ideal.exp (y - u) := by
    pointwise [hx, hM, val_main_v46, val_main_cst_8]
    rw [ofBits_bot, max_eq_right bot_le]
  exact e _ _ _ _ (v44 hT h m) (v45 hT h)

/-- The softmax weights. -/
theorem v55 (h : Fin 4) (m : Fin 256) : val_main_v55 (F := Ideal) x7 x8 (ix4 b h t m) = weight (T.score h) m := by
  have e (x : FVec Ideal S4x4x8192x256 .f32) (y : Fin 256 → EReal) (hx : ∀ m, x (ix4 b h t m) = y m) :
      (Host.divf x (broadcastInDim S4x4x8192x256 ![0, 1, 2, 3] bcast_S4x4x8192x1_S4x4x8192x256_0_1_2_3 (broadcastInDim S4x4x8192x1 ![0, 1, 2] bcast_S4x4x8192_S4x4x8192x1_0_1_2
        (Host.reduceAdd x (val_main_cst_9 (F := Ideal)) reducesTo_S4x4x8192x256_S4x4x8192_d3 h_S_))) : FVec Ideal S4x4x8192x256 .f32) (ix4 b h t m)
        = Ideal.div (y m) (∑ m, y m) := by
    pointwise [val_main_cst_9, zero_add, hx]
  exact e _ _ fun m => v51 hT h m

/-- What is read from the memory. -/
theorem v58 (c : Fin 256) : val_main_v58 (F := Ideal) x7 x8 x9 (ix3 b t c) = T.mem c := by
  have e := v55 hT ⟨c.val / 64, by omega⟩
  have ec : (⟨c.val / 64 * 64 + c.val % 64, by omega⟩ : Fin 256) = c := Fin.ext (by show c.val / 64 * 64 + c.val % 64 = c.val; omega)
  pointwise [val_main_v58, val_main_v57, val_main_v56, val_main_v43, val_main_v42, e, ec]
  subst hT
  exact Finset.sum_congr rfl fun m _ => mul_comm _ _

/-- The residual row after the merge. -/
theorem v73 (d : Fin 1024) : val_main_v73 (F := Ideal) x0 x1 x2 x3 x4 x5 x6 x7 x8 x9 x10 x11 x12 x13 x14 x15 x16 x17 (ix3 b t d) = T.x1 d := by
  have e := v35 hT
  have e2 := v58 hT
  pointwise [val_main_v73, val_main_v72, val_main_v71, val_main_v70, val_main_v69, val_main_v68, val_main_v67, val_main_v66, val_main_v65, val_main_v64, val_main_v63, val_main_v62,
    val_main_v61, val_main_v60, val_main_v59, e, e2]
  subst hT
  rfl

/-- The normed row. -/
theorem v86 (d : Fin 1024) : val_main_v86 (F := Ideal) x0 x1 x2 x3 x4 x5 x6 x7 x8 x9 x10 x11 x12 x13 x14 x15 x16 x17 x18 (ix3 b t d) = T.h2 d := by
  have e := v73 hT
  pointwise [val_main_v86, val_main_v85, val_main_v84, val_main_v83, val_main_v82, val_main_v81, val_main_v80, val_main_v79, val_main_v78, val_main_v77, val_main_v76, val_main_v75,
    val_main_v74, val_main_cst_10, val_main_cst_11, val_main_cst_12, zero_add, e]
  subst hT
  rfl

/-- The router's scores. -/
theorem v87 (a : Fin 16) : val_main_v87 (F := Ideal) x0 x1 x2 x3 x4 x5 x6 x7 x8 x9 x10 x11 x12 x13 x14 x15 x16 x17 x18 x19 (ix3 b t a) = T.logit a := by
  have e := v86 hT
  pointwise [val_main_v87, e]
  subst hT
  rfl

/-- The greatest of the router's scores. -/
theorem v88 : val_main_v88 (F := Ideal) x0 x1 x2 x3 x4 x5 x6 x7 x8 x9 x10 x11 x12 x13 x14 x15 x16 x17 x18 x19 (ix2 b t) = top T.logit := by
  have e (x : FVec Ideal S4x8192x16 .f32) (y : Fin 16 → EReal) (hx : ∀ a, x (ix3 b t a) = y a) :
      (Host.reduce (FloatOps.maximumf (F := Ideal) (φ := .f32)) x (val_main_cst_13 (F := Ideal)) reducesTo_S4x8192x16_S4x8192_d2 h_S_ : FVec Ideal S4x8192 .f32) (ix2 b t) = top y := by
    pointwise [hx, val_main_cst_13]
    rfl
  exact e _ _ fun a => v87 hT a

/-- The exponential of a score less the greatest. -/
theorem v94 (a : Fin 16) : val_main_v94 (F := Ideal) x0 x1 x2 x3 x4 x5 x6 x7 x8 x9 x10 x11 x12 x13 x14 x15 x16 x17 x18 x19 (ix3 b t a) = Ideal.exp (T.logit a - top T.logit) := by
  have e (x : FVec Ideal S4x8192x16 .f32) (M : FVec Ideal S4x8192 .f32) (y u : EReal) (hx : x (ix3 b t a) = y) (hM : M (ix2 b t) = u) :
      (Host.exp (subf x (broadcastInDim S4x8192x16 ![0, 1, 2] bcast_S4x8192x1_S4x8192x16_0_1_2
        (broadcastInDim S4x8192x1 ![0, 1] bcast_S4x8192_S4x8192x1_0_1 (maximumf (val_main_v89 (F := Ideal)) M)))) : FVec Ideal S4x8192x16 .f32) (ix3 b t a)
        = Ideal.exp (y - u) := by
    pointwise [hx, hM, val_main_v89, val_main_cst_14]
    rw [ofBits_bot, max_eq_right bot_le]
  exact e _ _ _ _ (v87 hT a) (v88 hT)

/-- The probabilities, expert by expert. -/
theorem v100 (a : Fin 16) : val_main_v100 (F := Ideal) x0 x1 x2 x3 x4 x5 x6 x7 x8 x9 x10 x11 x12 x13 x14 x15 x16 x17 x18 x19 (ix3 b a t) = weight T.logit a := by
  have e (x : FVec Ideal S4x8192x16 .f32) (y : Fin 16 → EReal) (hx : ∀ a, x (ix3 b t a) = y a) :
      (transpose S4x16x8192 [0, 2, 1] (Host.divf x (broadcastInDim S4x8192x16 ![0, 1, 2] bcast_S4x8192x1_S4x8192x16_0_1_2 (broadcastInDim S4x8192x1 ![0, 1] bcast_S4x8192_S4x8192x1_0_1
        (Host.reduceAdd x (val_main_cst_15 (F := Ideal)) reducesTo_S4x8192x16_S4x8192_d2 h_S_)))) transposes_S4x8192x16_S4x16x8192_0_2_1 : FVec Ideal S4x16x8192 .f32) (ix3 b a t)
        = Ideal.div (y a) (∑ a, y a) := by
    pointwise [val_main_cst_15, zero_add, hx]
  exact e _ _ fun a => v94 hT a

/-- The normed rows, laid out eight rows of 128 to a token. -/
theorem v99 (p : Fin 65536) (l : Fin 128) (n : Fin 8) (hp : p.val = 8 * t.val + n.val) :
    val_main_v99 (F := Ideal) x0 x1 x2 x3 x4 x5 x6 x7 x8 x9 x10 x11 x12 x13 x14 x15 x16 x17 x18 (ix3 b p l) = T.h2 ⟨128 * n.val + l.val, by omega⟩ := by
  rw [val_main_v99_apply]
  refine (congrArg _ (funext fun a => Fin.ext ?_)).trans (v86 hT _)
  have hb := b.isLt
  have ht := t.isLt
  have hn := n.isLt
  have hl := l.isLt
  match a with
  | ⟨0, _⟩ => show ((b.val * 65536 + p.val) * 128 + l.val) / 8388608 = b.val; omega
  | ⟨1, _⟩ => show ((b.val * 65536 + p.val) * 128 + l.val) / 1024 % 8192 = t.val; omega
  | ⟨2, _⟩ => show ((b.val * 65536 + p.val) * 128 + l.val) % 1024 = 128 * n.val + l.val; omega

end Merge.Ref

end
-- ==== Proof.Merge.Value.lean ====
/- The merge's value: a grid point's blocks hold the operands of 256 consecutive tokens of one batch row, so that what the body leaves in a block is the
   reference's results at those tokens, and the blocks cover the result arrays. -/
module

public import proofs.«01_k».proof.Proof.Merge.Block
public import proofs.«01_k».proof.Proof.Merge.Host
public import proofs.«01_k».proof.Proof.Merge.Ref
public import proofs.«01_k».proof.Defs
public import proofs.«01_k».proof.Proof.Gen.MergeRefIdeal.Run
public import proofs.«01_k».proof.Proof.Attn.Equal
public import proofs.«01_k».proof.Pre_finite6

@[expose] public section

set_option maxRecDepth 16384
set_option maxHeartbeats 2000000

noncomputable section

namespace Merge

open Cert.MergeIdeal Cert.MergeIdeal.Gen Idealize.ShloMosaic Idealize.ShloMosaic.TcCoe Idealize.SL.Sem

/-! ## Where the blocks stand -/

/-- The token windows stand, at point `t`, at batch row `t / 32` and block `t % 32` of 256 tokens; the gate's latent is the eleventh band of 128 columns. -/
theorem idx0 : ∀ t : Fin cfg0.N, win0_0.index t (0 : Fin 3) = t.val / 32 ∧ win0_0.index t (1 : Fin 3) = t.val % 32 ∧ win0_0.index t (2 : Fin 3) = 0 := (by decide +kernel : ∀ t : Fin grid0.N, _)
theorem idx1 : ∀ t : Fin cfg0.N, win0_1.index t (0 : Fin 3) = t.val / 32 ∧ win0_1.index t (1 : Fin 3) = t.val % 32 ∧ win0_1.index t (2 : Fin 3) = 0 := (by decide +kernel : ∀ t : Fin grid0.N, _)
theorem idx2 : ∀ t : Fin cfg0.N, win0_2.index t (0 : Fin 3) = t.val / 32 ∧ win0_2.index t (1 : Fin 3) = t.val % 32 ∧ win0_2.index t (2 : Fin 3) = 0 := (by decide +kernel : ∀ t : Fin grid0.N, _)
theorem idx3 : ∀ t : Fin cfg0.N, win0_3.index t (0 : Fin 3) = t.val / 32 ∧ win0_3.index t (1 : Fin 3) = t.val % 32 ∧ win0_3.index t (2 : Fin 3) = 0 := (by decide +kernel : ∀ t : Fin grid0.N, _)
theorem idx4 : ∀ t : Fin cfg0.N, win0_4.index t (0 : Fin 3) = t.val / 32 ∧ win0_4.index t (1 : Fin 3) = t.val % 32 ∧ win0_4.index t (2 : Fin 3) = 0 := (by decide +kernel : ∀ t : Fin grid0.N, _)
theorem idx5 : ∀ t : Fin cfg0.N, win0_5.index t (0 : Fin 3) = t.val / 32 ∧ win0_5.index t (1 : Fin 3) = t.val % 32 ∧ win0_5.index t (2 : Fin 3) = 0 := (by decide +kernel : ∀ t : Fin grid0.N, _)
theorem idx6 : ∀ t : Fin cfg0.N, win0_6.index t (0 : Fin 3) = t.val / 32 ∧ win0_6.index t (1 : Fin 3) = t.val % 32 ∧ win0_6.index t (2 : Fin 3) = 10 := (by decide +kernel : ∀ t : Fin grid0.N, _)
theorem idx7 : ∀ t : Fin cfg0.N, win0_7.index t (0 : Fin 3) = t.val / 32 ∧ win0_7.index t (1 : Fin 3) = t.val % 32 ∧ win0_7.index t (2 : Fin 3) = 0 := (by decide +kernel : ∀ t : Fin grid0.N, _)
theorem idx10 : ∀ t : Fin cfg0.N, win0_10.index t (0 : Fin 3) = t.val / 32 ∧ win0_10.index t (1 : Fin 3) = t.val % 32 ∧ win0_10.index t (2 : Fin 3) = 0 := (by decide +kernel : ∀ t : Fin grid0.N, _)
theorem idx22 : ∀ t : Fin cfg0.N, win0_22.index t (0 : Fin 3) = t.val / 32 ∧ win0_22.index t (1 : Fin 3) = t.val % 32 ∧ win0_22.index t (2 : Fin 3) = 0 := (by decide +kernel : ∀ t : Fin grid0.N, _)
theorem idx23 : ∀ t : Fin cfg0.N, win0_23.index t (0 : Fin 3) = t.val / 32 ∧ win0_23.index t (1 : Fin 3) = t.val % 32 ∧ win0_23.index t (2 : Fin 3) = 0 := (by decide +kernel : ∀ t : Fin grid0.N, _)
/-- The memory's keys and values stand at the batch row. -/
theorem idx8 : ∀ t : Fin cfg0.N, win0_8.index t (0 : Fin 3) = t.val / 32 ∧ win0_8.index t (1 : Fin 3) = 0 ∧ win0_8.index t (2 : Fin 3) = 0 := (by decide +kernel : ∀ t : Fin grid0.N, _)
theorem idx9 : ∀ t : Fin cfg0.N, win0_9.index t (0 : Fin 3) = t.val / 32 ∧ win0_9.index t (1 : Fin 3) = 0 ∧ win0_9.index t (2 : Fin 3) = 0 := (by decide +kernel : ∀ t : Fin grid0.N, _)
/-- The probabilities' blocks stand at the batch row and the block of tokens, all experts. -/
theorem idx24 : ∀ t : Fin cfg0.N, win0_24.index t (0 : Fin 3) = t.val / 32 ∧ win0_24.index t (1 : Fin 3) = 0 ∧ win0_24.index t (2 : Fin 3) = t.val % 32 := (by decide +kernel : ∀ t : Fin grid0.N, _)
/-- The weights stand at the origin. -/
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = 0 ∧ win0_12.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx14 : ∀ t : Fin cfg0.N, win0_14.index t (0 : Fin 2) = 0 ∧ win0_14.index t (1 : Fin 2) = 0 := (by decide +kernel : ∀ t : Fin grid0.N, _)
theorem idx15 : ∀ t : Fin cfg0.N, win0_15.index t (0 : Fin 2) = 0 ∧ win0_15.index t (1 : Fin 2) = 0 := (by decide +kernel : ∀ t : Fin grid0.N, _)
theorem idx16 : ∀ t : Fin cfg0.N, win0_16.index t (0 : Fin 2) = 0 ∧ win0_16.index t (1 : Fin 2) = 0 := (by decide +kernel : ∀ t : Fin grid0.N, _)
theorem idx17 : ∀ t : Fin cfg0.N, win0_17.index t (0 : Fin 2) = 0 ∧ win0_17.index t (1 : Fin 2) = 0 := (by decide +kernel : ∀ t : Fin grid0.N, _)
theorem idx18 : ∀ t : Fin cfg0.N, win0_18.index t (0 : Fin 2) = 0 ∧ win0_18.index t (1 : Fin 2) = 0 := (by decide +kernel : ∀ t : Fin grid0.N, _)
theorem idx19 : ∀ t : Fin cfg0.N, win0_19.index t (0 : Fin 2) = 0 ∧ win0_19.index t (1 : Fin 2) = 0 := (by decide +kernel : ∀ t : Fin grid0.N, _)
theorem idx20 : ∀ t : Fin cfg0.N, win0_20.index t (0 : Fin 2) = 0 ∧ win0_20.index t (1 : Fin 2) = 0 := (by decide +kernel : ∀ t : Fin grid0.N, _)
theorem idx21 : ∀ t : Fin cfg0.N, win0_21.index t (0 : Fin 2) = 0 ∧ win0_21.index t (1 : Fin 2) = 0 := (by decide +kernel : ∀ t : Fin grid0.N, _)

/-- The number of grid points. -/
theorem N_128 : cfg0.N = 128 := by decide

/-- The batch row of point `t`. -/
def bt (t : Fin cfg0.N) : Fin 4 := ⟨t.val / 32, by have h : t.val < 128 := lt_of_lt_of_eq t.isLt N_128; omega⟩

/-- Row `r` of point `t`'s blocks of tokens, among the batch row's tokens. -/
def tk (t : Fin cfg0.N) (r : Fin 256) : Fin 8192 := ⟨t.val % 32 * 256 + r.val, by omega⟩

/-- The point and the row that hold a token. -/
theorem exists_tok (b : Fin 4) (n : Fin 8192) : ∃ (t : Fin cfg0.N) (r : Fin 256), bt t = b ∧ tk t r = n :=
  ⟨⟨32 * b.val + n.val / 256, by rw [N_128]; omega⟩, ⟨n.val % 256, by omega⟩, Fin.ext (by show (32 * b.val + n.val / 256) / 32 = b.val; omega),
    Fin.ext (by show (32 * b.val + n.val / 256) % 32 * 256 + n.val % 256 = n.val; omega)⟩

/-- An index in a token window's block. -/
theorem eq_tok {p : Nat} (t : Fin cfg0.N) (r : Fin 256) (j : Fin p) (b : Fin 3 → Nat) (hb : b 0 = t.val / 32 ∧ b 1 = t.val % 32 ∧ b 2 = 0)
    (i : (⟨3, ![4, 8192, p]⟩ : Shape).Idx) (h0 : (i 0).val = b 0 * 1 + 1 * 0) (h1 : (i 1).val = b 1 * 256 + 1 * r.val) (h2 : (i 2).val = b 2 * p + 1 * j.val) :
    i = ix3 (bt t) (tk t r) j := by
  refine funext fun a => Fin.ext ?_
  match a with
  | ⟨0, _⟩ => show (i 0).val = t.val / 32; omega
  | ⟨1, _⟩ => show (i 1).val = t.val % 32 * 256 + r.val; rw [h1, hb.2.1, one_mul]
  | ⟨2, _⟩ => show (i 2).val = j.val; rw [h2, hb.2.2, zero_mul, one_mul, zero_add]

/-- An index in the memory's block. -/
theorem eq_mem (t : Fin cfg0.N) (r j : Fin 256) (b : Fin 3 → Nat) (hb : b 0 = t.val / 32 ∧ b 1 = 0 ∧ b 2 = 0)
    (i : (⟨3, ![4, 256, 256]⟩ : Shape).Idx) (h0 : (i 0).val = b 0 * 1 + 1 * 0) (h1 : (i 1).val = b 1 * 256 + 1 * r.val) (h2 : (i 2).val = b 2 * 256 + 1 * j.val) :
    i = ix3 (bt t) r j := by
  refine funext fun a => Fin.ext ?_
  match a with
  | ⟨0, _⟩ => show (i 0).val = t.val / 32; omega
  | ⟨1, _⟩ => show (i 1).val = r.val; omega
  | ⟨2, _⟩ => show (i 2).val = j.val; omega

/-- An index in a weight's block. -/
theorem eq_all {n p : Nat} (r : Fin n) (j : Fin p) (b : Fin 2 → Nat) (hb : b 0 = 0 ∧ b 1 = 0) (i : (⟨2, ![n, p]⟩ : Shape).Idx)
    (h0 : (i 0).val = b 0 * n + 1 * r.val) (h1 : (i 1).val = b 1 * p + 1 * j.val) : i = ix2 r j := by
  refine funext fun a => Fin.ext ?_
  match a with
  | ⟨0, _⟩ => show (i 0).val = r.val; rw [h0, hb.1, zero_mul, one_mul, zero_add]
  | ⟨1, _⟩ => show (i 1).val = j.val; rw [h1, hb.2, zero_mul, one_mul, zero_add]

variable (m : (ℓ : Loc nD τ sig) → Buf (Elt Ideal) ℓ) (ρ : Dev nD → PrngReg)

/-! ## What the blocks hold -/

/-- The token windows' blocks. -/
theorem blk0 (c : Dev nD) (t : Fin cfg0.N) (r : Fin 256) (j : Fin 1024) : iblk m c 0 t (ix3 0 r j) = m ((c : Thread nD τ).loc main_arg0) (ix3 (bt t) (tk t r) j) := by
  show V m c main_arg0 (((cfg0.win 0).blk t).view.emb (ix3 0 r j)) = _
  rw [V_main_arg0]
  exact congrArg _ (eq_tok t r j (win0_0.index t) (idx0 t) _ rfl rfl rfl)
theorem blk1 (c : Dev nD) (t : Fin cfg0.N) (r : Fin 256) (j : Fin 384) : iblk m c 1 t (ix3 0 r j) = m ((c : Thread nD τ).loc main_arg1) (ix3 (bt t) (tk t r) j) := by
  show V m c main_arg1 (((cfg0.win 1).blk t).view.emb (ix3 0 r j)) = _
  rw [V_main_arg1]
  exact congrArg _ (eq_tok t r j (win0_1.index t) (idx1 t) _ rfl rfl rfl)
theorem blk2 (c : Dev nD) (t : Fin cfg0.N) (r : Fin 256) (j : Fin 384) : iblk m c 2 t (ix3 0 r j) = m ((c : Thread nD τ).loc main_arg2) (ix3 (bt t) (tk t r) j) := by
  show V m c main_arg2 (((cfg0.win 2).blk t).view.emb (ix3 0 r j)) = _
  rw [V_main_arg2]
  exact congrArg _ (eq_tok t r j (win0_2.index t) (idx2 t) _ rfl rfl rfl)
theorem blk3 (c : Dev nD) (t : Fin cfg0.N) (r : Fin 256) (j : Fin 384) : iblk m c 3 t (ix3 0 r j) = m ((c : Thread nD τ).loc main_arg3) (ix3 (bt t) (tk t r) j) := by
  show V m c main_arg3 (((cfg0.win 3).blk t).view.emb (ix3 0 r j)) = _
  rw [V_main_arg3]
  exact congrArg _ (eq_tok t r j (win0_3.index t) (idx3 t) _ rfl rfl rfl)
theorem blk4 (c : Dev nD) (t : Fin cfg0.N) (r : Fin 256) (j : Fin 384) : iblk m c 4 t (ix3 0 r j) = m ((c : Thread nD τ).loc main_arg4) (ix3 (bt t) (tk t r) j) := by
  show V m c main_arg4 (((cfg0.win 4).blk t).view.emb (ix3 0 r j)) = _
  rw [V_main_arg4]
  exact congrArg _ (eq_tok t r j (win0_4.index t) (idx4 t) _ rfl rfl rfl)
theorem blk5 (c : Dev nD) (t : Fin cfg0.N) (r : Fin 256) (j : Fin 384) : iblk m c 5 t (ix3 0 r j) = m ((c : Thread nD τ).loc main_arg5) (ix3 (bt t) (tk t r) j) := by
  show V m c main_arg5 (((cfg0.win 5).blk t).view.emb (ix3 0 r j)) = _
  rw [V_main_arg5]
  exact congrArg _ (eq_tok t r j (win0_5.index t) (idx5 t) _ rfl rfl rfl)
theorem blk7 (c : Dev nD) (t : Fin cfg0.N) (r : Fin 256) (j : Fin 256) : iblk m c 7 t (ix3 0 r j) = m ((c : Thread nD τ).loc main_arg7) (ix3 (bt t) (tk t r) j) := by
  show V m c main_arg7 (((cfg0.win 7).blk t).view.emb (ix3 0 r j)) = _
  rw [V_main_arg7]
  exact congrArg _ (eq_tok t r j (win0_7.index t) (idx7 t) _ rfl rfl rfl)
theorem blk10 (c : Dev nD) (t : Fin cfg0.N) (r : Fin 256) (j : Fin 3072) : iblk m c 10 t (ix3 0 r j) = m ((c : Thread nD τ).loc main_arg10) (ix3 (bt t) (tk t r) j) := by
  show V m c main_arg10 (((cfg0.win 10).blk t).view.emb (ix3 0 r j)) = _
  rw [V_main_arg10]
  exact congrArg _ (eq_tok t r j (win0_10.index t) (idx10 t) _ rfl rfl rfl)
/-- The gate's latent. -/
theorem blk6 (c : Dev nD) (t : Fin cfg0.N) (r : Fin 256) (k : Fin 128) : iblk m c 6 t (ix3 0 r k) = m ((c : Thread nD τ).loc main_arg6) (ix3 (bt t) (tk t r) ⟨1280 + k.val, by omega⟩) := by
  show V m c main_arg6 (((cfg0.win 6).blk t).view.emb (ix3 0 r k)) = _
  rw [V_main_arg6]
  obtain ⟨e0, e1, e2⟩ := idx6 t
  refine congrArg _ (funext fun a => Fin.ext ?_)
  match a with
  | ⟨0, _⟩ => show win0_6.index t (0 : Fin 3) * 1 + 1 * 0 = t.val / 32; omega
  | ⟨1, _⟩ => show win0_6.index t (1 : Fin 3) * 256 + 1 * r.val = t.val % 32 * 256 + r.val; omega
  | ⟨2, _⟩ => show win0_6.index t (2 : Fin 3) * 128 + 1 * k.val = 1280 + k.val; omega
/-- The memory's keys and values. -/
theorem blk8 (c : Dev nD) (t : Fin cfg0.N) (r j : Fin 256) : iblk m c 8 t (ix3 0 r j) = m ((c : Thread nD τ).loc main_arg8) (ix3 (bt t) r j) := by
  show V m c main_arg8 (((cfg0.win 8).blk t).view.emb (ix3 0 r j)) = _
  rw [V_main_arg8]
  exact congrArg _ (eq_mem t r j (win0_8.index t) (idx8 t) _ rfl rfl rfl)
theorem blk9 (c : Dev nD) (t : Fin cfg0.N) (r j : Fin 256) : iblk m c 9 t (ix3 0 r j) = m ((c : Thread nD τ).loc main_arg9) (ix3 (bt t) r j) := by
  show V m c main_arg9 (((cfg0.win 9).blk t).view.emb (ix3 0 r j)) = _
  rw [V_main_arg9]
  exact congrArg _ (eq_mem t r j (win0_9.index t) (idx9 t) _ rfl rfl rfl)
/-- The weights, as the host left them. -/
theorem blk11 (c : Dev nD) (t : Fin cfg0.N) (r : Fin 1) (j : Fin 384) : iblk m c 11 t (ix2 r j) = V m c main_v22 (ix2 r j) :=
  congrArg (V m c main_v22) (eq_all r j (win0_11.index t) (idx11 t) (((cfg0.win 11).blk t).view.emb (ix2 r j)) rfl rfl)
theorem blk12 (c : Dev nD) (t : Fin cfg0.N) (r : Fin 1) (j : Fin 384) : iblk m c 12 t (ix2 r j) = V m c main_v23 (ix2 r j) :=
  congrArg (V m c main_v23) (eq_all r j (win0_12.index t) (idx12 t) (((cfg0.win 12).blk t).view.emb (ix2 r j)) rfl rfl)
theorem blk13 (c : Dev nD) (t : Fin cfg0.N) (r : Fin 128) (j : Fin 384) : iblk m c 13 t (ix2 r j) = V m c main_v24 (ix2 r j) :=
  congrArg (V m c main_v24) (eq_all r j (win0_13.index t) (idx13 t) (((cfg0.win 13).blk t).view.emb (ix2 r j)) rfl rfl)
theorem blk14 (c : Dev nD) (t : Fin cfg0.N) (r : Fin 384) (j : Fin 384) : iblk m c 14 t (ix2 r j) = V m c main_v14 (ix2 r j) :=
  congrArg (V m c main_v14) (eq_all r j (win0_14.index t) (idx14 t) (((cfg0.win 14).blk t).view.emb (ix2 r j)) rfl rfl)
theorem blk15 (c : Dev nD) (t : Fin cfg0.N) (r : Fin 384) (j : Fin 1024) : iblk m c 15 t (ix2 r j) = V m c main_v0 (ix2 r j) :=
  congrArg (V m c main_v0) (eq_all r j (win0_15.index t) (idx15 t) (((cfg0.win 15).blk t).view.emb (ix2 r j)) rfl rfl)
theorem blk16 (c : Dev nD) (t : Fin cfg0.N) (r : Fin 384) (j : Fin 1024) : iblk m c 16 t (ix2 r j) = V m c main_v1 (ix2 r j) :=
  congrArg (V m c main_v1) (eq_all r j (win0_16.index t) (idx16 t) (((cfg0.win 16).blk t).view.emb (ix2 r j)) rfl rfl)
theorem blk17 (c : Dev nD) (t : Fin cfg0.N) (r : Fin 256) (j : Fin 1024) : iblk m c 17 t (ix2 r j) = V m c main_v2 (ix2 r j) :=
  congrArg (V m c main_v2) (eq_all r j (win0_17.index t) (idx17 t) (((cfg0.win 17).blk t).view.emb (ix2 r j)) rfl rfl)
theorem blk18 (c : Dev nD) (t : Fin cfg0.N) (r : Fin 1024) (j : Fin 1024) : iblk m c 18 t (ix2 r j) = V m c main_v3 (ix2 r j) :=
  congrArg (V m c main_v3) (eq_all r j (win0_18.index t) (idx18 t) (((cfg0.win 18).blk t).view.emb (ix2 r j)) rfl rfl)
theorem blk19 (c : Dev nD) (t : Fin cfg0.N) (r : Fin 1) (j : Fin 1024) : iblk m c 19 t (ix2 r j) = V m c main_arg18 (ix2 r j) :=
  congrArg (V m c main_arg18) (eq_all r j (win0_19.index t) (idx19 t) (((cfg0.win 19).blk t).view.emb (ix2 r j)) rfl rfl)
theorem blk20 (c : Dev nD) (t : Fin cfg0.N) (r : Fin 1024) (j : Fin 128) : iblk m c 20 t (ix2 r j) = V m c main_v18 (ix2 r j) :=
  congrArg (V m c main_v18) (eq_all r j (win0_20.index t) (idx20 t) (((cfg0.win 20).blk t).view.emb (ix2 r j)) rfl rfl)
theorem blk21 (c : Dev nD) (t : Fin cfg0.N) (r : Fin 1024) (j : Fin 128) : iblk m c 21 t (ix2 r j) = V m c main_v21 (ix2 r j) :=
  congrArg (V m c main_v21) (eq_all r j (win0_21.index t) (idx21 t) (((cfg0.win 21).blk t).view.emb (ix2 r j)) rfl rfl)

/-- The operands of row `r` of point `t`'s tokens. -/
def tokAt (c : Dev nD) (t : Fin cfg0.N) (r : Fin 256) : Tok :=
  Ref.tok (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (bt t) (tk t r)

/-- Every entry is a real number. -/
def Reals {S : Shape} {ty : FTy} (x : FVec Ideal S ty) : Prop := ∀ i, ∃ y : ℝ, x i = ((y : ℝ) : EReal)

/-- The memory's queries and keys, the gain of the norm and the router's matrix have real entries. -/
def RealArgs (c : Dev nD) : Prop :=
  Reals (S := S4x8192x256) (ty := .bf16) (m ((c : Thread nD τ).loc main_arg7)) ∧ Reals (S := S4x256x256) (ty := .bf16) (m ((c : Thread nD τ).loc main_arg8))
    ∧ Reals (S := S1x1024) (ty := .f32) (m ((c : Thread nD τ).loc main_arg18)) ∧ Reals (S := S1024x16) (ty := .f32) (m ((c : Thread nD τ).loc main_arg19))

/-- The precondition holds only of such arguments. -/
theorem realArgs [Cert.Pre_finite6.Facts] (h : Cert.Pre_MergeIdeal_finite6 m) (c : Dev nD) : RealArgs m c := by
  obtain ⟨h7, h8, h18, h19⟩ := h c
  refine ⟨fun i => Cert.Proof.Attn.real_of_lt _ ?_, fun i => Cert.Proof.Attn.real_of_lt _ ?_, fun i => Cert.Proof.Attn.real_of_lt _ ?_, fun i => Cert.Proof.Attn.real_of_lt _ ?_⟩
  · rw [← Cert.Proof.Attn.ofBits_top16]; exact congrFun h7 i
  · rw [← Cert.Proof.Attn.ofBits_top16]; exact congrFun h8 i
  · rw [← Cert.Proof.Attn.ofBits_top32]; exact congrFun h18 i
  · rw [← Cert.Proof.Attn.ofBits_top32]; exact congrFun h19 i

/-- These operands of a token are real where the arguments are. -/
theorem tokAt_real (c : Dev nD) (h : RealArgs m c) (t : Fin cfg0.N) (r : Fin 256) : (tokAt m c t r).Real :=
  ⟨fun _ => h.1 _, fun _ _ => h.2.1 _, fun _ => h.2.2.1 _, fun _ _ => h.2.2.2 _⟩

/-- A row's entry in the one-row matrix. -/
theorem row_apply (x : FVec Ideal S384 .f32) (k : Fin 384) : (shapeCast S1x384 x shapeCasts_S384_S1x384 : FVec Ideal S1x384 .f32) (ix2 0 k) = x (ix1 k) := by
  pointwise

/-- A rounding to bf16 keeps the exact entries. -/
theorem round_apply (L : FVec Ideal S1024x128 .f32) (k : Fin 1024) (l : Fin 128) : (truncf (F := Ideal) .bf16 L bitsLt_bf16_f32) (ix2 k l) = L (ix2 k l) := rfl

/-- What a rounding to bf16 leaves over is, in exact arithmetic, the difference of the entries with themselves. -/
theorem remainder_apply (L : FVec Ideal S1024x128 .f32) (k : Fin 1024) (l : Fin 128) :
    (truncf (F := Ideal) .bf16 (subf L (extf .f32 (truncf (F := Ideal) .bf16 L bitsLt_bf16_f32) bitsLt_bf16_f32)) bitsLt_bf16_f32) (ix2 k l) = L (ix2 k l) - L (ix2 k l) := rfl

/-- The blocks of point `t` hold its tokens' operands. -/
theorem holds (c : Dev nD) (h : RealArgs m c) (t : Fin cfg0.N) (r : Fin 256) :
    Holds (tokAt m c t r) r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) where
  x d := blk0 m c t r d
  yna k := blk1 m c t r k
  y k := by rw [blk2, blk3]; rfl
  bon k := by rw [blk4, blk5]; rfl
  lat k := blk6 m c t r k
  q k := blk7 m c t r k
  K n k := blk8 m c t n k
  V n k := blk9 m c t n k
  g k := blk10 m c t r k
  lng k := by rw [blk11, V_v22, row_apply]; rfl
  lnb k := by rw [blk12, V_v23, row_apply]; rfl
  g2 k d := by rw [blk13, V_v24]; rfl
  mask k d := by rw [blk14, V_v14]; exact mask_apply k d
  wna k d := by rw [blk15, V_v0]; rfl
  wrw k d := by rw [blk16, V_v1]; rfl
  wmem k d := by rw [blk17, V_v2]; rfl
  wout k d := by rw [blk18, V_v3]; rfl
  gffn d := by rw [blk19, V_main_arg18]; rfl
  wr k l hl := by rw [blk20, V_v18]; exact (round_apply _ k l).trans (lanesOf_low _ k l hl)
  low k l := by rw [blk21, V_v21]; exact (remainder_apply _ k l).trans (rest_apply _ h.2.2.2 k l)

/-! ## The result arrays -/

/-- The blocks of the residual stream in the array. -/
theorem emb22 (t : Fin cfg0.N) (r : Fin 256) (j : Fin 1024) : ((cfg0.win 22).blk t).view.emb (ix3 0 r j) = ix3 (bt t) (tk t r) j :=
  eq_tok t r j (win0_22.index t) (idx22 t) _ rfl rfl rfl

/-- The blocks of the normed rows in the array. -/
theorem emb23 (t : Fin cfg0.N) (r : Fin 256) (n : Fin 8) (l : Fin 128) :
    ((cfg0.win 23).blk t).view.emb (ix3 0 ⟨8 * r.val + n.val, by omega⟩ l) = ix3 (bt t) ⟨8 * (tk t r).val + n.val, by have := (tk t r).isLt; omega⟩ l := by
  obtain ⟨e0, e1, e2⟩ := idx23 t
  refine funext fun a => Fin.ext ?_
  match a with
  | ⟨0, _⟩ => show win0_23.index t (0 : Fin 3) * 1 + 1 * 0 = t.val / 32; rw [e0, mul_one, mul_zero, add_zero]
  | ⟨1, _⟩ => show win0_23.index t (1 : Fin 3) * 2048 + 1 * (8 * r.val + n.val) = 8 * (t.val % 32 * 256 + r.val) + n.val; omega
  | ⟨2, _⟩ => show win0_23.index t (2 : Fin 3) * 128 + 1 * l.val = l.val; omega

/-- The blocks of the probabilities in the array. -/
theorem emb24 (t : Fin cfg0.N) (a : Fin 16) (r : Fin 256) : ((cfg0.win 24).blk t).view.emb (ix3 0 a r) = ix3 (bt t) a (tk t r) := by
  obtain ⟨e0, e1, e2⟩ := idx24 t
  refine funext fun b => Fin.ext ?_
  match b with
  | ⟨0, _⟩ => show win0_24.index t (0 : Fin 3) * 1 + 1 * 0 = t.val / 32; rw [e0, mul_one, mul_zero, add_zero]
  | ⟨1, _⟩ => show win0_24.index t (1 : Fin 3) * 16 + 1 * a.val = a.val; omega
  | ⟨2, _⟩ => show win0_24.index t (2 : Fin 3) * 256 + 1 * r.val = t.val % 32 * 256 + r.val; omega

/-- An index whose first place is the only one. -/
theorem eq_first {n p : Nat} (i : (⟨3, ![1, n, p]⟩ : Shape).Idx) : ∃ (r : Fin n) (j : Fin p), i = ix3 0 r j := by
  refine ⟨i 1, i 2, funext fun a => Fin.ext ?_⟩
  have h0 : (i 0).val < 1 := (i 0).isLt
  match a with
  | ⟨0, _⟩ => show (i 0).val = 0; omega
  | ⟨1, _⟩ => rfl
  | ⟨2, _⟩ => rfl

/-- After the run, the residual stream is the reference's. -/
theorem final22 (c : Dev nD) (h : RealArgs m c) : (dats m 0 c).arrAt 22 cfg0.N
    = Cert.MergeRefIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (dats m 0 c).arrAt_eq_of_cover 22 _ (fun t _ => funext fun i => ?_) fun i => ?_
  · obtain ⟨r, j, rfl⟩ := eq_first i
    show (dats m 0 c).after 22 t (ix3 0 r j) = Cert.MergeRefIdeal.Read.val_main_v73 (F := Ideal) _ _ _ _ _ _ _ _ _ _ _ _ _ _ _ _ _ _ (((cfg0.win 22).blk t).view.emb (ix3 0 r j))
    rw [after0_22, emb22]
    exact (out22_apply (holds m c h t r) (tokAt_real m c h t r) j).trans (Ref.v73 (T := tokAt m c t r) rfl j).symm
  · obtain ⟨b, n, j, rfl⟩ : ∃ (b : Fin 4) (n : Fin 8192) (j : Fin 1024), i = ix3 b n j := ⟨i 0, i 1, i 2, eq_ix3 i⟩
    obtain ⟨t, r, rfl, rfl⟩ := exists_tok b n
    exact ⟨t, flush0_22 t, emb22 t r j ▸ ((cfg0.win 22).blk t).view.emb_mem_set (ix3 0 r j)⟩

/-- After the run, the normed rows are the reference's. -/
theorem final23 (c : Dev nD) (h : RealArgs m c) : (dats m 0 c).arrAt 23 cfg0.N
    = Cert.MergeRefIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (dats m 0 c).arrAt_eq_of_cover 23 _ (fun t _ => funext fun i => ?_) fun i => ?_
  · obtain ⟨p, l, rfl⟩ : ∃ (p : Fin 2048) (l : Fin 128), i = ix3 0 p l := eq_first i
    obtain ⟨r, n, rfl⟩ : ∃ (r : Fin 256) (n : Fin 8), p = ⟨8 * r.val + n.val, by omega⟩ :=
      ⟨⟨p.val / 8, by omega⟩, ⟨p.val % 8, by omega⟩, Fin.ext (by show p.val = 8 * (p.val / 8) + p.val % 8; omega)⟩
    show (dats m 0 c).after 23 t (ix3 0 ⟨8 * r.val + n.val, by omega⟩ l) = Cert.MergeRefIdeal.Read.val_main_v99 (F := Ideal) _ _ _ _ _ _ _ _ _ _ _ _ _ _ _ _ _ _ _ (((cfg0.win 23).blk t).view.emb (ix3 0 ⟨8 * r.val + n.val, by omega⟩ l))
    rw [after0_23, emb23]
    exact ((out23_apply r n l _ rfl).trans (vH_apply (holds m c h t r) (tokAt_real m c h t r) _)).trans (Ref.v99 (T := tokAt m c t r) rfl _ l n rfl).symm
  · obtain ⟨b, p, l, rfl⟩ : ∃ (b : Fin 4) (p : Fin 65536) (l : Fin 128), i = ix3 b p l := ⟨i 0, i 1, i 2, eq_ix3 i⟩
    obtain ⟨t, r, hb, hn⟩ := exists_tok b ⟨p.val / 8, by omega⟩
    have e := emb23 t r ⟨p.val % 8, by omega⟩ l
    have ep : (⟨8 * (tk t r).val + p.val % 8, by have := (tk t r).isLt; omega⟩ : Fin 65536) = p :=
      Fin.ext (by have h := congrArg Fin.val hn; show 8 * (tk t r).val + p.val % 8 = p.val; replace h : (tk t r).val = p.val / 8 := h; omega)
    rw [hb] at e
    have e' := e.trans (congrArg (fun q => ix3 b q l) ep)
    exact ⟨t, flush0_23 t, e' ▸ ((cfg0.win 23).blk t).view.emb_mem_set _⟩

/-- After the run, the probabilities are the reference's. -/
theorem final24 (c : Dev nD) (h : RealArgs m c) : (dats m 0 c).arrAt 24 cfg0.N
    = Cert.MergeRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (dats m 0 c).arrAt_eq_of_cover 24 _ (fun t _ => funext fun i => ?_) fun i => ?_
  · obtain ⟨a, r, rfl⟩ : ∃ (a : Fin 16) (r : Fin 256), i = ix3 0 a r := eq_first i
    show (dats m 0 c).after 24 t (ix3 0 a r) = Cert.MergeRefIdeal.Read.val_main_v100 (F := Ideal) _ _ _ _ _ _ _ _ _ _ _ _ _ _ _ _ _ _ _ _ (((cfg0.win 24).blk t).view.emb (ix3 0 a r))
    rw [after0_24, emb24]
    exact (out24_apply (holds m c h t r) (tokAt_real m c h t r) a).trans (Ref.v100 (T := tokAt m c t r) rfl a).symm
  · obtain ⟨b, a, n, rfl⟩ : ∃ (b : Fin 4) (a : Fin 16) (n : Fin 8192), i = ix3 b a n := ⟨i 0, i 1, i 2, eq_ix3 i⟩
    obtain ⟨t, r, rfl, rfl⟩ := exists_tok b n
    exact ⟨t, flush0_24 t, emb24 t a r ▸ ((cfg0.win 24).blk t).view.emb_mem_set (ix3 0 a r)⟩

/-! ## The claim -/

/-- The kernel's run and the reference's end with the same three result arrays, from memories that agree on the arguments, where the memory's queries and keys, the gain of the norm and the router's matrix are real. -/
theorem algebraic [Cert.Pre_finite6.Facts] : Cert.algebraic_MergeIdeal_MergeRefIdeal_pre_finite6 := by
  intro m ρ m' ρ' hp hag
  refine ⟨fun c => Cert.MergeRefIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)),
    fun c => Cert.MergeRefIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)),
    fun c => Cert.MergeRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)),
    (θ_run Cert.MergeIdeal.defs _ _).mono (fun r h c => ?_) (θ_run_and (run_main m ρ) (unchanged m ρ)),
    (θ_run Cert.MergeRefIdeal.defs _ _).mono (fun r h c => ?_) (Cert.MergeRefIdeal.Value.run m' ρ')⟩
  · have ha := realArgs m hp c
    exact ⟨((h.1 c).1 22).trans (final22 m c ha), ((h.1 c).1 23).trans (final23 m c ha), ((h.1 c).1 24).trans (final24 m c ha), h.2 c⟩
  · obtain ⟨h73, h99, h100, ha⟩ := h c
    obtain ⟨e0, e1, e2, e3, e4, e5, e6, e7, e8, e9, e10, e11, e12, e13, e14, e15, e16, e17, e18, e19⟩ := hag c
    have k73 := h73.trans (Cert.MergeRefIdeal.Read.val_main_v73_eq (F := Ideal) _ _)
    have k99 := h99.trans (Cert.MergeRefIdeal.Read.val_main_v99_eq (F := Ideal) _ _)
    have k100 := h100.trans (Cert.MergeRefIdeal.Read.val_main_v100_eq (F := Ideal) _ _)
    rw [e0, e1, e2, e3, e4, e5, e6, e7, e8, e9, e10, e11, e12, e13, e14, e15, e16, e17] at k73
    rw [e0, e1, e2, e3, e4, e5, e6, e7, e8, e9, e10, e11, e12, e13, e14, e15, e16, e17, e18] at k99
    rw [e0, e1, e2, e3, e4, e5, e6, e7, e8, e9, e10, e11, e12, e13, e14, e15, e16, e17, e18, e19] at k100
    exact ⟨k73, k99, k100, ha⟩

end Merge

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Read
public import proofs.«01_k».proof.Proof.Gen.Ffn
public import proofs.«01_k».proof.Proof.Gen.Ffn.Frame
public import proofs.«01_k».proof.Proof.Gen.Ffn.Skeleton
public import proofs.«01_k».proof.Proof.Gen.FfnIdeal
public import proofs.«01_k».proof.Proof.Gen.FfnIdeal.Frame
public import proofs.«01_k».proof.Proof.Gen.FfnIdeal.Skeleton
public import proofs.«01_k».proof.Proof.Gen.FfnRefIdeal
public import proofs.«01_k».proof.Proof.Gen.FfnRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.Pre_finite
public import proofs.«01_k».proof.Proof.Gen.Final
public import proofs.«01_k».proof.Proof.Gen.Final.Frame
public import proofs.«01_k».proof.Proof.Gen.Final.Skeleton
public import proofs.«01_k».proof.Proof.Gen.FinalIdeal
public import proofs.«01_k».proof.Proof.Gen.FinalIdeal.Frame
public import proofs.«01_k».proof.Proof.Gen.FinalIdeal.Skeleton
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.MemKv
public import proofs.«01_k».proof.Proof.Gen.MemKv.Frame
public import proofs.«01_k».proof.Proof.Gen.MemKv.Skeleton
public import proofs.«01_k».proof.Proof.Gen.MemKvIdeal
public import proofs.«01_k».proof.Proof.Gen.MemKvIdeal.Frame
public import proofs.«01_k».proof.Proof.Gen.MemKvIdeal.Skeleton
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.Merge
public import proofs.«01_k».proof.Proof.Gen.Merge.Frame
public import proofs.«01_k».proof.Proof.Gen.Merge.Skeleton
public import proofs.«01_k».proof.Proof.Gen.MergeIdeal
public import proofs.«01_k».proof.Proof.Gen.MergeIdeal.Frame
public import proofs.«01_k».proof.Proof.Gen.MergeIdeal.Skeleton
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MergeIdeal.Launch
public import proofs.«01_k».proof.Proof.Gen.Pre_finite6
public import proofs.«01_k».proof.Proof.Refs
public import proofs.«01_k».proof.Proof.InProj
public import proofs.«01_k».proof.Proof.Attn.Value
public import proofs.«01_k».proof.Proof.Ffn.Same
public import proofs.«01_k».proof.Proof.Ffn.Value
public import proofs.«01_k».proof.Proof.FinalNorm
public import proofs.«01_k».proof.Proof.MemKv
public import proofs.«01_k».proof.Proof.Merge.Same
public import proofs.«01_k».proof.Proof.Merge.Value

@[expose] public section

noncomputable section

namespace Cert.Proof

open Idealize.ShloMosaic Idealize.SL.Sem

/-- The one rewrite of the attention's idealization: the named constant `mask` read as −∞. -/
theorem preservesAttn : Cert.preserves_Attn_AttnIdeal :=
  IdealRules.named_const.statement Cert.AttnIdeal.κ "mask" .f32 0xF149F2CA#32 ⊥ rfl

/-- The one rewrite of the merge's idealization: the same constant, masking the router's unused lanes, read as −∞. -/
theorem preservesMerge : Cert.preserves_Merge_MergeIdeal :=
  IdealRules.named_const.statement Cert.MergeIdeal.κ "mask" .f32 0xF149F2CA#32 ⊥ rfl

/-- Everything the certificate claims. -/
theorem claim : Cert.Claim := ⟨Cert.Attn.Gen.facts, Cert.AttnIdeal.Gen.facts, Cert.AttnRefIdeal.Gen.facts, Cert.Ffn.Gen.facts, Cert.FfnIdeal.Gen.facts,
  Cert.FfnRefIdeal.Gen.facts, Cert.InProj.Gen.facts, Cert.InProjIdeal.Gen.facts, Cert.InProjRefIdeal.Gen.facts,
  Cert.Final.Gen.facts, Cert.FinalIdeal.Gen.facts, Cert.FinalRefIdeal.Gen.facts, Cert.MemKv.Gen.facts, Cert.MemKvIdeal.Gen.facts,
  Cert.MemKvRefIdeal.Gen.facts, Cert.Merge.Gen.facts, Cert.MergeIdeal.Gen.facts, Cert.MergeRefIdeal.Gen.facts, Cert.Pre_finite.Gen.facts, Cert.Pre_finite6.Gen.facts,
  fun m ρ _ => Cert.Attn.Gen.frame m ρ, fun m ρ _ => Cert.AttnIdeal.Gen.frame m ρ, fun m ρ _ => Cert.AttnIdeal.Gen.frame m ρ, Refs.attn, fun m ρ _ => Refs.attn m ρ trivial,
  _root_.Ffn.bits_frame, fun m ρ _ => _root_.Ffn.frame m ρ, Refs.ffn,
  fun m ρ _ => Cert.InProj.Gen.frame m ρ, fun m ρ _ => Cert.InProjIdeal.Gen.frame m ρ, Refs.inProj,
  fun m ρ _ => Cert.Final.Gen.frame m ρ, fun m ρ _ => Cert.FinalIdeal.Gen.frame m ρ, Refs.final,
  fun m ρ _ => Cert.MemKv.Gen.frame m ρ, fun m ρ _ => Cert.MemKvIdeal.Gen.frame m ρ, Refs.memKv,
  _root_.Merge.bits_frame, fun m ρ _ => _root_.Merge.frame m ρ, fun m ρ _ => _root_.Merge.frame m ρ, Refs.merge, fun m ρ _ => Refs.merge m ρ trivial,
  preservesAttn, Attn.algebraic, trivial, _root_.Ffn.algebraic, trivial, InProj.algebraic,
  trivial, FinalNorm.algebraic, trivial, MemKv.algebraic,
  preservesMerge, _root_.Merge.algebraic⟩

end Cert.Proof

end
